-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v8_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v1_0)) (v4 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v1_0) = v3 c
          ∧ r.2.mem ((c.tc : Thread Cert.Kernel2Ideal.nD Cert.Kernel2Ideal.τ).loc Cert.Kernel2Ideal.main_v1_1) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v17) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_v37) = v1 c
          ∧ r.2.mem ((c.tc : Thread Cert.Reference7Ideal.nD Cert.Reference7Ideal.τ).loc Cert.Reference7Ideal.main_v21) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v2_0)) (v3 : (c : Dev Cert.Kernel8Ideal.nD) → Buf (Elt Ideal) ((c.tc : Thread Cert.Kernel8Ideal.nD Cert.Kernel8Ideal.τ).loc Cert.Kernel8Ideal.main_v2_1)) (v4 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v2_0) = v2 c
          ∧ r.2.mem ((c.tc : Thread Cert.Kernel8Ideal.nD Cert.Kernel8Ideal.τ).loc Cert.Kernel8Ideal.main_v2_1) = v3 c
          ∧ r.2.mem ((c.tc : Thread Cert.Kernel8Ideal.nD Cert.Kernel8Ideal.τ).loc Cert.Kernel8Ideal.main_v3) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_v22) = v2 c
          ∧ r.2.mem ((c.tc : Thread Cert.Reference8Ideal.nD Cert.Reference8Ideal.τ).loc Cert.Reference8Ideal.main_v23) = v3 c
          ∧ r.2.mem ((c.tc : Thread Cert.Reference8Ideal.nD Cert.Reference8Ideal.τ).loc Cert.Reference8Ideal.main_v24) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)) (v1 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_v1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v6) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x3072 : Shape := ⟨2, ![8192, 3072]⟩
abbrev S8192x4096 : Shape := ⟨2, ![8192, 4096]⟩
abbrev S8192x2048 : Shape := ⟨2, ![8192, 2048]⟩
abbrev S_ : Shape := ⟨0, ![]⟩

class Facts : Prop where
  bitsLt_bf16_f32 : FTy.bits .bf16 < FTy.bits .f32
  bcast_S_S8192x3072 : S_.BroadcastsInDim S8192x3072 (![] : Fin 0 → Fin S8192x3072.rank)
  bcast_S_S8192x4096 : S_.BroadcastsInDim S8192x4096 (![] : Fin 0 → Fin S8192x4096.rank)
  bcast_S_S8192x2048 : S_.BroadcastsInDim S8192x2048 (![] : Fin 0 → Fin S8192x2048.rank)

variable [Facts]

def fn {F : FTy → Type} [FloatOps F] (main_arg0 : FVec F S8192x3072 .bf16) (main_arg1 : FVec F S8192x3072 .bf16) (main_arg2 : FVec F S8192x4096 .bf16) (main_arg3 : FVec F S8192x2048 .bf16) : IVec S8192x3072 1 × IVec S8192x3072 1 × IVec S8192x4096 1 × IVec S8192x2048 1 :=
  let main_v0 : FVec F S8192x3072 .f32 := (extf .f32 · bitsLt_bf16_f32) main_arg0
  let main_v1 : FVec F S8192x3072 .f32 := Host.absf main_v0
  let main_cst : FVec F S_ .f32 := constant S_ .f32 0x7F800000#32
  let main_v2 : FVec F S8192x3072 .f32 := broadcastInDim S8192x3072 ![] bcast_S_S8192x3072 main_cst
  let main_v3 : IVec S8192x3072 1 := cmpf .olt main_v1 main_v2
  let main_v4 : FVec F S8192x3072 .f32 := (extf .f32 · bitsLt_bf16_f32) main_arg1
  let main_v5 : FVec F S8192x3072 .f32 := Host.absf main_v4
  let main_cst_0 : FVec F S_ .f32 := constant S_ .f32 0x7F800000#32
  let main_v6 : FVec F S8192x3072 .f32 := broadcastInDim S8192x3072 ![] bcast_S_S8192x3072 main_cst_0
  let main_v7 : IVec S8192x3072 1 := cmpf .olt main_v5 main_v6
  let main_v8 : FVec F S8192x4096 .f32 := (extf .f32 · bitsLt_bf16_f32) main_arg2
  let main_v9 : FVec F S8192x4096 .f32 := Host.absf main_v8
  let main_cst_1 : FVec F S_ .f32 := constant S_ .f32 0x7F800000#32
  let main_v10 : FVec F S8192x4096 .f32 := broadcastInDim S8192x4096 ![] bcast_S_S8192x4096 main_cst_1
  let main_v11 : IVec S8192x4096 1 := cmpf .olt main_v9 main_v10
  let main_v12 : FVec F S8192x2048 .f32 := (extf .f32 · bitsLt_bf16_f32) main_arg3
  let main_v13 : FVec F S8192x2048 .f32 := Host.absf main_v12
  let main_cst_2 : FVec F S_ .f32 := constant S_ .f32 0x7F800000#32
  let main_v14 : FVec F S8192x2048 .f32 := broadcastInDim S8192x2048 ![] bcast_S_S8192x2048 main_cst_2
  let main_v15 : IVec S8192x2048 1 := cmpf .olt main_v13 main_v14
  (main_v3, main_v7, main_v11, main_v15)
-- ==== Pre_finite2.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn_part1 {F : FTy → Type} [FloatOps F] (main_v3 : IVec S8192x2048 1) (main_v7 : IVec S2048x5632 1) (main_v11 : IVec S2048x5632 1) (main_v15 : IVec S5632x2048 1) (main_v17 : FVec F S8192x2048 .f32) (main_v18 : FVec F S8192x2048 .f32) : IVec S8192x2048 1 × IVec S2048x5632 1 × IVec S2048x5632 1 × IVec S5632x2048 1 × IVec S8192x2048 1 :=
  let main_v19 : IVec S8192x2048 1 := cmpf .olt main_v17 main_v18
  (main_v3, main_v7, main_v11, main_v15, main_v19)

def fn {F : FTy → Type} [FloatOps F] (main_arg0 : FVec F S8192x2048 .bf16) (main_arg1 : FVec F S2048x5632 .bf16) (main_arg2 : FVec F S2048x5632 .bf16) (main_arg3 : FVec F S5632x2048 .bf16) (main_arg4 : FVec F S8192x2048 .bf16) : IVec S8192x2048 1 × IVec S2048x5632 1 × IVec S2048x5632 1 × IVec S5632x2048 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S2048x5632 .f32 := (extf .f32 · bitsLt_bf16_f32) main_arg1
  let main_v5 : FVec F S2048x5632 .f32 := Host.absf main_v4
  let main_cst_0 : FVec F S_ .f32 := constant S_ .f32 0x7F800000#32
  let main_v6 : FVec F S2048x5632 .f32 := broadcastInDim S2048x5632 ![] bcast_S_S2048x5632 main_cst_0
  let main_v7 : IVec S2048x5632 1 := cmpf .olt main_v5 main_v6
  let main_v8 : FVec F S2048x5632 .f32 := (extf .f32 · bitsLt_bf16_f32) main_arg2
  let main_v9 : FVec F S2048x5632 .f32 := Host.absf main_v8
  let main_cst_1 : FVec F S_ .f32 := constant S_ .f32 0x7F800000#32
  let main_v10 : FVec F S2048x5632 .f32 := broadcastInDim S2048x5632 ![] bcast_S_S2048x5632 main_cst_1
  let main_v11 : IVec S2048x5632 1 := cmpf .olt main_v9 main_v10
  let main_v12 : FVec F S5632x2048 .f32 := (extf .f32 · bitsLt_bf16_f32) main_arg3
  let main_v13 : FVec F S5632x2048 .f32 := Host.absf main_v12
  let main_cst_2 : FVec F S_ .f32 := constant S_ .f32 0x7F800000#32
  let main_v14 : FVec F S5632x2048 .f32 := broadcastInDim S5632x2048 ![] bcast_S_S5632x2048 main_cst_2
  let main_v15 : IVec S5632x2048 1 := cmpf .olt main_v13 main_v14
  let main_v16 : FVec F S8192x2048 .f32 := (extf .f32 · bitsLt_bf16_f32) main_arg4
  let main_v17 : FVec F S8192x2048 .f32 := Host.absf main_v16
  let main_cst_3 : FVec F S_ .f32 := constant S_ .f32 0x7F800000#32
  let main_v18 : FVec F S8192x2048 .f32 := broadcastInDim S8192x2048 ![] bcast_S_S8192x2048 main_cst_3
  fn_part1 (F := F) main_v3 main_v7 main_v11 main_v15 main_v17 main_v18
-- ==== Kernel.lean ====
abbrev S8192x3072 : Shape := ⟨2, ![8192, 3072]⟩
abbrev S8192x4096 : Shape := ⟨2, ![8192, 4096]⟩
abbrev S8192x2048 : Shape := ⟨2, ![8192, 2048]⟩
abbrev S8192x16x192 : Shape := ⟨3, ![8192, 16, 192]⟩
abbrev S_ : Shape := ⟨0, ![]⟩
abbrev S8192x16x256 : Shape := ⟨3, ![8192, 16, 256]⟩
abbrev S1024x256 : Shape := ⟨2, ![1024, 256]⟩
abbrev S8192x256 : Shape := ⟨2, ![8192, 256]⟩
abbrev S8192x128 : Shape := ⟨2, ![8192, 128]⟩
abbrev S1024x128 : Shape := ⟨2, ![1024, 128]⟩
abbrev S256x256 : Shape := ⟨2, ![256, 256]⟩
abbrev S256x8192 : Shape := ⟨2, ![256, 8192]⟩
abbrev S256x128 : Shape := ⟨2, ![256, 128]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S8192x1 : Shape := ⟨2, ![8192, 1]⟩
abbrev S8192 : Shape := ⟨1, ![8192]⟩

abbrev nBuf : Space → Nat
  | .hbm => 25
  | .vmem => 47
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8192x4096, .bf16⟩
  | .hbm, ⟨3, _⟩ => ⟨S8192x2048, .bf16⟩
  | .hbm, ⟨4, _⟩ => ⟨S8192x16x192, .bf16⟩
  | .hbm, ⟨5, _⟩ => ⟨S_, .i32⟩
  | .hbm, ⟨6, _⟩ => ⟨S_, .bf16⟩
  | .hbm, ⟨7, _⟩ => ⟨S8192x16x256, .bf16⟩
  | .hbm, ⟨8, _⟩ => ⟨S8192x4096, .bf16⟩
  | .hbm, ⟨9, _⟩ => ⟨S8192x16x192, .bf16⟩
  | .hbm, ⟨10, _⟩ => ⟨S_, .i32⟩
  | .hbm, ⟨11, _⟩ => ⟨S_, .bf16⟩
  | .hbm, ⟨12, _⟩ => ⟨S8192x16x256, .bf16⟩
  | .hbm, ⟨13, _⟩ => ⟨S8192x4096, .bf16⟩
  | .hbm, ⟨14, _⟩ => ⟨S8192x2048, .bf16⟩
  | .hbm, ⟨15, _⟩ => ⟨S8192x2048, .f32⟩
  | .hbm, ⟨16, _⟩ => ⟨S8192x4096, .bf16⟩
  | .hbm, ⟨17, _⟩ => ⟨S8192x4096, .bf16⟩
  | .hbm, ⟨18, _⟩ => ⟨S8192x2048, .bf16⟩
  | .hbm, ⟨19, _⟩ => ⟨S8192x16x256, .bf16⟩
  | .hbm, ⟨20, _⟩ => ⟨S8192x16x192, .bf16⟩
  | .hbm, ⟨21, _⟩ => ⟨S8192x3072, .bf16⟩
  | .hbm, ⟨22, _⟩ => ⟨S8192x16x256, .bf16⟩
  | .hbm, ⟨23, _⟩ => ⟨S8192x16x192, .bf16⟩
  | .hbm, ⟨24, _⟩ => ⟨S8192x3072, .bf16⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x256, .bf16⟩
  | .local _ .vmem, ⟨14, _⟩ => ⟨S1024x256, .bf16⟩
  | .local _ .vmem, ⟨15, _⟩ => ⟨S8192x256, .bf16⟩
  | .local _ .vmem, ⟨16, _⟩ => ⟨S8192x256, .bf16⟩
  | .local _ .vmem, ⟨17, _⟩ => ⟨S8192x128, .bf16⟩
  | .local _ .vmem, ⟨18, _⟩ => ⟨S8192x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .f32⟩
  | .local _ .vmem, ⟨24, _⟩ => ⟨S1024x128, .f32⟩
  | .local _ .vmem, ⟨25, _⟩ => ⟨S1024x256, .bf16⟩
  | .local _ .vmem, ⟨26, _⟩ => ⟨S1024x256, .bf16⟩
  | .local _ .vmem, ⟨27, _⟩ => ⟨S1024x256, .f32⟩
  | .local _ .vmem, ⟨28, _⟩ => ⟨S1024x128, .f32⟩
  | .local _ .vmem, ⟨29, _⟩ => ⟨S1024x256, .bf16⟩
  | .local _ .vmem, ⟨30, _⟩ => ⟨S1024x256, .bf16⟩
  | .local _ .vmem, ⟨31, _⟩ => ⟨S1024x128, .bf16⟩
  | .local _ .vmem, ⟨32, _⟩ => ⟨S1024x128, .bf16⟩
  | .local _ .vmem, ⟨33, _⟩ => ⟨S8192x256, .bf16⟩
  | .local _ .vmem, ⟨34, _⟩ => ⟨S8192x256, .bf16⟩
  | .local _ .vmem, ⟨35, _⟩ => ⟨S8192x128, .bf16⟩
  | .local _ .vmem, ⟨36, _⟩ => ⟨S8192x128, .bf16⟩
  | .local _ .vmem, ⟨37, _⟩ => ⟨S8192x128, .bf16⟩
  | .local _ .vmem, ⟨38, _⟩ => ⟨S8192x128, .bf16⟩
  | .local _ .vmem, ⟨39, _⟩ => ⟨S8192x128, .f32⟩
  | .local _ .vmem, ⟨40, _⟩ => ⟨S8192x128, .f32⟩
  | .local _ .vmem, ⟨41, _⟩ => ⟨S1024x256, .bf16⟩
  | .local _ .vmem, ⟨42, _⟩ => ⟨S1024x256, .bf16⟩
  | .local _ .vmem, ⟨43, _⟩ => ⟨S1024x128, .bf16⟩
  | .local _ .vmem, ⟨44, _⟩ => ⟨S1024x128, .bf16⟩
  | .local _ .vmem, ⟨45, _⟩ => ⟨S1024x256, .f32⟩
  | .local _ .vmem, ⟨46, _⟩ => ⟨S1024x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc1_scratch1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc2_stg4_0 : Ref sig .tc := ⟨.vmem, 37, rfl⟩
abbrev cc2_stg4_1 : Ref sig .tc := ⟨.vmem, 38, rfl⟩
abbrev cc2_stg5_0 : Ref sig .tc := ⟨.vmem, 39, rfl⟩
abbrev cc2_stg5_1 : Ref sig .tc := ⟨.vmem, 40, rfl⟩
abbrev cc2_stg6_0 : Ref sig .tc := ⟨.vmem, 41, rfl⟩
abbrev cc2_stg6_1 : Ref sig .tc := ⟨.vmem, 42, rfl⟩
abbrev cc2_stg7_0 : Ref sig .tc := ⟨.vmem, 43, rfl⟩
abbrev cc2_stg7_1 : Ref sig .tc := ⟨.vmem, 44, rfl⟩
abbrev cc2_scratch0 : Ref sig .tc := ⟨.vmem, 45, rfl⟩
abbrev cc2_scratch1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39

abbrev nD : Nat := 1
abbrev τ : Topo := Topo.v7x

variable {F : FTy → Type} [FloatOps F]

abbrev grid0 : Pipeline.Grid := ⟨4, ![1, 16, 8, 1], ![false, false, false, false]⟩

def k0_cond2 (i : grid0.Coords) : BitVec 1 :=
  let arg3 : BitVec 32 := BitVec.ofNat 32 (i 3).val
  let c0_i32_76 : BitVec 32 := 0#32
  let v150 : BitVec 1 := Scalar.cmpi .eq arg3 c0_i32_76
  let v151 : BitVec 32 := Scalar.extui v150
  let c0_i32_77 : BitVec 32 := 0#32
  let v152 : BitVec 1 := Scalar.cmpi .ne v151 c0_i32_77
  v152

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c0_i32 : BitVec 32 := 0#32
  let v1 : BitVec 32 := Scalar.addi v0 c0_i32
  let v2 : BitVec 32 := Scalar.addi v1 arg1
  let c0_i32_0 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c0_i32 : BitVec 32 := 0#32
  let v1 : BitVec 32 := Scalar.addi v0 c0_i32
  let c1_i32 : BitVec 32 := 1#32
  let v2 : BitVec 32 := Scalar.divsi arg1 c1_i32
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi arg1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let v19 : BitVec 32 := Scalar.addi v1 v18
  let c0_i32_6 : BitVec 32 := 0#32
  ![arg3.toNat, v19.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg0 c32_i32
  let c1_i32 : BitVec 32 := 1#32
  let v1 : BitVec 32 := Scalar.addi v0 c1_i32
  let c1_i32_0 : BitVec 32 := 1#32
  let v2 : BitVec 32 := Scalar.divsi arg1 c1_i32_0
  let c0_i32 : BitVec 32 := 0#32
  let v3 : BitVec 1 := Scalar.cmpi .sgt arg1 c0_i32
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c1_i32_0 c0_i32_2
  let v9 : BitVec 32 := Scalar.extui v8
  let c0_i32_3 : BitVec 32 := 0#32
  let v10 : BitVec 1 := Scalar.cmpi .slt c1_i32_0 c0_i32_3
  let v11 : BitVec 32 := Scalar.extui v10
  let v12 : BitVec 32 := Scalar.subi v9 v11
  let v13 : BitVec 1 := Scalar.cmpi .ne v7 v12
  let v14 : BitVec 32 := Scalar.remsi arg1 c1_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.muli c2_i32 v18
  let v20 : BitVec 32 := Scalar.addi v1 v19
  let c0_i32_6 : BitVec 32 := 0#32
  ![arg3.toNat, v20.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg1
  let c0_i32 : BitVec 32 := 0#32
  ![arg2.toNat, v1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev grid1 : Pipeline.Grid := ⟨4, ![1, 16, 8, 1], ![false, false, false, false]⟩

def k1_cond2 (i : grid1.Coords) : BitVec 1 :=
  let arg3 : BitVec 32 := BitVec.ofNat 32 (i 3).val
  let c0_i32_68 : BitVec 32 := 0#32
  let v106 : BitVec 1 := Scalar.cmpi .eq arg3 c0_i32_68
  let v107 : BitVec 32 := Scalar.extui v106
  let c0_i32_69 : BitVec 32 := 0#32
  let v108 : BitVec 1 := Scalar.cmpi .ne v107 c0_i32_69
  v108

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c0_i32 : BitVec 32 := 0#32
  let v1 : BitVec 32 := Scalar.addi v0 c0_i32
  let v2 : BitVec 32 := Scalar.addi v1 arg1
  let c0_i32_0 : BitVec 32 := 0#32
  ![arg2.toNat, v2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c0_i32 : BitVec 32 := 0#32
  let v1 : BitVec 32 := Scalar.addi v0 c0_i32
  let c1_i32 : BitVec 32 := 1#32
  let v2 : BitVec 32 := Scalar.divsi arg1 c1_i32
  let c0_i32_0 : BitVec 32 := 0#32
  let v3 : BitVec 1 := Scalar.cmpi .sgt arg1 c0_i32_0
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c1_i32 c0_i32_2
  let v9 : BitVec 32 := Scalar.extui v8
  let c0_i32_3 : BitVec 32 := 0#32
  let v10 : BitVec 1 := Scalar.cmpi .slt c1_i32 c0_i32_3
  let v11 : BitVec 32 := Scalar.extui v10
  let v12 : BitVec 32 := Scalar.subi v9 v11
  let v13 : BitVec 1 := Scalar.cmpi .ne v7 v12
  let v14 : BitVec 32 := Scalar.remsi arg1 c1_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let v19 : BitVec 32 := Scalar.addi v1 v18
  let c0_i32_6 : BitVec 32 := 0#32
  ![arg3.toNat, v19.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg0 c32_i32
  let c1_i32 : BitVec 32 := 1#32
  let v1 : BitVec 32 := Scalar.addi v0 c1_i32
  let c1_i32_0 : BitVec 32 := 1#32
  let v2 : BitVec 32 := Scalar.divsi arg1 c1_i32_0
  let c0_i32 : BitVec 32 := 0#32
  let v3 : BitVec 1 := Scalar.cmpi .sgt arg1 c0_i32
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c1_i32_0 c0_i32_2
  let v9 : BitVec 32 := Scalar.extui v8
  let c0_i32_3 : BitVec 32 := 0#32
  let v10 : BitVec 1 := Scalar.cmpi .slt c1_i32_0 c0_i32_3
  let v11 : BitVec 32 := Scalar.extui v10
  let v12 : BitVec 32 := Scalar.subi v9 v11
  let v13 : BitVec 1 := Scalar.cmpi .ne v7 v12
  let v14 : BitVec 32 := Scalar.remsi arg1 c1_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c2_i32 : BitVec 32 := 2#32
  let v19 : BitVec 32 := Scalar.muli c2_i32 v18
  let v20 : BitVec 32 := Scalar.addi v1 v19
  let c0_i32_6 : BitVec 32 := 0#32
  ![arg3.toNat, v20.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg1
  let c0_i32 : BitVec 32 := 0#32
  ![arg2.toNat, v1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg1
  let c0_i32 : BitVec 32 := 0#32
  ![arg2.toNat, v1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg1
  let c0_i32 : BitVec 32 := 0#32
  ![arg2.toNat, v1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg1
  let c0_i32 : BitVec 32 := 0#32
  ![arg2.toNat, v1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, false]

abbrev stage1_1 : Fin 2 → Memref sig .tc .vmem S8192x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false, true]

abbrev stage1_2 : Fin 2 → Memref sig .tc .vmem S8192x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, false]

abbrev stage1_4 : Fin 2 → Memref sig .tc .vmem S1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true, false]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true, false]

abbrev grid2 : Pipeline.Grid := ⟨4, ![1, 16, 8, 1], ![false, false, false, false]⟩

def k2_cond2 (i : grid2.Coords) : BitVec 1 :=
  let arg3 : BitVec 32 := BitVec.ofNat 32 (i 3).val
  let c0_i32_77 : BitVec 32 := 0#32
  let v131 : BitVec 1 := Scalar.cmpi .eq arg3 c0_i32_77
  let v132 : BitVec 32 := Scalar.extui v131
  let c0_i32_78 : BitVec 32 := 0#32
  let v133 : BitVec 1 := Scalar.cmpi .ne v132 c0_i32_78
  v133

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c0_i32 : BitVec 32 := 0#32
  let v1 : BitVec 32 := Scalar.addi v0 c0_i32
  let v2 : BitVec 32 := Scalar.addi v1 arg1
  let c0_i32_0 : BitVec 32 := 0#32
  ![arg2.toNat, v2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg0 c32_i32
  let c1_i32 : BitVec 32 := 1#32
  let v1 : BitVec 32 := Scalar.addi v0 c1_i32
  let c2_i32 : BitVec 32 := 2#32
  let v2 : BitVec 32 := Scalar.muli c2_i32 arg1
  let v3 : BitVec 32 := Scalar.addi v1 v2
  let c0_i32 : BitVec 32 := 0#32
  ![arg2.toNat, v3.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg3 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli arg0 c16_i32
  let c0_i32_4 : BitVec 32 := 0#32
  let v11 : BitVec 32 := Scalar.addi v10 c0_i32_4
  let c1_i32_5 : BitVec 32 := 1#32
  let v12 : BitVec 32 := Scalar.muli arg1 c1_i32_5
  let v13 : BitVec 32 := Scalar.addi v11 v12
  let c1_i32_6 : BitVec 32 := 1#32
  let v14 : BitVec 32 := Scalar.divsi arg3 c1_i32_6
  let c0_i32_7 : BitVec 32 := 0#32
  let v15 : BitVec 1 := Scalar.cmpi .sgt arg3 c0_i32_7
  let v16 : BitVec 32 := Scalar.extui v15
  let c0_i32_8 : BitVec 32 := 0#32
  let v17 : BitVec 1 := Scalar.cmpi .slt arg3 c0_i32_8
  let v18 : BitVec 32 := Scalar.extui v17
  let v19 : BitVec 32 := Scalar.subi v16 v18
  let c0_i32_9 : BitVec 32 := 0#32
  let v20 : BitVec 1 := Scalar.cmpi .sgt c1_i32_6 c0_i32_9
  let v21 : BitVec 32 := Scalar.extui v20
  let c0_i32_10 : BitVec 32 := 0#32
  let v22 : BitVec 1 := Scalar.cmpi .slt c1_i32_6 c0_i32_10
  let v23 : BitVec 32 := Scalar.extui v22
  let v24 : BitVec 32 := Scalar.subi v21 v23
  let v25 : BitVec 1 := Scalar.cmpi .ne v19 v24
  let v26 : BitVec 32 := Scalar.remsi arg3 c1_i32_6
  let c0_i32_11 : BitVec 32 := 0#32
  let v27 : BitVec 1 := Scalar.cmpi .ne v26 c0_i32_11
  let v28 : BitVec 1 := Scalar.andi v25 v27
  let c1_i32_12 : BitVec 32 := 1#32
  let v29 : BitVec 32 := Scalar.subi v14 c1_i32_12
  let v30 : BitVec 32 := Scalar.select v28 v29 v14
  let v31 : BitVec 32 := Scalar.addi v13 v30
  let c0_i32_13 : BitVec 32 := 0#32
  ![v9.toNat, v31.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg3 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli arg0 c16_i32
  let c1_i32_4 : BitVec 32 := 1#32
  let v11 : BitVec 32 := Scalar.muli arg1 c1_i32_4
  let v12 : BitVec 32 := Scalar.addi v10 v11
  let c1_i32_5 : BitVec 32 := 1#32
  let v13 : BitVec 32 := Scalar.divsi arg3 c1_i32_5
  let c0_i32_6 : BitVec 32 := 0#32
  let v14 : BitVec 1 := Scalar.cmpi .sgt arg3 c0_i32_6
  let v15 : BitVec 32 := Scalar.extui v14
  let c0_i32_7 : BitVec 32 := 0#32
  let v16 : BitVec 1 := Scalar.cmpi .slt arg3 c0_i32_7
  let v17 : BitVec 32 := Scalar.extui v16
  let v18 : BitVec 32 := Scalar.subi v15 v17
  let c0_i32_8 : BitVec 32 := 0#32
  let v19 : BitVec 1 := Scalar.cmpi .sgt c1_i32_5 c0_i32_8
  let v20 : BitVec 32 := Scalar.extui v19
  let c0_i32_9 : BitVec 32 := 0#32
  let v21 : BitVec 1 := Scalar.cmpi .slt c1_i32_5 c0_i32_9
  let v22 : BitVec 32 := Scalar.extui v21
  let v23 : BitVec 32 := Scalar.subi v20 v22
  let v24 : BitVec 1 := Scalar.cmpi .ne v18 v23
  let v25 : BitVec 32 := Scalar.remsi arg3 c1_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let v30 : BitVec 32 := Scalar.addi v12 v29
  let c0_i32_12 : BitVec 32 := 0#32
  ![v9.toNat, v30.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg3 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli arg0 c16_i32
  let c1_i32_4 : BitVec 32 := 1#32
  let v11 : BitVec 32 := Scalar.muli arg1 c1_i32_4
  let v12 : BitVec 32 := Scalar.addi v10 v11
  let c1_i32_5 : BitVec 32 := 1#32
  let v13 : BitVec 32 := Scalar.divsi arg3 c1_i32_5
  let c0_i32_6 : BitVec 32 := 0#32
  let v14 : BitVec 1 := Scalar.cmpi .sgt arg3 c0_i32_6
  let v15 : BitVec 32 := Scalar.extui v14
  let c0_i32_7 : BitVec 32 := 0#32
  let v16 : BitVec 1 := Scalar.cmpi .slt arg3 c0_i32_7
  let v17 : BitVec 32 := Scalar.extui v16
  let v18 : BitVec 32 := Scalar.subi v15 v17
  let c0_i32_8 : BitVec 32 := 0#32
  let v19 : BitVec 1 := Scalar.cmpi .sgt c1_i32_5 c0_i32_8
  let v20 : BitVec 32 := Scalar.extui v19
  let c0_i32_9 : BitVec 32 := 0#32
  let v21 : BitVec 1 := Scalar.cmpi .slt c1_i32_5 c0_i32_9
  let v22 : BitVec 32 := Scalar.extui v21
  let v23 : BitVec 32 := Scalar.subi v20 v22
  let v24 : BitVec 1 := Scalar.cmpi .ne v18 v23
  let v25 : BitVec 32 := Scalar.remsi arg3 c1_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let v30 : BitVec 32 := Scalar.addi v12 v29
  let c0_i32_12 : BitVec 32 := 0#32
  ![v9.toNat, v30.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg3 v1
  let c0_i32_1 : BitVec 32 := 0#32
  let v3 : BitVec 1 := Scalar.cmpi .ne v2 c0_i32_1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli arg0 c16_i32
  let c1_i32_4 : BitVec 32 := 1#32
  let v11 : BitVec 32 := Scalar.muli arg1 c1_i32_4
  let v12 : BitVec 32 := Scalar.addi v10 v11
  let c1_i32_5 : BitVec 32 := 1#32
  let v13 : BitVec 32 := Scalar.divsi arg3 c1_i32_5
  let c0_i32_6 : BitVec 32 := 0#32
  let v14 : BitVec 1 := Scalar.cmpi .sgt arg3 c0_i32_6
  let v15 : BitVec 32 := Scalar.extui v14
  let c0_i32_7 : BitVec 32 := 0#32
  let v16 : BitVec 1 := Scalar.cmpi .slt arg3 c0_i32_7
  let v17 : BitVec 32 := Scalar.extui v16
  let v18 : BitVec 32 := Scalar.subi v15 v17
  let c0_i32_8 : BitVec 32 := 0#32
  let v19 : BitVec 1 := Scalar.cmpi .sgt c1_i32_5 c0_i32_8
  let v20 : BitVec 32 := Scalar.extui v19
  let c0_i32_9 : BitVec 32 := 0#32
  let v21 : BitVec 1 := Scalar.cmpi .slt c1_i32_5 c0_i32_9
  let v22 : BitVec 32 := Scalar.extui v21
  let v23 : BitVec 32 := Scalar.subi v20 v22
  let v24 : BitVec 1 := Scalar.cmpi .ne v18 v23
  let v25 : BitVec 32 := Scalar.remsi arg3 c1_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let v30 : BitVec 32 := Scalar.addi v12 v29
  let c0_i32_12 : BitVec 32 := 0#32
  ![v9.toNat, v30.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg1
  let c0_i32 : BitVec 32 := 0#32
  ![arg2.toNat, v1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg1
  let c0_i32 : BitVec 32 := 0#32
  ![arg2.toNat, v1.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true, false]

abbrev stage2_2 : Fin 2 → Memref sig .tc .vmem S8192x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false, true]

abbrev stage2_3 : Fin 2 → Memref sig .tc .vmem S8192x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false, true]

abbrev stage2_4 : Fin 2 → Memref sig .tc .vmem S8192x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false, true]

abbrev stage2_5 : Fin 2 → Memref sig .tc .vmem S8192x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false, true]

abbrev stage2_6 : Fin 2 → Memref sig .tc .vmem S1024x256 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true, false]

abbrev stage2_7 : Fin 2 → Memref sig .tc .vmem S1024x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, true, false]
-- ==== ReferenceIdeal.lean ====
abbrev S8192x3072 : Shape := ⟨2, ![8192, 3072]⟩
abbrev S8192x4096 : Shape := ⟨2, ![8192, 4096]⟩
abbrev S8192x2048 : Shape := ⟨2, ![8192, 2048]⟩
abbrev S8192x16x192 : Shape := ⟨3, ![8192, 16, 192]⟩
abbrev S8192x16x256 : Shape := ⟨3, ![8192, 16, 256]⟩
abbrev S8192x16x128 : Shape := ⟨3, ![8192, 16, 128]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x128x8192 : Shape := ⟨3, ![16, 128, 8192]⟩
abbrev S16x8192x192 : Shape := ⟨3, ![16, 8192, 192]⟩

abbrev nBuf : Space → Nat
  | .hbm => 90
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .bf16⟩
  | .hbm, ⟨2, _⟩ => ⟨S8192x4096, .bf16⟩
  | .hbm, ⟨3, _⟩ => ⟨S8192x2048, .bf16⟩
  | .hbm, ⟨4, _⟩ => ⟨S8192x3072, .f32⟩
  | .hbm, ⟨5, _⟩ => ⟨S8192x16x192, .f32⟩
  | .hbm, ⟨6, _⟩ => ⟨S8192x3072, .f32⟩
  | .hbm, ⟨7, _⟩ => ⟨S8192x16x192, .f32⟩
  | .hbm, ⟨8, _⟩ => ⟨S8192x4096, .f32⟩
  | .hbm, ⟨9, _⟩ => ⟨S8192x16x256, .f32⟩
  | .hbm, ⟨10, _⟩ => ⟨S8192x16x128, .f32⟩
  | .hbm, ⟨11, _⟩ => ⟨S8192x2048, .f32⟩
  | .hbm, ⟨12, _⟩ => ⟨S8192x16x128, .f32⟩
  | .hbm, ⟨13, _⟩ => ⟨S16x8192x8192, .f32⟩
  | .hbm, ⟨14, _⟩ => ⟨S_, .f32⟩
  | .hbm, ⟨15, _⟩ => ⟨S16x8192x8192, .f32⟩
  | .hbm, ⟨16, _⟩ => ⟨S16x8192x8192, .f32⟩
  | .hbm, ⟨17, _⟩ => ⟨S_, .f32⟩
  | .hbm, ⟨18, _⟩ => ⟨S16x8192, .f32⟩
  | .hbm, ⟨19, _⟩ => ⟨S16x8192x1, .f32⟩
  | .hbm, ⟨20, _⟩ => ⟨S16x8192x8192, .f32⟩
  | .hbm, ⟨21, _⟩ => ⟨S16x8192x8192, .i1⟩
  | .hbm, ⟨22, _⟩ => ⟨S16x8192x8192, .f32⟩
  | .hbm, ⟨23, _⟩ => ⟨S_, .f32⟩
  | .hbm, ⟨24, _⟩ => ⟨S16x8192, .f32⟩
  | .hbm, ⟨25, _⟩ => ⟨S_, .f32⟩
  | .hbm, ⟨26, _⟩ => ⟨S16x8192, .f32⟩
  | .hbm, ⟨27, _⟩ => ⟨S16x8192, .f32⟩
  | .hbm, ⟨28, _⟩ => ⟨S_, .f32⟩
  | .hbm, ⟨29, _⟩ => ⟨S16x8192, .f32⟩
  | .hbm, ⟨30, _⟩ => ⟨S16x8192, .i1⟩
  | .hbm, ⟨31, _⟩ => ⟨S_, .f32⟩
  | .hbm, ⟨32, _⟩ => ⟨S16x8192, .f32⟩
  | .hbm, ⟨33, _⟩ => ⟨S16x8192, .i1⟩
  | .hbm, ⟨34, _⟩ => ⟨S_, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S_, .f32⟩
  | .hbm, ⟨39, _⟩ => ⟨S16x8192, .f32⟩
  | .hbm, ⟨40, _⟩ => ⟨S16x8192, .f32⟩
  | .hbm, ⟨41, _⟩ => ⟨S16x8192, .f32⟩
  | .hbm, ⟨42, _⟩ => ⟨S16x8192x1, .f32⟩
  | .hbm, ⟨43, _⟩ => ⟨S16x8192x8192, .f32⟩
  | .hbm, ⟨44, _⟩ => ⟨S16x8192x8192, .f32⟩
  | .hbm, ⟨45, _⟩ => ⟨S16x8192x8192, .f32⟩
  | .hbm, ⟨46, _⟩ => ⟨S_, .f32⟩
  | .hbm, ⟨47, _⟩ => ⟨S16x8192, .f32⟩
  | .hbm, ⟨48, _⟩ => ⟨S16x8192x1, .f32⟩
  | .hbm, ⟨49, _⟩ => ⟨S16x8192x8192, .f32⟩
  | .hbm, ⟨50, _⟩ => ⟨S16x8192x8192, .f32⟩
  | .hbm, ⟨51, _⟩ => ⟨S16x8192x1, .f32⟩
  | .hbm, ⟨52, _⟩ => ⟨S_, .f32⟩
  | .hbm, ⟨53, _⟩ => ⟨S16x8192x1, .f32⟩
  | .hbm, ⟨54, _⟩ => ⟨S16x8192x1, .f32⟩
  | .hbm, ⟨55, _⟩ => ⟨S16x128x8192, .f32⟩
  | .hbm, ⟨56, _⟩ => ⟨S8192x16x128, .f32⟩
  | .hbm, ⟨57, _⟩ => ⟨S16x128x8192, .f32⟩
  | .hbm, ⟨58, _⟩ => ⟨S16x8192x8192, .f32⟩
  | .hbm, ⟨59, _⟩ => ⟨S16x128x8192, .f32⟩
  | .hbm, ⟨60, _⟩ => ⟨S8192x16x128, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S_, .f32⟩
  | .hbm, ⟨65, _⟩ => ⟨S16x8192, .f32⟩
  | .hbm, ⟨66, _⟩ => ⟨S16x8192x1, .f32⟩
  | .hbm, ⟨67, _⟩ => ⟨S16x8192x1, .f32⟩
  | .hbm, ⟨68, _⟩ => ⟨S16x8192x8192, .f32⟩
  | .hbm, ⟨69, _⟩ => ⟨S16x8192x8192, .f32⟩
  | .hbm, ⟨70, _⟩ => ⟨S_, .f32⟩
  | .hbm, ⟨71, _⟩ => ⟨S16x8192, .f32⟩
  | .hbm, ⟨72, _⟩ => ⟨S16x8192x8192, .f32⟩
  | .hbm, ⟨73, _⟩ => ⟨S16x8192x8192, .f32⟩
  | .hbm, ⟨74, _⟩ => ⟨S16x8192x8192, .f32⟩
  | .hbm, ⟨75, _⟩ => ⟨S_, .f32⟩
  | .hbm, ⟨76, _⟩ => ⟨S16x8192x8192, .f32⟩
  | .hbm, ⟨77, _⟩ => ⟨S16x8192x8192, .f32⟩
  | .hbm, ⟨78, _⟩ => ⟨S16x8192x192, .f32⟩
  | .hbm, ⟨79, _⟩ => ⟨S8192x16x192, .f32⟩
  | .hbm, ⟨80, _⟩ => ⟨S16x8192x192, .f32⟩
  | .hbm, ⟨81, _⟩ => ⟨S8192x16x192, .f32⟩
  | .hbm, ⟨82, _⟩ => ⟨S8192x2048, .f32⟩
  | .hbm, ⟨83, _⟩ => ⟨S8192x2048, .bf16⟩
  | .hbm, ⟨84, _⟩ => ⟨S8192x3072, .f32⟩
  | .hbm, ⟨85, _⟩ => ⟨S8192x3072, .bf16⟩
  | .hbm, ⟨86, _⟩ => ⟨S8192x3072, .f32⟩
  | .hbm, ⟨87, _⟩ => ⟨S8192x3072, .bf16⟩
  | .hbm, ⟨88, _⟩ => ⟨S8192x2048, .f32⟩
  | .hbm, ⟨89, _⟩ => ⟨S8192x2048, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Kernel2.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S512x2048 : Shape := ⟨2, ![512, 2048]⟩
abbrev S2048x1408 : Shape := ⟨2, ![2048, 1408]⟩
abbrev S512x1408 : Shape := ⟨2, ![512, 1408]⟩
abbrev S1408x2048 : Shape := ⟨2, ![1408, 2048]⟩

abbrev nBuf : Space → Nat
  | .hbm => 10
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8192x2048, .bf16⟩
  | .hbm, ⟨5, _⟩ => ⟨S8192x5632, .bf16⟩
  | .hbm, ⟨6, _⟩ => ⟨S8192x5632, .bf16⟩
  | .hbm, ⟨7, _⟩ => ⟨S8192x5632, .bf16⟩
  | .hbm, ⟨8, _⟩ => ⟨S8192x5632, .bf16⟩
  | .hbm, ⟨9, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x2048, .bf16⟩
  | .local _ .vmem, ⟨13, _⟩ => ⟨S512x2048, .bf16⟩
  | .local _ .vmem, ⟨14, _⟩ => ⟨S1408x2048, .bf16⟩
  | .local _ .vmem, ⟨15, _⟩ => ⟨S1408x2048, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![16, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== Reference2Ideal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S8192x2048, .bf16⟩
  | .hbm, ⟨5, _⟩ => ⟨S8192x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S8192x2048, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x2048, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .bf16⟩
  | .hbm, ⟨35, _⟩ => ⟨S8192x5632, .bf16⟩
  | .hbm, ⟨36, _⟩ => ⟨S8192x5632, .bf16⟩
  | .hbm, ⟨37, _⟩ => ⟨S8192x5632, .bf16⟩
  | .hbm, ⟨38, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Kernel3.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x5632 : Shape := ⟨2, ![8192, 5632]⟩
abbrev S2048x5632 : Shape := ⟨2, ![2048, 5632]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x5632, .bf16⟩
  | .hbm, ⟨3, _⟩ => ⟨S2048x5632, .bf16⟩
  | .hbm, ⟨4, _⟩ => ⟨S8192x5632, .f32⟩
  | .hbm, ⟨5, _⟩ => ⟨S2048x5632, .f32⟩
  | .hbm, ⟨6, _⟩ => ⟨S8192x5632, .f32⟩
  | .hbm, ⟨7, _⟩ => ⟨S2048x5632, .f32⟩
  | .hbm, ⟨8, _⟩ => ⟨S_, .f32⟩
  | .hbm, ⟨9, _⟩ => ⟨S8192x2048, .f32⟩
  | .hbm, ⟨10, _⟩ => ⟨S8192x5632, .f32⟩
  | .hbm, ⟨11, _⟩ => ⟨S8192x5632, .f32⟩
  | .hbm, ⟨12, _⟩ => ⟨S8192x2048, .f32⟩
  | .hbm, ⟨13, _⟩ => ⟨S8192x2048, .f32⟩
  | .hbm, ⟨14, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel5.lean ====
abbrev S8192x5632 : Shape := ⟨2, ![8192, 5632]⟩
abbrev S8192x2048 : Shape := ⟨2, ![8192, 2048]⟩
abbrev S2x4x2816x2048 : Shape := ⟨4, ![2, 4, 2816, 2048]⟩
abbrev S2048x1408 : Shape := ⟨2, ![2048, 1408]⟩
abbrev S2048x1024 : Shape := ⟨2, ![2048, 1024]⟩
abbrev S1x1x1408x1024 : Shape := ⟨4, ![1, 1, 1408, 1024]⟩
abbrev S1408x1024 : Shape := ⟨2, ![1408, 1024]⟩
abbrev S1x4x1408x2048 : Shape := ⟨4, ![1, 4, 1408, 2048]⟩
abbrev S4x1408x2048 : Shape := ⟨3, ![4, 1408, 2048]⟩
abbrev S5632x2048 : Shape := ⟨2, ![5632, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S2x4x2816x2048, .f32⟩
  | .hbm, ⟨3, _⟩ => ⟨S1x4x1408x2048, .f32⟩
  | .hbm, ⟨4, _⟩ => ⟨S4x1408x2048, .f32⟩
  | .hbm, ⟨5, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1408x1024, .f32⟩
  | .local _ .vmem, ⟨5, _⟩ => ⟨S1x1x1408x1024, .f32⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1408_i32 : BitVec 32 := 1408#32
  let v0 : BitVec 32 := Scalar.muli arg0 c1408_i32
  let c1024_i32 : BitVec 32 := 1024#32
  let v1 : BitVec 32 := Scalar.muli arg1 c1024_i32
  let c0_i32 : BitVec 32 := 0#32
  let v2 : BitVec 32 := Scalar.addi c0_i32 v1
  let c1408_i32_0 : BitVec 32 := 1408#32
  let v3 : BitVec 32 := Scalar.divsi v0 c1408_i32_0
  let c0_i32_1 : BitVec 32 := 0#32
  let v4 : BitVec 1 := Scalar.cmpi .sgt v0 c0_i32_1
  let v5 : BitVec 32 := Scalar.extui v4
  let c0_i32_2 : BitVec 32 := 0#32
  let v6 : BitVec 1 := Scalar.cmpi .slt v0 c0_i32_2
  let v7 : BitVec 32 := Scalar.extui v6
  let v8 : BitVec 32 := Scalar.subi v5 v7
  let c0_i32_3 : BitVec 32 := 0#32
  let v9 : BitVec 1 := Scalar.cmpi .sgt c1408_i32_0 c0_i32_3
  let v10 : BitVec 32 := Scalar.extui v9
  let c0_i32_4 : BitVec 32 := 0#32
  let v11 : BitVec 1 := Scalar.cmpi .slt c1408_i32_0 c0_i32_4
  let v12 : BitVec 32 := Scalar.extui v11
  let v13 : BitVec 32 := Scalar.subi v10 v12
  let v14 : BitVec 1 := Scalar.cmpi .ne v8 v13
  let v15 : BitVec 32 := Scalar.remsi v0 c1408_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1408_i32_6 : BitVec 32 := 1408#32
  let c0_i32_7 : BitVec 32 := 0#32
  let v20 : BitVec 1 := Scalar.cmpi .eq c1408_i32_6 c0_i32_7
  let c1_i32_8 : BitVec 32 := 1#32
  let v21 : BitVec 32 := Scalar.select v20 c1_i32_8 c1408_i32_6
  let v22 : BitVec 32 := Scalar.remsi v0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c4224_i32 : BitVec 32 := 4224#32
  let v30 : BitVec 32 := Scalar.addi c4224_i32 v29
  let c1024_i32_12 : BitVec 32 := 1024#32
  let v31 : BitVec 32 := Scalar.divsi v2 c1024_i32_12
  let c0_i32_13 : BitVec 32 := 0#32
  let v32 : BitVec 1 := Scalar.cmpi .sgt v2 c0_i32_13
  let v33 : BitVec 32 := Scalar.extui v32
  let c0_i32_14 : BitVec 32 := 0#32
  let v34 : BitVec 1 := Scalar.cmpi .slt v2 c0_i32_14
  let v35 : BitVec 32 := Scalar.extui v34
  let v36 : BitVec 32 := Scalar.subi v33 v35
  let c0_i32_15 : BitVec 32 := 0#32
  let v37 : BitVec 1 := Scalar.cmpi .sgt c1024_i32_12 c0_i32_15
  let v38 : BitVec 32 := Scalar.extui v37
  let c0_i32_16 : BitVec 32 := 0#32
  let v39 : BitVec 1 := Scalar.cmpi .slt c1024_i32_12 c0_i32_16
  let v40 : BitVec 32 := Scalar.extui v39
  let v41 : BitVec 32 := Scalar.subi v38 v40
  let v42 : BitVec 1 := Scalar.cmpi .ne v36 v41
  let v43 : BitVec 32 := Scalar.remsi v2 c1024_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c2816_i32 : BitVec 32 := 2816#32
  let v48 : BitVec 32 := Scalar.divsi v30 c2816_i32
  let c0_i32_19 : BitVec 32 := 0#32
  let v49 : BitVec 1 := Scalar.cmpi .sgt v30 c0_i32_19
  let v50 : BitVec 32 := Scalar.extui v49
  let c0_i32_20 : BitVec 32 := 0#32
  let v51 : BitVec 1 := Scalar.cmpi .slt v30 c0_i32_20
  let v52 : BitVec 32 := Scalar.extui v51
  let v53 : BitVec 32 := Scalar.subi v50 v52
  let c0_i32_21 : BitVec 32 := 0#32
  let v54 : BitVec 1 := Scalar.cmpi .sgt c2816_i32 c0_i32_21
  let v55 : BitVec 32 := Scalar.extui v54
  let c0_i32_22 : BitVec 32 := 0#32
  let v56 : BitVec 1 := Scalar.cmpi .slt c2816_i32 c0_i32_22
  let v57 : BitVec 32 := Scalar.extui v56
  let v58 : BitVec 32 := Scalar.subi v55 v57
  let v59 : BitVec 1 := Scalar.cmpi .ne v53 v58
  let v60 : BitVec 32 := Scalar.remsi v30 c2816_i32
  let c0_i32_23 : BitVec 32 := 0#32
  let v61 : BitVec 1 := Scalar.cmpi .ne v60 c0_i32_23
  let v62 : BitVec 1 := Scalar.andi v59 v61
  let c1_i32_24 : BitVec 32 := 1#32
  let v63 : BitVec 32 := Scalar.subi v48 c1_i32_24
  let v64 : BitVec 32 := Scalar.select v62 v63 v48
  let c2816_i32_25 : BitVec 32 := 2816#32
  let c0_i32_26 : BitVec 32 := 0#32
  let v65 : BitVec 1 := Scalar.cmpi .eq c2816_i32_25 c0_i32_26
  let c1_i32_27 : BitVec 32 := 1#32
  let v66 : BitVec 32 := Scalar.select v65 c1_i32_27 c2816_i32_25
  let v67 : BitVec 32 := Scalar.remsi v30 v66
  let c0_i32_28 : BitVec 32 := 0#32
  let v68 : BitVec 1 := Scalar.cmpi .ne v67 c0_i32_28
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let v72 : BitVec 1 := Scalar.andi v71 v68
  let v73 : BitVec 32 := Scalar.addi v67 v66
  let v74 : BitVec 32 := Scalar.select v72 v73 v67
  let c1408_i32_31 : BitVec 32 := 1408#32
  let v75 : BitVec 32 := Scalar.divsi v74 c1408_i32_31
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c0_i32_34 : BitVec 32 := 0#32
  let v81 : BitVec 1 := Scalar.cmpi .sgt c1408_i32_31 c0_i32_34
  let v82 : BitVec 32 := Scalar.extui v81
  let c0_i32_35 : BitVec 32 := 0#32
  let v83 : BitVec 1 := Scalar.cmpi .slt c1408_i32_31 c0_i32_35
  let v84 : BitVec 32 := Scalar.extui v83
  let v85 : BitVec 32 := Scalar.subi v82 v84
  let v86 : BitVec 1 := Scalar.cmpi .ne v80 v85
  let v87 : BitVec 32 := Scalar.remsi v74 c1408_i32_31
  let c0_i32_36 : BitVec 32 := 0#32
  let v88 : BitVec 1 := Scalar.cmpi .ne v87 c0_i32_36
  let v89 : BitVec 1 := Scalar.andi v86 v88
  let c1_i32_37 : BitVec 32 := 1#32
  let v90 : BitVec 32 := Scalar.subi v75 c1_i32_37
  let v91 : BitVec 32 := Scalar.select v89 v90 v75
  let c0_i32_38 : BitVec 32 := 0#32
  ![v64.toNat, v19.toNat, v91.toNat, v47.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x2048 : Shape := ⟨2, ![8192, 2048]⟩
abbrev S8192x5632 : Shape := ⟨2, ![8192, 5632]⟩
abbrev S2x4x4096x1408 : Shape := ⟨4, ![2, 4, 4096, 1408]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩
abbrev S1x4x2048x1408 : Shape := ⟨4, ![1, 4, 2048, 1408]⟩
abbrev S4x2048x1408 : Shape := ⟨3, ![4, 2048, 1408]⟩
abbrev S2048x4x1408 : Shape := ⟨3, ![2048, 4, 1408]⟩
abbrev S2048x5632 : Shape := ⟨2, ![2048, 5632]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2x4x4096x1408, .f32⟩
  | .hbm, ⟨3, _⟩ => ⟨S1x4x2048x1408, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c1408_i32 : BitVec 32 := 1408#32
  let v1 : BitVec 32 := Scalar.muli arg1 c1408_i32
  let c0_i32 : BitVec 32 := 0#32
  let v2 : BitVec 32 := Scalar.addi c0_i32 v1
  let c1408_i32_0 : BitVec 32 := 1408#32
  let v3 : BitVec 32 := Scalar.divsi v2 c1408_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1408_i32_0 c0_i32_3
  let v10 : BitVec 32 := Scalar.extui v9
  let c0_i32_4 : BitVec 32 := 0#32
  let v11 : BitVec 1 := Scalar.cmpi .slt c1408_i32_0 c0_i32_4
  let v12 : BitVec 32 := Scalar.extui v11
  let v13 : BitVec 32 := Scalar.subi v10 v12
  let v14 : BitVec 1 := Scalar.cmpi .ne v8 v13
  let v15 : BitVec 32 := Scalar.remsi v2 c1408_i32_0
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c6144_i32 : BitVec 32 := 6144#32
  let v20 : BitVec 32 := Scalar.addi c6144_i32 v0
  let c1408_i32_6 : BitVec 32 := 1408#32
  let c0_i32_7 : BitVec 32 := 0#32
  let v21 : BitVec 1 := Scalar.cmpi .eq c1408_i32_6 c0_i32_7
  let c1_i32_8 : BitVec 32 := 1#32
  let v22 : BitVec 32 := Scalar.select v21 c1_i32_8 c1408_i32_6
  let v23 : BitVec 32 := Scalar.remsi v2 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c1408_i32_12 : BitVec 32 := 1408#32
  let v31 : BitVec 32 := Scalar.divsi v30 c1408_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c1408_i32_12 c0_i32_15
  let v38 : BitVec 32 := Scalar.extui v37
  let c0_i32_16 : BitVec 32 := 0#32
  let v39 : BitVec 1 := Scalar.cmpi .slt c1408_i32_12 c0_i32_16
  let v40 : BitVec 32 := Scalar.extui v39
  let v41 : BitVec 32 := Scalar.subi v38 v40
  let v42 : BitVec 1 := Scalar.cmpi .ne v36 v41
  let v43 : BitVec 32 := Scalar.remsi v30 c1408_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c4096_i32 : BitVec 32 := 4096#32
  let v48 : BitVec 32 := Scalar.divsi v20 c4096_i32
  let c0_i32_19 : BitVec 32 := 0#32
  let v49 : BitVec 1 := Scalar.cmpi .sgt v20 c0_i32_19
  let v50 : BitVec 32 := Scalar.extui v49
  let c0_i32_20 : BitVec 32 := 0#32
  let v51 : BitVec 1 := Scalar.cmpi .slt v20 c0_i32_20
  let v52 : BitVec 32 := Scalar.extui v51
  let v53 : BitVec 32 := Scalar.subi v50 v52
  let c0_i32_21 : BitVec 32 := 0#32
  let v54 : BitVec 1 := Scalar.cmpi .sgt c4096_i32 c0_i32_21
  let v55 : BitVec 32 := Scalar.extui v54
  let c0_i32_22 : BitVec 32 := 0#32
  let v56 : BitVec 1 := Scalar.cmpi .slt c4096_i32 c0_i32_22
  let v57 : BitVec 32 := Scalar.extui v56
  let v58 : BitVec 32 := Scalar.subi v55 v57
  let v59 : BitVec 1 := Scalar.cmpi .ne v53 v58
  let v60 : BitVec 32 := Scalar.remsi v20 c4096_i32
  let c0_i32_23 : BitVec 32 := 0#32
  let v61 : BitVec 1 := Scalar.cmpi .ne v60 c0_i32_23
  let v62 : BitVec 1 := Scalar.andi v59 v61
  let c1_i32_24 : BitVec 32 := 1#32
  let v63 : BitVec 32 := Scalar.subi v48 c1_i32_24
  let v64 : BitVec 32 := Scalar.select v62 v63 v48
  let c4096_i32_25 : BitVec 32 := 4096#32
  let c0_i32_26 : BitVec 32 := 0#32
  let v65 : BitVec 1 := Scalar.cmpi .eq c4096_i32_25 c0_i32_26
  let c1_i32_27 : BitVec 32 := 1#32
  let v66 : BitVec 32 := Scalar.select v65 c1_i32_27 c4096_i32_25
  let v67 : BitVec 32 := Scalar.remsi v20 v66
  let c0_i32_28 : BitVec 32 := 0#32
  let v68 : BitVec 1 := Scalar.cmpi .ne v67 c0_i32_28
  let c0_i32_29 : BitVec 32 := 0#32
  let v69 : BitVec 1 := Scalar.cmpi .slt v67 c0_i32_29
  let c0_i32_30 : BitVec 32 := 0#32
  let v70 : BitVec 1 := Scalar.cmpi .slt v66 c0_i32_30
  let v71 : BitVec 1 := Scalar.xori v69 v70
  let v72 : BitVec 1 := Scalar.andi v71 v68
  let v73 : BitVec 32 := Scalar.addi v67 v66
  let v74 : BitVec 32 := Scalar.select v72 v73 v67
  let c1024_i32_31 : BitVec 32 := 1024#32
  let v75 : BitVec 32 := Scalar.divsi v74 c1024_i32_31
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c0_i32_34 : BitVec 32 := 0#32
  let v81 : BitVec 1 := Scalar.cmpi .sgt c1024_i32_31 c0_i32_34
  let v82 : BitVec 32 := Scalar.extui v81
  let c0_i32_35 : BitVec 32 := 0#32
  let v83 : BitVec 1 := Scalar.cmpi .slt c1024_i32_31 c0_i32_35
  let v84 : BitVec 32 := Scalar.extui v83
  let v85 : BitVec 32 := Scalar.subi v82 v84
  let v86 : BitVec 1 := Scalar.cmpi .ne v80 v85
  let v87 : BitVec 32 := Scalar.remsi v74 c1024_i32_31
  let c0_i32_36 : BitVec 32 := 0#32
  let v88 : BitVec 1 := Scalar.cmpi .ne v87 c0_i32_36
  let v89 : BitVec 1 := Scalar.andi v86 v88
  let c1_i32_37 : BitVec 32 := 1#32
  let v90 : BitVec 32 := Scalar.subi v75 c1_i32_37
  let v91 : BitVec 32 := Scalar.select v89 v90 v75
  let c0_i32_38 : BitVec 32 := 0#32
  ![v64.toNat, v19.toNat, v91.toNat, v47.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x2048 : Shape := ⟨2, ![8192, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S8x2048, .f32⟩
  | .hbm, ⟨8, _⟩ => ⟨S1x2048, .f32⟩
  | .hbm, ⟨9, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S8x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S8192x256 : Shape := ⟨2, ![8192, 256]⟩
abbrev S256x2048 : Shape := ⟨2, ![256, 2048]⟩
abbrev S1024x256 : Shape := ⟨2, ![1024, 256]⟩
abbrev S256x1024 : Shape := ⟨2, ![256, 1024]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 12
  | .vmem => 34
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x256, .bf16⟩
  | .hbm, ⟨3, _⟩ => ⟨S256x2048, .bf16⟩
  | .hbm, ⟨4, _⟩ => ⟨S8192x2048, .f32⟩
  | .hbm, ⟨5, _⟩ => ⟨S8192x2048, .f32⟩
  | .hbm, ⟨6, _⟩ => ⟨S8192x2048, .bf16⟩
  | .hbm, ⟨7, _⟩ => ⟨S8192x2048, .bf16⟩
  | .hbm, ⟨8, _⟩ => ⟨S8192x2048, .f32⟩
  | .hbm, ⟨9, _⟩ => ⟨S8192x2048, .bf16⟩
  | .hbm, ⟨10, _⟩ => ⟨S8192x2048, .bf16⟩
  | .hbm, ⟨11, _⟩ => ⟨S8192x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S256x2048, .f32⟩
  | .local _ .vmem, ⟨19, _⟩ => ⟨S256x2048, .f32⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S1024x2048, .bf16⟩
  | .local _ .vmem, ⟨29, _⟩ => ⟨S1024x2048, .bf16⟩
  | .local _ .vmem, ⟨30, _⟩ => ⟨S1024x2048, .bf16⟩
  | .local _ .vmem, ⟨31, _⟩ => ⟨S1024x2048, .bf16⟩
  | .local _ .vmem, ⟨32, _⟩ => ⟨S1024x1024, .f32⟩
  | .local _ .vmem, ⟨33, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨3, ![8, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference8Ideal.lean ====
abbrev S8192x2048 : Shape := ⟨2, ![8192, 2048]⟩
abbrev S2048x2048 : Shape := ⟨2, ![2048, 2048]⟩
abbrev S8192x256 : Shape := ⟨2, ![8192, 256]⟩
abbrev S256x2048 : Shape := ⟨2, ![256, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x256, .bf16⟩
  | .hbm, ⟨3, _⟩ => ⟨S256x2048, .bf16⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S8192x256, .f32⟩
  | .hbm, ⟨9, _⟩ => ⟨S256x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | .hbm, ⟨31, _⟩ => ⟨S8192x2048, .bf16⟩
  | .hbm, ⟨32, _⟩ => ⟨S8192x2048, .bf16⟩
  | .hbm, ⟨33, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel9.lean ====
abbrev S8192x2048 : Shape := ⟨2, ![8192, 2048]⟩
abbrev S8x128 : Shape := ⟨2, ![8, 128]⟩
abbrev S256x2048 : Shape := ⟨2, ![256, 2048]⟩
abbrev S1x256x2048 : Shape := ⟨3, ![1, 256, 2048]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8x128, .f32⟩
  | .hbm, ⟨3, _⟩ => ⟨S8192x2048, .f32⟩
  | .hbm, ⟨4, _⟩ => ⟨S1x1, .f32⟩
  | .hbm, ⟨5, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S8x128, .f32⟩
  | .local _ .vmem, ⟨5, _⟩ => ⟨S256x2048, .f32⟩
  | .local _ .vmem, ⟨6, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8192x2048 : Shape := ⟨2, ![8192, 2048]⟩
abbrev S_ : Shape := ⟨0, ![]⟩
abbrev S8192 : Shape := ⟨1, ![8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .bf16⟩
  | .local _ .vmem, ⟨13, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference10Ideal.lean ====
abbrev S8192x2048 : Shape := ⟨2, ![8192, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel11.lean ====
abbrev S8192x2048 : Shape := ⟨2, ![8192, 2048]⟩
abbrev S2048x10240 : Shape := ⟨2, ![2048, 10240]⟩
abbrev S8192x10240 : Shape := ⟨2, ![8192, 10240]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x10240, .bf16⟩
  | .hbm, ⟨2, _⟩ => ⟨S8192x10240, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x10240 : Shape := ⟨2, ![2048, 10240]⟩
abbrev S8192x10240 : Shape := ⟨2, ![8192, 10240]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x10240, .bf16⟩
  | .hbm, ⟨2, _⟩ => ⟨S8192x2048, .f32⟩
  | .hbm, ⟨3, _⟩ => ⟨S2048x10240, .f32⟩
  | .hbm, ⟨4, _⟩ => ⟨S8192x10240, .f32⟩
  | .hbm, ⟨5, _⟩ => ⟨S8192x10240, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x10240 : Shape := ⟨2, ![8192, 10240]⟩
abbrev S2048x10240 : Shape := ⟨2, ![2048, 10240]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x10240, .bf16⟩
  | .hbm, ⟨1, _⟩ => ⟨S2048x10240, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x10240 : Shape := ⟨2, ![8192, 10240]⟩
abbrev S2048x10240 : Shape := ⟨2, ![2048, 10240]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S2048x10240, .bf16⟩
  | .hbm, ⟨2, _⟩ => ⟨S_, .f32⟩
  | .hbm, ⟨3, _⟩ => ⟨S8192x2048, .f32⟩
  | .hbm, ⟨4, _⟩ => ⟨S2048x10240, .f32⟩
  | .hbm, ⟨5, _⟩ => ⟨S8192x10240, .f32⟩
  | .hbm, ⟨6, _⟩ => ⟨S8192x10240, .f32⟩
  | .hbm, ⟨7, _⟩ => ⟨S8192x2048, .f32⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x2048 : Shape := ⟨2, ![8192, 2048]⟩
abbrev S8192x10240 : Shape := ⟨2, ![8192, 10240]⟩
abbrev S2048x10240 : Shape := ⟨2, ![2048, 10240]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x10240, .bf16⟩
  | .hbm, ⟨2, _⟩ => ⟨S2048x10240, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S8192x10240 : Shape := ⟨2, ![8192, 10240]⟩
abbrev S_ : Shape := ⟨0, ![]⟩
abbrev S2048x10240 : Shape := ⟨2, ![2048, 10240]⟩
abbrev S10240x2048 : Shape := ⟨2, ![10240, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x10240, .bf16⟩
  | .hbm, ⟨2, _⟩ => ⟨S_, .f32⟩
  | .hbm, ⟨3, _⟩ => ⟨S2048x10240, .f32⟩
  | .hbm, ⟨4, _⟩ => ⟨S8192x2048, .f32⟩
  | .hbm, ⟨5, _⟩ => ⟨S8192x10240, .f32⟩
  | .hbm, ⟨6, _⟩ => ⟨S8192x10240, .f32⟩
  | .hbm, ⟨7, _⟩ => ⟨S10240x2048, .f32⟩
  | .hbm, ⟨8, _⟩ => ⟨S2048x10240, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Reals.lean ====
/-
  Attention and its gradient over the real numbers, and the passage from extended reals that are real numbers to the
  reals themselves. Every array of the two programs is read, entry by entry, as one of the functions named here.
-/
module
public import Idealize.ShloMosaic.Lib.ValueIdx
public import Idealize.ShloMosaic.Lib.IdealHost

@[expose] public section
noncomputable section
namespace Cert.Mla
open Idealize.ShloMosaic
open scoped BigOperators

/-! ## Sums, maxima, quotients, exponentials and logarithms of real entries -/

/-- A sum of real entries is real. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The larger of two real entries is real. -/
theorem max_coe (a b : ℝ) : max (a : EReal) (b : EReal) = ((max a b : ℝ) : EReal) :=
  (EReal.coe_strictMono.monotone.map_max).symm

/-- The largest entry of a row. -/
def rowMax {J : Type} [Fintype J] (f : J → ℝ) : ℝ := (Finset.univ.fold max (⊥ : EReal) (fun j => (f j : EReal))).toReal

theorem fold_max_aux {J : Type} (f : J → ℝ) (s : Finset J) :
    s.fold max (⊥ : EReal) (fun j => (f j : EReal)) = ⊥ ∧ s = ∅ ∨ ∃ R : ℝ, s.fold max (⊥ : EReal) (fun j => (f j : EReal)) = (R : EReal) := by
  classical
  induction s using Finset.induction_on with
  | empty => left; simp
  | insert a s ha ih =>
    right
    rw [Finset.fold_insert ha]
    rcases ih with ⟨h, _⟩ | ⟨R, h⟩
    · exact ⟨f a, by rw [h]; exact max_eq_left bot_le⟩
    · exact ⟨max (f a) R, by rw [h, max_coe]⟩

/-- The maximum of a row that is not empty is real. -/
theorem fold_max_coe {J : Type} [Fintype J] [Nonempty J] (f : J → ℝ) :
    Finset.univ.fold max (⊥ : EReal) (fun j => (f j : EReal)) = (rowMax f : EReal) := by
  rcases fold_max_aux f Finset.univ with ⟨_, h⟩ | ⟨R, h⟩
  · exact absurd h Finset.univ_nonempty.ne_empty
  · unfold rowMax; rw [h, EReal.toReal_coe]

/-- The quotient of two real entries, the divisor not zero. -/
theorem div_coe_coe (a : ℝ) {b : ℝ} (h : b ≠ 0) : Ideal.div (a : EReal) (b : EReal) = ((a / b : ℝ) : EReal) := by
  rw [Ideal.div_coe h, ← EReal.coe_mul]; congr 1; field_simp

/-- The logarithm of a positive entry. -/
theorem log_coe_pos {b : ℝ} (h : 0 < b) : Ideal.log (b : EReal) = ((Real.log b : ℝ) : EReal) := by
  rw [Ideal.log_coe, if_neg (not_le.mpr h)]

/-! ## The literals -/

/-- The scale of the scores, the single-precision number nearest to 1/√192. -/
def scale : ℝ := 9686330 / 2 ^ 27
/-- The starting value of the running maximum, the single-precision number nearest to −10³⁰. -/
def low : ℝ := -(13234890 * 2 ^ 76)

theorem ofBits_scale : Ideal.ofBits .f32 0x3D93CD3A#32 = (scale : EReal) := by
  unfold scale
  simp [Ideal.ofBits, Ideal.ieee, -EReal.coe_mul]; norm_num
theorem ofBits_low : Ideal.ofBits .f32 0xF149F2CA#32 = (low : EReal) := by
  unfold low
  simp [Ideal.ofBits, Ideal.ieee, -EReal.coe_mul, -EReal.coe_neg]
theorem ofBits_bot : Ideal.ofBits .f32 0xFF800000#32 = (⊥ : EReal) := by
  simp [Ideal.ofBits, Ideal.ieee]

/-! ## Attention -/

section
variable {I J C D : Type} [Fintype I] [Fintype J] [Fintype C] [Fintype D]

/-- The scaled scores. -/
def sc (Q : I → C → ℝ) (K : J → C → ℝ) (i : I) (j : J) : ℝ := (∑ c, Q i c * K j c) * scale
/-- The softmax denominator of a row of scores. -/
def den (s : I → J → ℝ) (i : I) : ℝ := ∑ j, Real.exp (s i j)
/-- The softmax. -/
def pr (s : I → J → ℝ) (i : I) (j : J) : ℝ := Real.exp (s i j) / den s i
/-- The output: the weighted sum of the values. -/
def ov (s : I → J → ℝ) (V : J → D → ℝ) (i : I) (d : D) : ℝ := ∑ j, pr s i j * V j d
/-- The log of the denominator. -/
def lse (s : I → J → ℝ) (i : I) : ℝ := Real.log (den s i)
/-- The gradient with respect to the softmax. -/
def dp (V : J → D → ℝ) (G : I → D → ℝ) (i : I) (j : J) : ℝ := ∑ d, G i d * V j d
/-- The row sums of gradient times output. -/
def dl (s : I → J → ℝ) (V : J → D → ℝ) (G : I → D → ℝ) (i : I) : ℝ := ∑ d, G i d * ov s V i d
/-- The gradient with respect to the scores before scaling. -/
def ds (s : I → J → ℝ) (V : J → D → ℝ) (G : I → D → ℝ) (i : I) (j : J) : ℝ := pr s i j * (dp V G i j - dl s V G i) * scale
/-- The gradient of the queries. -/
def dq (s : I → J → ℝ) (V : J → D → ℝ) (G : I → D → ℝ) (K : J → C → ℝ) (i : I) (c : C) : ℝ := ∑ j, ds s V G i j * K j c
/-- The gradient of the keys. -/
def dk (s : I → J → ℝ) (V : J → D → ℝ) (G : I → D → ℝ) (Q : I → C → ℝ) (j : J) (c : C) : ℝ := ∑ i, ds s V G i j * Q i c
/-- The gradient of the values. -/
def dv (s : I → J → ℝ) (G : I → D → ℝ) (j : J) (d : D) : ℝ := ∑ i, pr s i j * G i d

variable [Nonempty J]

theorem sumExp_pos (f : J → ℝ) : 0 < ∑ j, Real.exp (f j) :=
  Finset.sum_pos (fun _ _ => Real.exp_pos _) Finset.univ_nonempty
theorem den_pos (s : I → J → ℝ) (i : I) : 0 < den s i := sumExp_pos _

/-- Shifting a row of scores divides the sum of exponentials by one factor. -/
theorem sum_shift (f : J → ℝ) (M : ℝ) : ∑ j, Real.exp (f j - M) = (∑ j, Real.exp (f j)) / Real.exp M := by
  rw [Finset.sum_div]; exact Finset.sum_congr rfl fun j _ => Real.exp_sub _ _

/-- The output from shifted exponentials. -/
theorem ov_shift (s : I → J → ℝ) (V : J → D → ℝ) (i : I) (d : D) (M : ℝ) :
    (∑ j, Real.exp (s i j - M) * V j d) / (∑ j, Real.exp (s i j - M)) = ov s V i d := by
  rw [sum_shift (s i) M]
  unfold ov pr den
  have h := (sumExp_pos (s i)).ne'
  have h' := (Real.exp_pos M).ne'
  rw [Finset.sum_div]
  refine Finset.sum_congr rfl fun j _ => ?_
  rw [Real.exp_sub]; field_simp

/-- The softmax from shifted exponentials. -/
theorem pr_shift (s : I → J → ℝ) (i : I) (j : J) (M : ℝ) :
    Real.exp (s i j - M) / (∑ j, Real.exp (s i j - M)) = pr s i j := by
  rw [sum_shift (s i) M]
  unfold pr den
  have h := (sumExp_pos (s i)).ne'
  have h' := (Real.exp_pos M).ne'
  rw [Real.exp_sub]; field_simp

/-- The log of the denominator from shifted exponentials. -/
theorem lse_shift (s : I → J → ℝ) (i : I) (M : ℝ) :
    M + Real.log (∑ j, Real.exp (s i j - M)) = lse s i := by
  rw [sum_shift (s i) M, Real.log_div (sumExp_pos _).ne' (Real.exp_pos M).ne', Real.log_exp]
  unfold lse den; ring

/-- The softmax from the log of the denominator. -/
theorem exp_sub_lse (s : I → J → ℝ) (i : I) (j : J) : Real.exp (s i j - lse s i) = pr s i j := by
  unfold lse pr
  rw [Real.exp_sub, Real.exp_log (den_pos s i)]

/-- The row sum of gradient times output is the row sum of softmax times its gradient. -/
theorem dl_eq (s : I → J → ℝ) (V : J → D → ℝ) (G : I → D → ℝ) (i : I) : dl s V G i = ∑ j, dp V G i j * pr s i j := by
  unfold dl ov dp
  simp only [Finset.mul_sum, Finset.sum_mul]
  rw [Finset.sum_comm]
  exact Finset.sum_congr rfl fun j _ => Finset.sum_congr rfl fun d _ => by ring

/-- The gradient of the scores as the derivative of exponentials over their sum writes it. -/
theorem ds_eq (s : I → J → ℝ) (V : J → D → ℝ) (G : I → D → ℝ) (i : I) (j : J) (M : ℝ) :
    (dp V G i j / (∑ j, Real.exp (s i j - M))
      + -(∑ j', dp V G i j' * (1 / ((∑ j, Real.exp (s i j - M)) * (∑ j, Real.exp (s i j - M)))) * Real.exp (s i j' - M)))
      * Real.exp (s i j - M) * scale = ds s V G i j := by
  unfold ds
  rw [dl_eq, ← pr_shift s i j M]
  simp only [← pr_shift s i _ M]
  set L := ∑ j, Real.exp (s i j - M) with hL
  have h : L ≠ 0 := (sumExp_pos fun j => s i j - M).ne'
  have e : ∑ j', dp V G i j' * (1 / (L * L)) * Real.exp (s i j' - M) = (∑ j', dp V G i j' * (Real.exp (s i j' - M) / L)) / L := by
    rw [Finset.sum_div]; exact Finset.sum_congr rfl fun j' _ => by field_simp
  rw [e]; field_simp; ring
end

end Cert.Mla
end
-- ==== Proof.NormReal.lean ====
/-
  The gradient of a norm over the extended reals: the form that the kernel computes and the form that the chain rule
  gives are equal, for entries of any kind. If an entry of the row is infinite, the row's factor is zero; otherwise it is
  a positive number, and a product with it distributes over sums.
-/
module
public import proofs.«01_k».proof.Proof.Reals

@[expose] public section
noncomputable section
namespace Cert.Norm
open Idealize.ShloMosaic
open scoped BigOperators

/-- The single-precision number nearest to 10⁻⁶. -/
def eps : ℝ := 8796093 / 2 ^ 43

theorem eps_pos : 0 < eps := by unfold eps; norm_num

theorem ofBits_eps : Ideal.ofBits .f32 0x358637BD#32 = (eps : EReal) := by
  unfold eps
  simp [Ideal.ofBits, Ideal.ieee, -EReal.coe_mul]; norm_num
theorem ofBits_width : Ideal.ofBits .f32 0x45000000#32 = ((2048 : ℝ) : EReal) := by
  simp [Ideal.ofBits, Ideal.ieee, -EReal.coe_mul]; norm_num
theorem ofBits_half : Ideal.ofBits .f32 0xBF000000#32 = ((-1 / 2 : ℝ) : EReal) := by
  simp [Ideal.ofBits, Ideal.ieee, -EReal.coe_mul, -EReal.coe_neg]; norm_num

/-- The mean square of a row, with the small constant. -/
def ms (x : Fin 2048 → EReal) : EReal := Ideal.div (∑ j, x j * x j) ((2048 : ℝ) : EReal) + (eps : EReal)
/-- The factor of a row. -/
def rs (x : Fin 2048 → EReal) : EReal := Ideal.rsqrt (ms x)

theorem sq_nonneg (a : EReal) : 0 ≤ a * a := by
  induction a with
  | bot => simp
  | top => simp
  | coe r => rw [← EReal.coe_mul]; exact_mod_cast mul_self_nonneg r

/-- The mean square is ∞ or a positive number. -/
theorem ms_cases (x : Fin 2048 → EReal) : ms x = ⊤ ∨ ∃ s : ℝ, 0 < s ∧ ms x = (s : EReal) := by
  have h : 0 ≤ ∑ j, x j * x j := Finset.sum_nonneg fun j _ => sq_nonneg (x j)
  unfold ms
  rw [Ideal.div_coe (by norm_num)]
  generalize (∑ j, x j * x j) = a at h
  induction a with
  | bot => exact absurd h (by simp)
  | top => left; rw [EReal.top_mul_coe_of_pos (by norm_num), EReal.top_add_coe]
  | coe r =>
    right
    have hr : 0 ≤ r := by exact_mod_cast h
    exact ⟨r * (1 / 2048) + eps, add_pos_of_nonneg_of_pos (by positivity) eps_pos, by rw [EReal.coe_add, EReal.coe_mul]⟩

/-- The factor is a real number, not negative, and its quotient by the mean square is its third power. -/
theorem rs_real (x : Fin 2048 → EReal) : ∃ r : ℝ, 0 ≤ r ∧ rs x = (r : EReal) ∧ Ideal.div (rs x) (ms x) = ((r * r * r : ℝ) : EReal) := by
  unfold rs
  rcases ms_cases x with h | ⟨s, hs, h⟩
  · rw [h]
    refine ⟨0, le_refl 0, by simp, ?_⟩
    rw [Ideal.rsqrt_top, Ideal.div, if_neg (by simp)]
    simp
  · rw [h]
    refine ⟨(Real.sqrt s)⁻¹, inv_nonneg.mpr (Real.sqrt_nonneg s), ?_, ?_⟩
    · rw [Ideal.rsqrt_coe, if_neg (not_lt.mpr hs.le), if_neg hs.ne']
    · rw [Ideal.rsqrt_coe, if_neg (not_lt.mpr hs.le), if_neg hs.ne', Cert.Mla.div_coe_coe _ hs.ne']
      congr 1
      have hq : Real.sqrt s * Real.sqrt s = s := Real.mul_self_sqrt hs.le
      have h1 : (Real.sqrt s)⁻¹ * (Real.sqrt s)⁻¹ * s = 1 := by rw [← mul_inv, hq, inv_mul_cancel₀ hs.ne']
      rw [div_eq_iff hs.ne', mul_assoc, mul_assoc, ← mul_assoc _ _ s, h1, mul_one]

section
variable {r : ℝ} (hr : 0 ≤ r)
include hr

theorem dist (a b : EReal) : (r : EReal) * (a + b) = r * a + r * b :=
  EReal.left_distrib_of_nonneg_of_ne_top (by exact_mod_cast hr) (EReal.coe_ne_top r) a b

theorem dist_sub (a b : EReal) : (r : EReal) * (a - b) = r * a - r * b := by
  rw [sub_eq_add_neg, dist hr, mul_neg, ← sub_eq_add_neg]

theorem dist_sum {ι : Type} (s : Finset ι) (f : ι → EReal) : (∑ i ∈ s, (r : EReal) * f i) = r * ∑ i ∈ s, f i := by
  classical
  induction s using Finset.induction_on with
  | empty => simp
  | insert a s ha ih => rw [Finset.sum_insert ha, Finset.sum_insert ha, dist hr, ih]
end

/-- Two halves of a negative multiple. -/
theorem halves (p : EReal) {k : ℝ} (hk : 0 ≤ k) : p * ((-1 / 2 * k : ℝ) : EReal) + p * ((-1 / 2 * k : ℝ) : EReal) = -(p * (k : EReal)) := by
  rcases hk.eq_or_lt with h | h
  · subst h; simp
  · have hn : -1 / 2 * k < 0 := by linarith
    induction p with
    | bot => rw [EReal.bot_mul_coe_of_neg hn, EReal.bot_mul_coe_of_pos h]; rfl
    | top => rw [EReal.top_mul_coe_of_neg hn, EReal.top_mul_coe_of_pos h]; rfl
    | coe q =>
      rw [← EReal.coe_mul, ← EReal.coe_mul, ← EReal.coe_add, ← EReal.coe_neg]
      congr 1
      ring

/-- The gradient of the row's entry `j`, as the kernel computes it. -/
def dx (x d : Fin 2048 → EReal) (j : Fin 2048) : EReal :=
  rs x * (d j - (x j * rs x) * Ideal.div (∑ k, d k * (x k * rs x)) ((2048 : ℝ) : EReal))

/-- What the chain rule gives for the mean of the squares. -/
def cc (x d : Fin 2048 → EReal) : EReal :=
  Ideal.div ((∑ k, x k * d k) * (((-1 / 2 : ℝ) : EReal) * Ideal.div (rs x) (ms x))) ((2048 : ℝ) : EReal)

theorem dx_eq (x d : Fin 2048 → EReal) (j : Fin 2048) : d j * rs x + x j * cc x d + cc x d * x j = dx x d j := by
  obtain ⟨r, hr, e, e3⟩ := rs_real x
  unfold dx cc
  rw [e3, e]
  have hs : (∑ k, d k * (x k * (r : EReal))) = r * ∑ k, x k * d k := by
    rw [← dist_sum hr]
    refine Finset.sum_congr rfl fun k _ => ?_
    rw [mul_comm (r : EReal), mul_comm (x k) (d k), mul_assoc]
  rw [hs, dist_sub hr, Ideal.div_coe (by norm_num), Ideal.div_coe (by norm_num)]
  generalize (∑ k, x k * d k) = D
  have h1 : (r : EReal) * (x j * r * (r * D * ((1 / 2048 : ℝ) : EReal))) = x j * D * ((r * r * r * (1 / 2048) : ℝ) : EReal) := by
    rw [EReal.coe_mul, EReal.coe_mul, EReal.coe_mul]; ac_rfl
  have h2 : x j * (D * (((-1 / 2 : ℝ) : EReal) * ((r * r * r : ℝ) : EReal)) * ((1 / 2048 : ℝ) : EReal)) = x j * D * ((-1 / 2 * (r * r * r * (1 / 2048)) : ℝ) : EReal) := by
    rw [EReal.coe_mul (-1 / 2), EReal.coe_mul (r * r * r)]; ac_rfl
  rw [mul_comm _ (x j), h1, h2, add_assoc, halves _ (by positivity), mul_comm (d j), ← sub_eq_add_neg]

end Cert.Norm
end
-- ==== Proof.Blocks.lean ====
/-
  A product whose inner dimension is summed block by block: a sum over blocks and over the places in each block is one
  sum, and a buffer that adds one block's sum at a time holds their sum at the end.
-/
module
public import Idealize.ShloMosaic.Lib.Pipeline.Value
public import Idealize.ShloMosaic.Lib.Pipeline.ReadBack
public import Idealize.ShloMosaic.Lib.Pointwise

@[expose] public section
noncomputable section
namespace Cert.Ffn
open Idealize.ShloMosaic
open scoped BigOperators

theorem zero2 : (![0, 0] : Fin 2 → Nat) = fun _ => 0 := funext fun a => by fin_cases a <;> rfl

/-- The place in the whole dimension of place `j` of block `p`. -/
def blkAt {n w N : ℕ} (h : n * w = N) (p : Fin n) (j : Fin w) : Fin N :=
  ⟨w * p.val + j.val, by
    have h1 := p.2; have h2 := j.2
    calc w * p.val + j.val < w * p.val + w := by omega
      _ = (p.val + 1) * w := by ring
      _ ≤ n * w := Nat.mul_le_mul_right _ h1
      _ = N := h⟩

/-- A sum over the blocks and over the places in each is one sum. -/
theorem sum_blocks {M : Type} [AddCommMonoid M] {n w N : ℕ} (h : n * w = N) (f : Fin N → M) :
    (∑ p : Fin n, ∑ j : Fin w, f (blkAt h p j)) = ∑ k : Fin N, f k := by
  subst h
  rw [← Fintype.sum_prod_type' (fun p j => f (blkAt rfl p j))]
  refine Fintype.sum_equiv finProdFinEquiv _ _ fun x => ?_
  congr 1
  refine Fin.ext ?_
  show w * x.1.val + x.2.val = (finProdFinEquiv x).val
  simp [finProdFinEquiv_apply_val, Nat.add_comm]

/-- A buffer that starts at one term and adds one more at each step. -/
theorem sum_steps {M : Type} [AddCommMonoid M] (g : ℕ → M) (acc : ℕ → M) (h0 : acc 0 = g 0) :
    ∀ n : ℕ, (∀ p, p < n → acc (p + 1) = acc p + g (p + 1)) → acc n = ∑ p : Fin (n + 1), g p.val := by
  intro n
  induction n with
  | zero => intro _; simpa using h0
  | succ n ih =>
    intro hs
    rw [Fin.sum_univ_castSucc, hs n (Nat.lt_succ_self n), ih fun p hp => hs p (Nat.lt_succ_of_lt hp)]
    rfl

/-- Every place is a place of a block. -/
theorem exists_blk {n w N : ℕ} (h : n * w = N) (k : Fin N) : ∃ p j, k = blkAt (n := n) (w := w) h p j := by
  have hw : 0 < w := Nat.pos_of_ne_zero fun e => by subst e; have := k.2; omega
  have hk : k.val / w < n := Nat.div_lt_of_lt_mul (by have := k.2; rw [Nat.mul_comm]; omega)
  exact ⟨⟨k.val / w, hk⟩, ⟨k.val % w, Nat.mod_lt _ hw⟩, Fin.ext (Nat.div_add_mod _ _).symm⟩

/-- A load of the whole of what stores left. -/
theorem readCov_all {Val : EltTy → Type} {e : EltTy} [∀ e, Nonempty (Val e)] {S : Shape} {sig : RefSig} {κ : Kind} {sp : Space}
    (v : View sig κ sp S e) (L : List (View.Piece Val S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)

end Cert.Ffn
end
-- ==== Proof.Norm.lean ====
/-
  The call for the gradient of a norm, at one grid point: what its output blocks hold. A point works on 256 rows; the
  gradient of the norm's weight is added up over the points.
-/
module
public import proofs.«01_k».proof.Proof.Gen.Kernel7Ideal.Frame
public import proofs.«01_k».proof.Proof.NormReal
public import proofs.«01_k».proof.Proof.Blocks
public import Idealize.ShloMosaic.Lib.Tactic
public import Idealize.ShloMosaic.Lib.Pipeline.ValueKit

@[expose] public section
set_option maxRecDepth 16384
noncomputable section
namespace Cert.Norm
open Idealize.ShloMosaic Idealize.ShloMosaic.TcCoe Idealize.ShloMosaic.Tactic
open Idealize.SL Idealize.SL.Sem
open Cert.Kernel7Ideal Cert.Kernel7Ideal.Gen Cert.Ffn
open scoped BigOperators

section
variable (x : Vec Ideal S256x2048 .f32) (d : Vec Ideal S256x2048 .f32) (g : Vec Ideal S1x2048 .f32) (e : Vec Ideal S256x2048 .f32)
  (r : Fin 256) (j : Fin 2048)

/-- The factor of a row of the block. -/
theorem pay2 (u : Fin 1) : k0_pay2 x (ix2 r u) = rs fun k => x (ix2 r k) := by
  unfold k0_pay2 rs ms
  pointwise
  rw [ofBits_width, ofBits_eps]

/-- The normed row. -/
theorem pay3 : k0_pay3 x (ix2 r j) = x (ix2 r j) * rs fun k => x (ix2 r k) := by
  unfold k0_pay3
  pointwise
  rw [pay2]

/-- The gradient of the block's row, with the residual's. -/
theorem pay4 : k0_pay4 x d g e (ix2 r j) = dx (fun k => x (ix2 r k)) (fun k => d (ix2 r k) * g (ix2 0 k)) j + e (ix2 r j) := by
  unfold k0_pay4 dx
  pointwise
  simp only [pay2, pay3, ofBits_width]

/-- The block's part of the weight's gradient, added to what was there. -/
theorem pay1 (a : Vec Ideal S8x2048 .f32) (u : Fin 8) :
    k0_pay1 (k0_pay3 x) d a (ix2 u j) = a (ix2 u j) + ∑ r : Fin 256, d (ix2 r j) * (x (ix2 r j) * rs fun k => x (ix2 r k)) := by
  unfold k0_pay1
  pointwise
  simp only [pay3]
end

section
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S8x2048 .f32) (harg7 : arg7.IsWhole)
  (x0 : Vec Ideal S256x2048 .f32) (x1 : Vec Ideal S1x2048 .f32) (x2 x3 : Vec Ideal S256x2048 .f32) (x6 : Vec Ideal S8x2048 .f32) (r : Fin 256) (u : Fin 8) (j : Fin 2048)

/-- An entry of the gradient's block. -/
def oneD : EReal := dx (fun k => x0 (ix2 r k)) (fun k => x2 (ix2 r k) * x1 (ix2 0 k)) j + x3 (ix2 r j)
/-- An entry of the block's part of the weight's gradient. -/
def oneG : EReal := ∑ r : Fin 256, x2 (ix2 r j) * (x0 (ix2 r j) * rs fun k => x0 (ix2 r k))

theorem out4_A (hc0 : cond0_0 i) :
    out0_A_4 c i arg1 harg1 arg2 harg2 arg3 harg3 arg4 harg4 arg5 harg5 arg6 harg6 arg7 harg7 hc0 x0 x1 x2 x3 (ix2 r j) = oneD x0 x1 x2 x3 r j := by
  unfold out0_A_4 oneD
  rw [View.read_writes_eq_canon _ _ _ (cover0_A_4 c i arg1 harg1 arg2 harg2 arg3 harg3 arg4 harg4 arg5 harg5 arg6 harg6 arg7 harg7 hc0 x0 x1 x2 x3)]
  unfold kernelRun0_A; dsimp only; sl_unfold_words
  rw [View.canon_cons_unit_zero zero2]
  simp only [View.readAt_eq_ld, harg1.read_unread, harg2.read_unread, harg3.read_unread, harg4.read_unread]
  simp only [View.ld_unit_zero (S := S256x2048) zero2, View.ld_unit_zero (S := S1x2048) zero2]
  rw [pay4]

theorem out5_A (hc0 : cond0_0 i) :
    out0_A_5 c i arg1 harg1 arg2 harg2 arg3 harg3 arg4 harg4 arg5 harg5 arg6 harg6 arg7 harg7 hc0 x0 x1 x2 x3 (ix2 r j) = oneD x0 x1 x2 x3 r j := by
  unfold out0_A_5 oneD
  rw [View.read_writes_eq_canon _ _ _ (cover0_A_5 c i arg1 harg1 arg2 harg2 arg3 harg3 arg4 harg4 arg5 harg5 arg6 harg6 arg7 harg7 hc0 x0 x1 x2 x3)]
  unfold kernelRun0_A; dsimp only; sl_unfold_words
  rw [View.canon_cons_unit_zero zero2]
  simp only [View.readAt_eq_ld, harg1.read_unread, harg2.read_unread, harg3.read_unread, harg4.read_unread]
  simp only [View.ld_unit_zero (S := S256x2048) zero2, View.ld_unit_zero (S := S1x2048) zero2]
  unfold k0_pay5
  pointwise
  rw [pay4]

theorem out6_A (hc0 : cond0_0 i) :
    out0_A_6 c i arg1 harg1 arg2 harg2 arg3 harg3 arg4 harg4 arg5 harg5 arg6 harg6 arg7 harg7 hc0 x0 x1 x2 x3 (ix2 u j) = oneG x0 x2 j := by
  unfold out0_A_6 oneG
  rw [View.read_writes_eq_canon _ _ _ (cover0_A_6 c i arg1 harg1 arg2 harg2 arg3 harg3 arg4 harg4 arg5 harg5 arg6 harg6 arg7 harg7 hc0 x0 x1 x2 x3)]
  unfold kernelRun0_A; dsimp only; sl_unfold_words
  rw [View.canon_cons_unit_zero zero2]
  simp only [View.readAt_eq_ld, harg1.read_unread, harg2.read_unread, harg3.read_unread, harg4.read_unread]
  simp only [View.ld_unit_zero (S := S256x2048) zero2, View.ld_unit_zero (S := S1x2048) zero2, readCov_all (S := S8x2048) _ _ zero2, View.canon_unit_zero (S := S8x2048) zero2]
  rw [pay1]
  unfold k0_pay6
  pointwise

theorem out4_B (hc0 : ¬cond0_0 i) :
    out0_B_4 c i arg1 harg1 arg2 harg2 arg3 harg3 arg4 harg4 arg5 harg5 arg6 harg6 arg7 harg7 hc0 x0 x1 x2 x3 x6 (ix2 r j) = oneD x0 x1 x2 x3 r j := by
  unfold out0_B_4 oneD
  rw [View.read_writes_eq_canon _ _ _ (cover0_B_4 c i arg1 harg1 arg2 harg2 arg3 harg3 arg4 harg4 arg5 harg5 arg6 harg6 arg7 harg7 hc0 x0 x1 x2 x3 x6)]
  unfold kernelRun0_B; dsimp only; sl_unfold_words
  rw [View.canon_cons_unit_zero zero2]
  simp only [View.readAt_eq_ld, harg1.read_unread, harg2.read_unread, harg3.read_unread, harg4.read_unread]
  simp only [View.ld_unit_zero (S := S256x2048) zero2, View.ld_unit_zero (S := S1x2048) zero2]
  rw [pay4]

theorem out5_B (hc0 : ¬cond0_0 i) :
    out0_B_5 c i arg1 harg1 arg2 harg2 arg3 harg3 arg4 harg4 arg5 harg5 arg6 harg6 arg7 harg7 hc0 x0 x1 x2 x3 x6 (ix2 r j) = oneD x0 x1 x2 x3 r j := by
  unfold out0_B_5 oneD
  rw [View.read_writes_eq_canon _ _ _ (cover0_B_5 c i arg1 harg1 arg2 harg2 arg3 harg3 arg4 harg4 arg5 harg5 arg6 harg6 arg7 harg7 hc0 x0 x1 x2 x3 x6)]
  unfold kernelRun0_B; dsimp only; sl_unfold_words
  rw [View.canon_cons_unit_zero zero2]
  simp only [View.readAt_eq_ld, harg1.read_unread, harg2.read_unread, harg3.read_unread, harg4.read_unread]
  simp only [View.ld_unit_zero (S := S256x2048) zero2, View.ld_unit_zero (S := S1x2048) zero2]
  unfold k0_pay5
  pointwise
  rw [pay4]

theorem out6_B (hc0 : ¬cond0_0 i) :
    out0_B_6 c i arg1 harg1 arg2 harg2 arg3 harg3 arg4 harg4 arg5 harg5 arg6 harg6 arg7 harg7 hc0 x0 x1 x2 x3 x6 (ix2 u j) = x6 (ix2 u j) + oneG x0 x2 j := by
  unfold out0_B_6 oneG
  rw [View.read_writes_eq_canon _ _ _ (cover0_B_6 c i arg1 harg1 arg2 harg2 arg3 harg3 arg4 harg4 arg5 harg5 arg6 harg6 arg7 harg7 hc0 x0 x1 x2 x3 x6)]
  unfold kernelRun0_B; dsimp only; sl_unfold_words
  rw [View.canon_cons_unit_zero zero2]
  simp only [View.readAt_eq_ld, harg1.read_unread, harg2.read_unread, harg3.read_unread, harg4.read_unread, harg7.read_unread]
  simp only [View.ld_unit_zero (S := S256x2048) zero2, View.ld_unit_zero (S := S1x2048) zero2, View.ld_unit_zero (S := S8x2048) zero2]
  rw [pay1]
end

end Cert.Norm
end
-- ==== Proof.NormArr.lean ====
/-
  The call for the gradient of a norm: what its output arrays hold after all 32 grid points.
-/
module
public import proofs.«01_k».proof.Proof.Norm

@[expose] public section
set_option maxRecDepth 16384
noncomputable section
namespace Cert.Norm
open Idealize.ShloMosaic Idealize.ShloMosaic.TcCoe Idealize.ShloMosaic.Tactic
open Idealize.SL Idealize.SL.Sem
open Cert.Kernel7Ideal Cert.Kernel7Ideal.Gen Cert.Ffn
open scoped BigOperators

theorem rN : 32 * 256 = 8192 := by decide
theorem idx : ∀ t : Fin cfg0.N, (win0_0.index t = ![t.val, 0] ∧ win0_1.index t = ![0, 0]) ∧ (win0_2.index t = ![t.val, 0] ∧ win0_3.index t = ![t.val, 0])
    ∧ (win0_4.index t = ![t.val, 0] ∧ win0_5.index t = ![t.val, 0]) ∧ win0_6.index t = ![0, 0] := by
  decide +kernel
theorem cov4 : (cfg0.win 4).Covers := by decide +kernel
theorem cov5 : (cfg0.win 5).Covers := by decide +kernel
theorem cov6 : (cfg0.win 6).Covers := by decide +kernel

variable (m : (ℓ : Loc nD τ sig) → Buf (Elt Ideal) ℓ) (c : Dev nD)

/-- The arguments as arrays. -/
abbrev a0 : FVec Ideal S8192x2048 .f32 := m ((c.tc : Thread nD τ).loc main_arg0)
abbrev a1 : FVec Ideal S2048 .f32 := m ((c.tc : Thread nD τ).loc main_arg1)
abbrev a2 : FVec Ideal S8192x2048 .f32 := m ((c.tc : Thread nD τ).loc main_arg2)
abbrev a3 : FVec Ideal S8192x2048 .f32 := m ((c.tc : Thread nD τ).loc main_arg3)

theorem lt (t : Fin cfg0.N) : t.val < 32 := N_0 ▸ t.2
/-- The rows of a grid point. -/
def row (t : Fin cfg0.N) (r : Fin 256) : Fin 8192 := blkAt rN ⟨t.val, lt t⟩ r

theorem blk0 (t : Fin cfg0.N) (r : Fin 256) (j : Fin 2048) : iblk m c 0 t (ix2 r j) = a0 m c (ix2 (row t r) j) := by
  unfold row blkAt
  blk_ext [iblk, (idx t).1.1]
theorem blk2 (t : Fin cfg0.N) (r : Fin 256) (j : Fin 2048) : iblk m c 2 t (ix2 r j) = a2 m c (ix2 (row t r) j) := by
  unfold row blkAt
  blk_ext [iblk, (idx t).2.1.1]
theorem blk3 (t : Fin cfg0.N) (r : Fin 256) (j : Fin 2048) : iblk m c 3 t (ix2 r j) = a3 m c (ix2 (row t r) j) := by
  unfold row blkAt
  blk_ext [iblk, (idx t).2.1.2]

/-- The norm's weight as the call takes it: one row. -/
theorem host (j : Fin 2048) (u : Fin 1) : (V m c main_v0 : FVec Ideal S1x2048 .f32) (ix2 u j) = a1 m c (ix1 j) := by
  show StableHlo.after (List.flatten [hostOps0]) (fun b => m (c, b)) (Proc.devRef .tc main_v0) (ix2 u j) = _
  simp only [List.flatten_cons, List.flatten_nil, List.append_nil, StableHlo.after_cons, StableHlo.after_nil]
  after_results_simp
  show shapeCast S1x2048 (a1 m c) shapeCasts_S2048_S1x2048 (ix2 u j) = _
  pointwise
theorem blk1 (t : Fin cfg0.N) (u : Fin 1) (j : Fin 2048) : iblk m c 1 t (ix2 u j) = a1 m c (ix1 j) := by
  rw [← host m c j u]
  blk_ext [iblk, (idx t).1.2]

/-- The gradient with the residual's, entry by entry. -/
def grad (x : Fin 8192) (y : Fin 2048) : EReal :=
  dx (fun k => a0 m c (ix2 x k)) (fun k => a2 m c (ix2 x k) * a1 m c (ix1 k)) y + a3 m c (ix2 x y)
/-- One row's part of the weight's gradient. -/
def wrow (y : Fin 2048) (x : Fin 8192) : EReal := a2 m c (ix2 x y) * (a0 m c (ix2 x y) * rs fun k => a0 m c (ix2 x k))
/-- One block's part of it. -/
def part (y : Fin 2048) (p : Fin 32) : EReal := ∑ r : Fin 256, wrow m c y (blkAt rN p r)

theorem oneD_eq (t : Fin cfg0.N) (r : Fin 256) (j : Fin 2048) :
    oneD (iblk m c 0 t) (iblk m c 1 t) (iblk m c 2 t) (iblk m c 3 t) r j = grad m c (row t r) j := by
  unfold oneD grad
  simp only [blk0, blk1, blk2, blk3]
theorem oneG_eq (t : Fin cfg0.N) (j : Fin 2048) :
    oneG (iblk m c 0 t) (iblk m c 2 t) j = part m c j ⟨t.val, lt t⟩ := by
  unfold oneG part wrow
  simp only [blk0, blk2]
  rfl

theorem pt4 (t : Fin cfg0.N) (r : Fin 256) (j : Fin 2048) : (outsAt0 m c t.val t.isLt).1 (ix2 r j) = grad m c (row t r) j := by
  by_cases h : t.val % 32 = 0
  · rw [outsAt0_A m c t h]; dsimp only; rw [out4_A, oneD_eq]
  · rw [outsAt0_B m c t h]; dsimp only; rw [out4_B, oneD_eq]
theorem pt5 (t : Fin cfg0.N) (r : Fin 256) (j : Fin 2048) : (outsAt0 m c t.val t.isLt).2.1 (ix2 r j) = grad m c (row t r) j := by
  by_cases h : t.val % 32 = 0
  · rw [outsAt0_A m c t h]; dsimp only; rw [out5_A, oneD_eq]
  · rw [outsAt0_B m c t h]; dsimp only; rw [out5_B, oneD_eq]

/-- The blocks' parts that are in the sum after point `n`. -/
theorem pt6 (u : Fin 8) (j : Fin 2048) : ∀ (n : ℕ) (h : n < cfg0.N),
    (outsAt0 m c n h).2.2 (ix2 u j) = ∑ p ∈ Finset.range (n + 1), if hp : p < 32 then part m c j ⟨p, hp⟩ else 0 := by
  intro n
  induction n with
  | zero =>
    intro h
    rw [show outsAt0 m c 0 h = _ from outsAt0_A m c ⟨0, h⟩ rfl]; dsimp only
    rw [out6_A, oneG_eq]
    simp
  | succ n ih =>
    intro h
    have hn : n + 1 < 32 := lt ⟨n + 1, h⟩
    rw [show outsAt0 m c (n + 1) h = _ from outsAt0_B m c ⟨n + 1, h⟩ (by show ¬(n + 1) % 32 = 0; omega)]; dsimp only
    rw [out6_B, oneG_eq, Finset.sum_range_succ, dif_pos hn]
    refine congrArg (· + _) ?_
    exact ih _

/-- The gradient's two arrays. -/
theorem arr4 : (dats m 0 c).arrAt 4 cfg0.N = fun y : S8192x2048.Idx => grad m c (y 0) (y 1) := by
  refine (dats m 0 c).arrAt_eq_of_covers 4 _ cov4 fun t hf y => ?_
  obtain ⟨r, s, rfl⟩ : ∃ (r : Fin 256) (s : Fin 2048), y = ix2 r s := ⟨y 0, y 1, eq_ix2 y⟩
  have e0 : (((cfg0.win 4).blk t).view.emb (ix2 r s)) = ix2 (row t r) s := by
    unfold row blkAt
    blk_ext [(idx t).2.2.1.1]
  rw [e0]
  blk_simp
  rw [after0_4]
  exact pt4 m c t r s
theorem arr5 : (dats m 0 c).arrAt 5 cfg0.N = fun y : S8192x2048.Idx => grad m c (y 0) (y 1) := by
  refine (dats m 0 c).arrAt_eq_of_covers 5 _ cov5 fun t hf y => ?_
  obtain ⟨r, s, rfl⟩ : ∃ (r : Fin 256) (s : Fin 2048), y = ix2 r s := ⟨y 0, y 1, eq_ix2 y⟩
  have e0 : (((cfg0.win 5).blk t).view.emb (ix2 r s)) = ix2 (row t r) s := by
    unfold row blkAt
    blk_ext [(idx t).2.2.1.2]
  rw [e0]
  blk_simp
  rw [after0_5]
  exact pt5 m c t r s
/-- The weight's gradient, in each of the output's eight rows. -/
theorem arr6 : (dats m 0 c).arrAt 6 cfg0.N = fun y : S8x2048.Idx => ∑ x : Fin 8192, wrow m c (y 1) x := by
  refine (dats m 0 c).arrAt_eq_of_covers 6 _ cov6 fun t hf y => ?_
  obtain ⟨u, s, rfl⟩ : ∃ (u : Fin 8) (s : Fin 2048), y = ix2 u s := ⟨y 0, y 1, eq_ix2 y⟩
  have e0 : (((cfg0.win 6).blk t).view.emb (ix2 u s)) = ix2 u s := by
    blk_ext [(idx t).2.2.2]
  rw [e0]
  blk_simp
  rw [after0_6]
  have h31 : t.val = 31 := by have h1 := (flush0_6 t).mp hf; have h2 := lt t; omega
  refine (pt6 m c u s t.val t.isLt).trans ?_
  rw [h31, Finset.sum_range]
  show _ = ∑ x : Fin 8192, wrow m c s x
  rw [← sum_blocks rN]
  refine Finset.sum_congr rfl fun p _ => ?_
  rw [dif_pos p.2]
  rfl

end Cert.Norm
end
-- ==== Proof.SameNorm.lean ====
/-
  The gradient of a norm and its plain formula are the same arrays.
-/
module
public import proofs.«01_k».proof.Proof.NormArr
public import proofs.«01_k».proof.Proof.Gen.Reference7Ideal.Run
public import Idealize.ShloMosaic.Lib.Claim
public import proofs.«01_k».proof.Defs

@[expose] public section
set_option maxRecDepth 16384
noncomputable section
namespace Cert.Norm
open Idealize.ShloMosaic Idealize.ShloMosaic.TcCoe Idealize.ShloMosaic.Tactic
open Idealize.SL Idealize.SL.Sem
open scoped BigOperators

section
open Cert.Reference7Ideal Cert.Reference7Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2.2, funext fun s => by
    have e : IsEmpty (SemLoc sig) := ⟨by decide⟩
    exact e.elim s.2⟩) (Value.run m ρ)

variable (X D R : FVec Ideal S8192x2048 .f32) (G : FVec Ideal S2048 .f32)

/-- The mean squares of the rows, and the rows' factors. -/
def rms : FVec Ideal S8192x1 .f32 :=
  addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))
def rrs : FVec Ideal S8192x1 .f32 := Host.rsqrt (rms X)
/-- The gradient of the normed rows, multiplied with the weight. -/
def rdn : FVec Ideal S8192x2048 .f32 :=
  mulf D (broadcastInDim S8192x2048 ![0, 1] bcast_S1x2048_S8192x2048_0_1 (broadcastInDim S1x2048 ![1] bcast_S2048_S1x2048_1 G))
/-- The gradient of the mean squares. -/
def rcc : FVec Ideal S8192 .f32 :=
  Host.reduceAdd (Host.divf (mulf (shapeCast _ (Host.reduceAdd (mulf X (rdn D G)) (constant S_ .f32 0x00000000#32) reducesTo_S8192x2048_S8192_d1 h_S_) shapeCasts_S8192_S8192x1) (mulf (broadcastInDim S8192x1 ![] bcast_S_S8192x1 (constant S_ .f32 0xBF000000#32)) (Host.divf (rrs X) (rms X)))) (broadcastInDim S8192x1 ![] bcast_S_S8192x1 (constant S_ .f32 0x45000000#32))) (constant S_ .f32 0x00000000#32) reducesTo_S8192x1_S8192_d1 h_S_

theorem rms_at (x : Fin 8192) (u : Fin 1) : rms X (ix2 x u) = ms fun k => X (ix2 x k) := by
  unfold rms ms
  pointwise
  rw [ofBits_width, ofBits_eps]
theorem rrs_at (x : Fin 8192) (u : Fin 1) : rrs X (ix2 x u) = rs fun k => X (ix2 x k) := by
  unfold rrs rs
  pointwise
  rw [rms_at]
theorem rdn_at (x : Fin 8192) (y : Fin 2048) : rdn D G (ix2 x y) = D (ix2 x y) * G (ix1 y) := by
  unfold rdn
  pointwise
theorem rcc_at (x : Fin 8192) : rcc X D G (ix1 x) = cc (fun k => X (ix2 x k)) fun k => D (ix2 x k) * G (ix1 k) := by
  unfold rcc cc
  pointwise
  simp only [rrs_at, rms_at, rdn_at, ofBits_width, ofBits_half]
  exact Fin.sum_univ_one _

/-- The plain formula's gradient with the residual's. -/
def rgr : FVec Ideal S8192x2048 .f32 :=
  addf R (addf (addf (mulf (rdn D G) (broadcastInDim S8192x2048 ![0, 1] bcast_S8192x1_S8192x2048_0_1 (rrs X))) (mulf X (broadcastInDim S8192x2048 ![0] bcast_S8192_S8192x2048_0 (rcc X D G)))) (mulf (broadcastInDim S8192x2048 ![0] bcast_S8192_S8192x2048_0 (rcc X D G)) X))
/-- The plain formula's gradient of the weight. -/
def rdg : FVec Ideal S2048 .f32 :=
  Host.reduceAdd (shapeCast _ (Host.reduceAdd (mulf (mulf X (broadcastInDim S8192x2048 ![0, 1] bcast_S8192x1_S8192x2048_0_1 (rrs X))) D) (constant S_ .f32 0x00000000#32) reducesTo_S8192x2048_S2048_d0 h_S_) shapeCasts_S2048_S1x2048) (constant S_ .f32 0x00000000#32) reducesTo_S1x2048_S2048_d0 h_S_

theorem rgr_at (x : Fin 8192) (y : Fin 2048) :
    rgr X D R G (ix2 x y) = dx (fun k => X (ix2 x k)) (fun k => D (ix2 x k) * G (ix1 k)) y + R (ix2 x y) := by
  rw [← dx_eq, add_comm]
  unfold rgr
  pointwise
  simp only [rrs_at, rdn_at, rcc_at]
theorem rdg_at (y : Fin 2048) : rdg X D (ix1 y) = ∑ x : Fin 8192, D (ix2 x y) * (X (ix2 x y) * rs fun k => X (ix2 x k)) := by
  rw [Finset.sum_congr rfl fun x _ => mul_comm (D (ix2 x y)) _]
  unfold rdg
  pointwise
  simp only [rrs_at]
  exact Fin.sum_univ_one _
end

section
open Cert.Kernel7Ideal Cert.Kernel7Ideal.Gen
variable (m : (ℓ : Loc nD τ sig) → Buf (Elt Ideal) ℓ) (ρ : Dev nD → PrngReg) (c : Dev nD)

/-- The weight's gradient. -/
def wgrad (y : Fin 2048) : EReal := ∑ x : Fin 8192, wrow m c y x

/-- The first of the eight rows. -/
theorem cut (Z : FVec Ideal S8x2048 .f32) (hZ : Z = fun y : S8x2048.Idx => ∑ x : Fin 8192, wrow m c (y 1) x) (y : Fin 2048) :
    shapeCast S2048 (extractStridedSlice S1x2048 ![0, 0] Z slices_S8x2048_S1x2048_0_0 : FVec Ideal S1x2048 .f32) shapeCasts_S1x2048_S2048 (ix1 y) = wgrad m c y := by
  unfold wgrad
  rw [hZ]
  pointwise
theorem res6 : Pipeline.afterTail₀ cfgs (dats m) 0 (V0 m) [hostOps1] c main_v3 = fun y : S2048.Idx => wgrad m c (y 0) := by
  funext y
  obtain ⟨j, rfl⟩ : ∃ j : Fin 2048, y = ix1 j := ⟨y 0, eq_ix1 y⟩
  refine Eq.trans ?_ (cut m c _ ((Pipeline.withArrays_arr spec0 launch0.win.arr_inj c (V0 m c) (fun w => (dats m 0 c).arrAt w cfg0.N) 6).trans (arr6 m c)) j)
  unfold Pipeline.afterTail₀
  simp only [List.flatten_cons, List.flatten_nil, List.append_nil, StableHlo.after_cons, StableHlo.after_nil]
  after_results_simp
  rfl

theorem run : θ_run defs (onTc (τ := τ) (main (F := Ideal))) ⟨m, fun _ => 0, ρ⟩ fun r => ∀ c : Dev nD,
      r.2.mem ((c.tc : Thread nD τ).loc main_v1_0) = (fun y : S8192x2048.Idx => grad m c (y 0) (y 1))
      ∧ r.2.mem ((c.tc : Thread nD τ).loc main_v1_1) = (fun y : S8192x2048.Idx => grad m c (y 0) (y 1))
      ∧ r.2.mem ((c.tc : Thread nD τ).loc main_v3) = (fun y : S2048.Idx => wgrad m c (y 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 4).trans (arr4 m c), ((h.1 c).1 5).trans (arr5 m c),
      ((h.1 c).2 main_v3 (by decide)).trans (res6 m c), h.2 c⟩)
    (θ_run_and (run_main m ρ) (unchanged m ρ))
end

/-- The two programs return the same arrays. -/
theorem same : Cert.algebraic_Kernel7Ideal_Reference7Ideal := by
  intro m ρ m' ρ' _ hm
  refine ⟨fun c => fun y : Cert.Kernel7Ideal.S8192x2048.Idx => grad m c (y 0) (y 1), fun c => fun y : Cert.Kernel7Ideal.S8192x2048.Idx => grad m c (y 0) (y 1),
    fun c => fun y : Cert.Kernel7Ideal.S2048.Idx => wgrad m c (y 0), ?_, ?_⟩
  · exact run m ρ
  · refine (θ_run Cert.Reference7Ideal.defs _ _).mono (fun r h c => ?_) (Cert.Reference7Ideal.Value.run (F := Ideal) m' ρ')
    obtain ⟨h0, h1, h2, h3⟩ := h c
    have e : ∀ y : Cert.Kernel7Ideal.S8192x2048.Idx, rgr (a0 m c) (a2 m c) (a3 m c) (a1 m c) y = grad m c (y 0) (y 1) := fun y => by
      obtain ⟨i, j, rfl⟩ : ∃ (i : Fin 8192) (j : Fin 2048), y = ix2 i j := ⟨y 0, y 1, eq_ix2 y⟩
      exact rgr_at _ _ _ _ i j
    refine ⟨h0.trans ?_, h1.trans ?_, h2.trans ?_, h3⟩
    · rw [(hm c).1, (hm c).2.1, (hm c).2.2.1, (hm c).2.2.2]
      exact funext e
    · rw [(hm c).1, (hm c).2.1, (hm c).2.2.1, (hm c).2.2.2]
      exact funext e
    · rw [(hm c).1, (hm c).2.2.1]
      funext y
      obtain ⟨j, rfl⟩ : ∃ j : Fin 2048, y = ix1 j := ⟨y 0, eq_ix1 y⟩
      exact rdg_at _ _ j

end Cert.Norm
end
-- ==== Proof.Loss.lean ====
/-
  The call for the loss and its gradient: what its output arrays hold after all 32 grid points. A point works on 256 rows;
  the loss is added up over the points.
-/
module
public import proofs.«01_k».proof.Proof.Gen.Kernel9Ideal.Frame
public import proofs.«01_k».proof.Proof.NormReal
public import proofs.«01_k».proof.Proof.Blocks
public import Idealize.ShloMosaic.Lib.Tactic
public import Idealize.ShloMosaic.Lib.Pipeline.ValueKit

@[expose] public section
set_option maxRecDepth 16384
noncomputable section
namespace Cert.Loss
open Idealize.ShloMosaic Idealize.ShloMosaic.TcCoe Idealize.ShloMosaic.Tactic
open Idealize.SL Idealize.SL.Sem
open Cert.Kernel9Ideal Cert.Kernel9Ideal.Gen Cert.Ffn
open scoped BigOperators

/-- The weight of a square in the loss, and of a difference in its gradient. -/
def wt : ℝ := 1 / 4096
def wd : ℝ := 1 / 2048
theorem ofBits_wt : Ideal.ofBits .f32 0x39800000#32 = ((wt : ℝ) : EReal) := by
  unfold wt
  simp [Ideal.ofBits, Ideal.ieee, -EReal.coe_mul]; norm_num
theorem ofBits_wd : Ideal.ofBits .f32 0x3A000000#32 = ((wd : ℝ) : EReal) := by
  unfold wd
  simp [Ideal.ofBits, Ideal.ieee, -EReal.coe_mul]; norm_num

/-- The square of a difference. -/
def sq (x y : EReal) : EReal := (x - y) * (x - y)

section
variable (x y : Vec Ideal S256x2048 .f32) (r : Fin 256) (j : Fin 2048)

theorem pay2 : k0_pay2 x y (ix2 r j) = (x (ix2 r j) - y (ix2 r j)) * (wd : EReal) := by
  unfold k0_pay2 k0_pay1
  pointwise
  rw [ofBits_wd]

/-- The block's part of the loss, added to what was there. -/
theorem pay4 (a : Vec Ideal S8x128 .f32) (u : Fin 8) (v : Fin 128) :
    k0_pay4 x y a (ix2 u v) = a (ix2 u v) + (wt : EReal) * ∑ r : Fin 256, ∑ j : Fin 2048, sq (x (ix2 r j)) (y (ix2 r j)) := by
  unfold k0_pay4 k0_pay1 sq
  pointwise
  rw [ofBits_wt]
end

section
variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S8x128 .f32) (harg3 : arg3.IsWhole) (arg4 : Memref sig .tc .vmem S256x2048 .f32) (harg4 : arg4.IsWhole)
  (x0 x1 : Vec Ideal S256x2048 .f32) (x2 : Vec Ideal S8x128 .f32) (r : Fin 256) (u : Fin 8) (v : Fin 128) (j : Fin 2048)

/-- The block's part of the loss. -/
def oneL : EReal := (wt : EReal) * ∑ r : Fin 256, ∑ j : Fin 2048, sq (x0 (ix2 r j)) (x1 (ix2 r j))

theorem out2_A (hc0 : cond0_0 i) : out0_A_2 c i arg1 harg1 arg2 harg2 arg3 harg3 arg4 harg4 hc0 x0 x1 (ix2 u v) = oneL x0 x1 := by
  unfold out0_A_2 oneL
  rw [View.read_writes_eq_canon _ _ _ (cover0_A_2 c i arg1 harg1 arg2 harg2 arg3 harg3 arg4 harg4 hc0 x0 x1)]
  unfold kernelRun0_A; dsimp only; sl_unfold_words
  rw [View.canon_cons_unit_zero zero2]
  simp only [View.readAt_eq_ld, harg1.read_unread, harg2.read_unread]
  simp only [View.ld_unit_zero (S := S256x2048) zero2, readCov_all (S := S8x128) _ _ zero2, View.canon_unit_zero (S := S8x128) zero2]
  rw [pay4]
  unfold k0_pay3
  pointwise

theorem out3_A (hc0 : cond0_0 i) : out0_A_3 c i arg1 harg1 arg2 harg2 arg3 harg3 arg4 harg4 hc0 x0 x1 (ix2 r j) = (x0 (ix2 r j) - x1 (ix2 r j)) * (wd : EReal) := by
  unfold out0_A_3
  rw [View.read_writes_eq_canon _ _ _ (cover0_A_3 c i arg1 harg1 arg2 harg2 arg3 harg3 arg4 harg4 hc0 x0 x1)]
  unfold kernelRun0_A; dsimp only; sl_unfold_words
  rw [View.canon_cons_unit_zero zero2]
  simp only [View.readAt_eq_ld, harg1.read_unread, harg2.read_unread]
  simp only [View.ld_unit_zero (S := S256x2048) zero2]
  rw [pay2]

theorem out2_B (hc0 : ¬cond0_0 i) : out0_B_2 c i arg1 harg1 arg2 harg2 arg3 harg3 arg4 harg4 hc0 x0 x1 x2 (ix2 u v) = x2 (ix2 u v) + oneL x0 x1 := by
  unfold out0_B_2 oneL
  rw [View.read_writes_eq_canon _ _ _ (cover0_B_2 c i arg1 harg1 arg2 harg2 arg3 harg3 arg4 harg4 hc0 x0 x1 x2)]
  unfold kernelRun0_B; dsimp only; sl_unfold_words
  rw [View.canon_cons_unit_zero zero2]
  simp only [View.readAt_eq_ld, harg1.read_unread, harg2.read_unread, harg3.read_unread]
  simp only [View.ld_unit_zero (S := S256x2048) zero2, View.ld_unit_zero (S := S8x128) zero2]
  rw [pay4]

theorem out3_B (hc0 : ¬cond0_0 i) : out0_B_3 c i arg1 harg1 arg2 harg2 arg3 harg3 arg4 harg4 hc0 x0 x1 x2 (ix2 r j) = (x0 (ix2 r j) - x1 (ix2 r j)) * (wd : EReal) := by
  unfold out0_B_3
  rw [View.read_writes_eq_canon _ _ _ (cover0_B_3 c i arg1 harg1 arg2 harg2 arg3 harg3 arg4 harg4 hc0 x0 x1 x2)]
  unfold kernelRun0_B; dsimp only; sl_unfold_words
  rw [View.canon_cons_unit_zero zero2]
  simp only [View.readAt_eq_ld, harg1.read_unread, harg2.read_unread]
  simp only [View.ld_unit_zero (S := S256x2048) zero2]
  rw [pay2]
end

/-! ## The arrays -/

theorem rN : 32 * 256 = 8192 := by decide
theorem idx : ∀ t : Fin cfg0.N, (win0_0.index t = ![t.val, 0] ∧ win0_1.index t = ![t.val, 0]) ∧ win0_2.index t = ![0, 0] ∧ win0_3.index t = ![t.val, 0] := by
  decide +kernel
theorem cov2 : (cfg0.win 2).Covers := by decide +kernel
theorem cov3 : (cfg0.win 3).Covers := by decide +kernel

variable (m : (ℓ : Loc nD τ sig) → Buf (Elt Ideal) ℓ) (c : Dev nD)

/-- The arguments as arrays. -/
abbrev a0 : FVec Ideal S8192x2048 .f32 := m ((c.tc : Thread nD τ).loc main_arg0)
abbrev a1 : FVec Ideal S8192x2048 .f32 := m ((c.tc : Thread nD τ).loc main_arg1)

theorem lt (t : Fin cfg0.N) : t.val < 32 := N_0 ▸ t.2
/-- The rows of a grid point. -/
def row (t : Fin cfg0.N) (r : Fin 256) : Fin 8192 := blkAt rN ⟨t.val, lt t⟩ r

theorem blk0 (t : Fin cfg0.N) (r : Fin 256) (j : Fin 2048) : iblk m c 0 t (ix2 r j) = a0 m c (ix2 (row t r) j) := by
  unfold row blkAt
  blk_ext [iblk, (idx t).1.1]
theorem blk1 (t : Fin cfg0.N) (r : Fin 256) (j : Fin 2048) : iblk m c 1 t (ix2 r j) = a1 m c (ix2 (row t r) j) := by
  unfold row blkAt
  blk_ext [iblk, (idx t).1.2]

/-- The gradient, entry by entry. -/
def grad (x : Fin 8192) (y : Fin 2048) : EReal := (a0 m c (ix2 x y) - a1 m c (ix2 x y)) * (wd : EReal)
/-- One row's squares. -/
def rowL (x : Fin 8192) : EReal := ∑ j : Fin 2048, sq (a0 m c (ix2 x j)) (a1 m c (ix2 x j))
/-- One block's part of the loss. -/
def part (p : Fin 32) : EReal := (wt : EReal) * ∑ r : Fin 256, rowL m c (blkAt rN p r)
/-- The loss. -/
def loss : EReal := (wt : EReal) * ∑ x : Fin 8192, rowL m c x

theorem oneL_eq (t : Fin cfg0.N) : oneL (iblk m c 0 t) (iblk m c 1 t) = part m c ⟨t.val, lt t⟩ := by
  unfold oneL part rowL
  simp only [blk0, blk1]
  rfl
theorem sum_parts : (∑ p : Fin 32, part m c p) = loss m c := by
  unfold part loss
  rw [Norm.dist_sum (by unfold wt; norm_num), sum_blocks rN]

theorem pt3 (t : Fin cfg0.N) (r : Fin 256) (j : Fin 2048) : (outsAt0 m c t.val t.isLt).2 (ix2 r j) = grad m c (row t r) j := by
  unfold grad
  by_cases h : t.val % 32 = 0
  · rw [outsAt0_A m c t h]; dsimp only; rw [out3_A, blk0, blk1]
  · rw [outsAt0_B m c t h]; dsimp only; rw [out3_B, blk0, blk1]

/-- The blocks' parts that are in the loss after point `n`. -/
theorem pt2 (u : Fin 8) (v : Fin 128) : ∀ (n : ℕ) (h : n < cfg0.N),
    (outsAt0 m c n h).1 (ix2 u v) = ∑ p ∈ Finset.range (n + 1), if hp : p < 32 then part m c ⟨p, hp⟩ else 0 := by
  intro n
  induction n with
  | zero =>
    intro h
    rw [show outsAt0 m c 0 h = _ from outsAt0_A m c ⟨0, h⟩ rfl]; dsimp only
    rw [out2_A, oneL_eq]
    simp
  | succ n ih =>
    intro h
    have hn : n + 1 < 32 := lt ⟨n + 1, h⟩
    rw [show outsAt0 m c (n + 1) h = _ from outsAt0_B m c ⟨n + 1, h⟩ (by show ¬(n + 1) % 32 = 0; omega)]; dsimp only
    rw [out2_B, oneL_eq, Finset.sum_range_succ, dif_pos hn]
    refine congrArg (· + _) ?_
    exact ih _

/-- The gradient's array. -/
theorem arr3 : (dats m 0 c).arrAt 3 cfg0.N = fun y : S8192x2048.Idx => grad m c (y 0) (y 1) := by
  refine (dats m 0 c).arrAt_eq_of_covers 3 _ cov3 fun t hf y => ?_
  obtain ⟨r, s, rfl⟩ : ∃ (r : Fin 256) (s : Fin 2048), y = ix2 r s := ⟨y 0, y 1, eq_ix2 y⟩
  have e0 : (((cfg0.win 3).blk t).view.emb (ix2 r s)) = ix2 (row t r) s := by
    unfold row blkAt
    blk_ext [(idx t).2.2]
  rw [e0]
  blk_simp
  rw [after0_3]
  exact pt3 m c t r s
/-- The loss, in every place of the call's output. -/
theorem arr2 : (dats m 0 c).arrAt 2 cfg0.N = fun _ : S8x128.Idx => loss m c := by
  refine (dats m 0 c).arrAt_eq_of_covers 2 _ cov2 fun t hf y => ?_
  obtain ⟨u, s, rfl⟩ : ∃ (u : Fin 8) (s : Fin 128), y = ix2 u s := ⟨y 0, y 1, eq_ix2 y⟩
  blk_simp
  rw [after0_2]
  have h31 : t.val = 31 := by have h1 := (flush0_2 t).mp hf; have h2 := lt t; omega
  refine (pt2 m c u s t.val t.isLt).trans ?_
  rw [h31, Finset.sum_range]
  show _ = loss m c
  rw [← sum_parts]
  refine Finset.sum_congr rfl fun p _ => ?_
  rw [dif_pos p.2]

end Cert.Loss
end
-- ==== Proof.SameLoss.lean ====
/-
  The loss and its gradient, and their plain formula, are the same.
-/
module
public import proofs.«01_k».proof.Proof.Loss
public import proofs.«01_k».proof.Proof.Gen.Reference9Ideal.Run
public import Idealize.ShloMosaic.Lib.Claim
public import proofs.«01_k».proof.Defs

@[expose] public section
set_option maxRecDepth 16384
noncomputable section
namespace Cert.Loss
open Idealize.ShloMosaic Idealize.ShloMosaic.TcCoe Idealize.ShloMosaic.Tactic
open Idealize.SL Idealize.SL.Sem
open scoped BigOperators

section
open Cert.Reference9Ideal Cert.Reference9Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2, funext fun s => by
    have e : IsEmpty (SemLoc sig) := ⟨by decide⟩
    exact e.elim s.2⟩) (Value.run m ρ)

theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

variable (X Y : FVec Ideal S8192x2048 .f32)

/-- The plain formula's loss and its gradient. -/
def rl : FVec Ideal S_ .f32 :=
  mulf (constant S_ .f32 0x3F000000#32) (Host.reduceAdd (Host.divf (Host.reduceAdd (mulf (subf X Y) (subf X Y)) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_)
def rg : FVec Ideal S8192x2048 .f32 :=
  mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (subf X Y))

theorem rl_at : rl X Y ix0 = (wt : EReal) * ∑ x : Fin 8192, ∑ j : Fin 2048, sq (X (ix2 x j)) (Y (ix2 x j)) := by
  have h : ∀ S : Fin 8192 → EReal, ((1 / 2 : ℝ) : EReal) * (∑ x, Ideal.div (S x) ((2048 : ℝ) : EReal)) = (wt : EReal) * ∑ x, S x := fun S => by
    rw [Finset.sum_congr rfl fun x _ => (Ideal.div_coe (by norm_num) (S x)).trans (mul_comm _ _), Norm.dist_sum (by norm_num),
      ← mul_assoc, ← EReal.coe_mul]
    congr 2
    unfold wt
    norm_num
  rw [← h]
  unfold rl sq
  pointwise
  rw [ofBits_half, Norm.ofBits_width]
theorem rg_at (x : Fin 8192) (y : Fin 2048) : rg X Y (ix2 x y) = (X (ix2 x y) - Y (ix2 x y)) * (wd : EReal) := by
  have h : ∀ d : EReal, Ideal.div ((1 / 2 : ℝ) : EReal) ((2048 : ℝ) : EReal) * (((2 : ℝ) : EReal) * d) = d * (wd : EReal) := fun d => by
    rw [Ideal.div_coe (by norm_num), ← EReal.coe_mul, ← mul_assoc, ← EReal.coe_mul, mul_comm]
    congr 2
    unfold wd
    norm_num
  rw [← h]
  unfold rg
  pointwise
  rw [ofBits_half, ofBits_two, Norm.ofBits_width]
end

section
open Cert.Kernel9Ideal Cert.Kernel9Ideal.Gen
variable (m : (ℓ : Loc nD τ sig) → Buf (Elt Ideal) ℓ) (ρ : Dev nD → PrngReg) (c : Dev nD)

/-- The place that the loss is read from. -/
theorem cut (Z : FVec Ideal S8x128 .f32) (hZ : Z = fun _ : S8x128.Idx => loss m c) :
    shapeCast S_ (extractStridedSlice S1x1 ![0, 0] Z slices_S8x128_S1x1_0_0 : FVec Ideal S1x1 .f32) shapeCasts_S1x1_S_ ix0 = loss m c := by
  rw [hZ]
  rfl
theorem res2 : Pipeline.afterTail₀ cfgs (dats m) 0 (V0 m) [hostOps1] c main_v2 = fun _ : S_.Idx => loss m c := by
  funext y
  obtain rfl : y = ix0 := funext fun a => a.elim0
  refine Eq.trans ?_ (cut m c _ ((Pipeline.withArrays_arr spec0 launch0.win.arr_inj c (V0 m c) (fun w => (dats m 0 c).arrAt w cfg0.N) 2).trans (arr2 m c)))
  unfold Pipeline.afterTail₀
  simp only [List.flatten_cons, List.flatten_nil, List.append_nil, StableHlo.after_cons, StableHlo.after_nil]
  after_results_simp
  rfl

theorem run : θ_run defs (onTc (τ := τ) (main (F := Ideal))) ⟨m, fun _ => 0, ρ⟩ fun r => ∀ c : Dev nD,
      r.2.mem ((c.tc : Thread nD τ).loc main_v2) = (fun _ : S_.Idx => loss m c)
      ∧ r.2.mem ((c.tc : Thread nD τ).loc main_v0_1) = (fun y : S8192x2048.Idx => grad m c (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v2 (by decide)).trans (res2 m c), ((h.1 c).1 3).trans (arr3 m c), h.2 c⟩)
    (θ_run_and (run_main m ρ) (unchanged m ρ))
end

/-- The two programs return the same loss and the same gradient. -/
theorem same : Cert.algebraic_Kernel9Ideal_Reference9Ideal := by
  intro m ρ m' ρ' _ hm
  refine ⟨fun c => fun _ : Cert.Kernel9Ideal.S_.Idx => loss m c, fun c => fun y : Cert.Kernel9Ideal.S8192x2048.Idx => grad m c (y 0) (y 1), ?_, ?_⟩
  · exact run m ρ
  · refine (θ_run Cert.Reference9Ideal.defs _ _).mono (fun r h c => ?_) (Cert.Reference9Ideal.Value.run (F := Ideal) m' ρ')
    obtain ⟨h0, h1, h2⟩ := h c
    refine ⟨h0.trans ?_, h1.trans ?_, h2⟩
    · rw [(hm c).1, (hm c).2]
      funext y
      obtain rfl : y = ix0 := funext fun a => a.elim0
      exact rl_at _ _
    · rw [(hm c).1, (hm c).2]
      funext y
      obtain ⟨i, j, rfl⟩ : ∃ (i : Fin 8192) (j : Fin 2048), y = ix2 i j := ⟨y 0, y 1, eq_ix2 y⟩
      exact rg_at _ _ i j

end Cert.Loss
end
-- ==== Proof.Emb.lean ====
/-
  The calls of the gate of the per-layer embeddings, forward and backward: what their output arrays hold after all their
  grid points.
-/
module
public import proofs.«01_k».proof.Proof.Gen.Kernel8Ideal.Frame
public import proofs.«01_k».proof.Proof.Blocks
public import Idealize.ShloMosaic.Lib.Tactic
public import Idealize.ShloMosaic.Lib.Pipeline.ValueKit

@[expose] public section
set_option maxRecDepth 16384
noncomputable section
namespace Cert.Emb
open Idealize.ShloMosaic Idealize.ShloMosaic.TcCoe Idealize.ShloMosaic.Tactic
open Idealize.SL Idealize.SL.Sem
open Cert.Kernel8Ideal Cert.Kernel8Ideal.Gen Cert.Ffn
open scoped BigOperators

/-! ## Formulas -/

/-- The logistic function. -/
def sg (t : EReal) : EReal := Ideal.div 1 (1 + Ideal.exp (-t))
/-- A product, and a product with the second factor transposed. -/
def mm {m n k : ℕ} (x : Fin m → Fin k → EReal) (w : Fin k → Fin n → EReal) (i : Fin m) (j : Fin n) : EReal := ∑ l, x i l * w l j
def mt {m n k : ℕ} (x : Fin m → Fin k → EReal) (w : Fin n → Fin k → EReal) (i : Fin m) (j : Fin n) : EReal := ∑ l, x i l * w j l
/-- The gate's gradients, to the gate and to the embedding. -/
def gz (e z p : EReal) : EReal := e * p * (sg z * (1 - sg z))
def gp (e z : EReal) : EReal := e * sg z

/-! ## One grid point -/

section
variable (x0 : Vec Ideal S1024x256 .bf16) (x1 : Vec Ideal S256x1024 .bf16)
  (y0 : Vec Ideal S1024x2048 .bf16) (y1 : Vec Ideal S2048x1024 .bf16) (y2 : Vec Ideal S1024x1024 .f32) (y3 : Vec Ideal S1024x1024 .bf16)
  (u0 : Vec Ideal S256x2048 .f32) (u1 u2 : Vec Ideal S256x2048 .bf16) (v1 : Vec Ideal S1024x2048 .bf16)

theorem pt0 (r s : Fin 1024) : out0_2 x0 x1 (ix2 r s) = mm (fun i l => x0 (ix2 i l)) (fun l j => x1 (ix2 l j)) r s := by
  unfold out0_2
  rw [View.canon_unit_zero zero2, View.ld_unit_zero (S := S1024x256) zero2, View.ld_unit_zero (S := S256x1024) zero2]
  unfold k0_pay1 mm
  pointwise
theorem pay1_1 (r s : Fin 1024) : k1_pay1 y0 y1 (ix2 r s) = mm (fun i l => y0 (ix2 i l)) (fun l j => y1 (ix2 l j)) r s := by
  unfold k1_pay1 mm
  pointwise
theorem pt1_4 (r s : Fin 1024) : out1_4 y0 y1 y2 y3 (ix2 r s) = mm (fun i l => y0 (ix2 i l)) (fun l j => y1 (ix2 l j)) r s := by
  unfold out1_4
  rw [View.canon_unit_zero zero2, View.ld_unit_zero (S := S1024x2048) zero2, View.ld_unit_zero (S := S2048x1024) zero2]
  unfold k1_pay2
  pointwise
  exact pay1_1 y0 y1 r s
theorem pt1_5 (r s : Fin 1024) : out1_5 y0 y1 y2 y3 (ix2 r s) = y2 (ix2 r s) + sg (mm (fun i l => y0 (ix2 i l)) (fun l j => y1 (ix2 l j)) r s) * y3 (ix2 r s) := by
  unfold out1_5
  rw [View.canon_unit_zero zero2, View.ld_unit_zero (S := S1024x2048) zero2, View.ld_unit_zero (S := S2048x1024) zero2]
  simp only [View.ld_unit_zero (S := S1024x1024) zero2]
  unfold k1_pay3 sg
  pointwise
  rw [pay1_1, zero_sub]
theorem pay2_1 (r : Fin 256) (s : Fin 2048) : k2_pay1 u1 (ix2 r s) = sg (u1 (ix2 r s)) := by
  unfold k2_pay1 sg
  pointwise
  rw [zero_sub]
theorem pt2_3 (r : Fin 256) (s : Fin 2048) : out2_3 u0 u1 u2 (ix2 r s) = gz (u0 (ix2 r s)) (u1 (ix2 r s)) (u2 (ix2 r s)) := by
  unfold out2_3
  rw [View.canon_unit_zero zero2]
  simp only [View.ld_unit_zero (S := S256x2048) zero2]
  unfold k2_pay2 gz
  pointwise
  rw [pay2_1, mul_assoc]
theorem pt2_4 (r : Fin 256) (s : Fin 2048) : out2_4 u0 u1 u2 (ix2 r s) = gp (u0 (ix2 r s)) (u1 (ix2 r s)) := by
  unfold out2_4
  rw [View.canon_unit_zero zero2]
  simp only [View.ld_unit_zero (S := S256x2048) zero2]
  unfold k2_pay3 gp
  pointwise
  rw [pay2_1]
theorem pt3 (r s : Fin 1024) : out3_2 y0 v1 (ix2 r s) = mt (fun i l => y0 (ix2 i l)) (fun j l => v1 (ix2 j l)) r s := by
  unfold out3_2
  rw [View.canon_unit_zero zero2]
  simp only [View.ld_unit_zero (S := S1024x2048) zero2]
  unfold k3_pay1 mt
  pointwise
end

/-! ## The arrays -/

theorem r8 : 8 * 1024 = 8192 := by decide
theorem c2 : 2 * 1024 = 2048 := by decide
theorem r32 : 32 * 256 = 8192 := by decide

theorem idx0 : ∀ t : Fin cfg0.N, win0_0.index t = ![t.val / 2, 0] ∧ win0_1.index t = ![0, t.val % 2] ∧ win0_2.index t = ![t.val / 2, t.val % 2] := by
  decide +kernel
theorem idx1 : ∀ t : Fin cfg1.N, (win1_0.index t = ![t.val / 2, 0] ∧ win1_1.index t = ![0, t.val % 2] ∧ win1_2.index t = ![t.val / 2, t.val % 2])
    ∧ win1_3.index t = ![t.val / 2, t.val % 2] ∧ win1_4.index t = ![t.val / 2, t.val % 2] ∧ win1_5.index t = ![t.val / 2, t.val % 2] := by
  decide +kernel
theorem idx2 : ∀ t : Fin cfg2.N, (win2_0.index t = ![t.val, 0] ∧ win2_1.index t = ![t.val, 0] ∧ win2_2.index t = ![t.val, 0])
    ∧ win2_3.index t = ![t.val, 0] ∧ win2_4.index t = ![t.val, 0] := by
  decide +kernel
theorem idx3 : ∀ t : Fin cfg3.N, win3_0.index t = ![t.val / 2, 0] ∧ win3_1.index t = ![t.val % 2, 0] ∧ win3_2.index t = ![t.val / 2, t.val % 2] := by
  decide +kernel
theorem cov0_2 : (cfg0.win 2).Covers := by decide +kernel
theorem cov1_4 : (cfg1.win 4).Covers := by decide +kernel
theorem cov1_5 : (cfg1.win 5).Covers := by decide +kernel
theorem cov2_3 : (cfg2.win 3).Covers := by decide +kernel
theorem cov2_4 : (cfg2.win 4).Covers := by decide +kernel
theorem cov3_2 : (cfg3.win 2).Covers := by decide +kernel

/-- An array given entry by entry. -/
def arrOf (f : Fin 8192 → Fin 2048 → EReal) : S8192x2048.Idx → EReal := fun y => f (y 0) (y 1)

variable (V : (c : Dev nD) → (b : Ref sig .tc) → Buf (Elt Ideal) ((c : Thread nD τ).loc b)) (c : Dev nD)

theorem lt0 (t : Fin cfg0.N) : t.val < 16 := N_0 ▸ t.2
theorem lt1 (t : Fin cfg1.N) : t.val < 16 := N_1 ▸ t.2
theorem lt2 (t : Fin cfg2.N) : t.val < 32 := N_2 ▸ t.2
theorem lt3 (t : Fin cfg3.N) : t.val < 16 := N_3 ▸ t.2
/-- The rows and columns of a grid point of a product, and the rows of one of the gate's gradients. -/
def row (t : ℕ) (h : t < 16) (r : Fin 1024) : Fin 8192 := blkAt r8 ⟨t / 2, by omega⟩ r
def col (t : ℕ) (s : Fin 1024) : Fin 2048 := blkAt c2 ⟨t % 2, by omega⟩ s
def line (t : ℕ) (h : t < 32) (r : Fin 256) : Fin 8192 := blkAt r32 ⟨t, h⟩ r

theorem blk0_0 (t : Fin cfg0.N) (r : Fin 1024) (l : Fin 256) : iblk0 V c 0 t (ix2 r l) = V c main_arg2 (ix2 (row t.val (lt0 t) r) l) := by
  unfold row blkAt
  blk_ext [iblk0, (idx0 t).1]
theorem blk0_1 (t : Fin cfg0.N) (l : Fin 256) (s : Fin 1024) : iblk0 V c 1 t (ix2 l s) = V c main_arg3 (ix2 l (col t.val s)) := by
  unfold col blkAt
  blk_ext [iblk0, (idx0 t).2.1]
theorem blk1_0 (t : Fin cfg1.N) (r : Fin 1024) (l : Fin 2048) : iblk1 V c 0 t (ix2 r l) = V c main_arg0 (ix2 (row t.val (lt1 t) r) l) := by
  unfold row blkAt
  blk_ext [iblk1, (idx1 t).1.1]
theorem blk1_1 (t : Fin cfg1.N) (l : Fin 2048) (s : Fin 1024) : iblk1 V c 1 t (ix2 l s) = V c main_arg1 (ix2 l (col t.val s)) := by
  unfold col blkAt
  blk_ext [iblk1, (idx1 t).1.2.1]
theorem blk1_2 (t : Fin cfg1.N) (r s : Fin 1024) : iblk1 V c 2 t (ix2 r s) = V c main_arg4 (ix2 (row t.val (lt1 t) r) (col t.val s)) := by
  unfold row col blkAt
  blk_ext [iblk1, (idx1 t).1.2.2]
theorem blk1_3 (t : Fin cfg1.N) (r s : Fin 1024) : iblk1 V c 3 t (ix2 r s) = V c main_v0 (ix2 (row t.val (lt1 t) r) (col t.val s)) := by
  unfold row col blkAt
  blk_ext [iblk1, (idx1 t).2.1]
theorem blk2_0 (t : Fin cfg2.N) (r : Fin 256) (s : Fin 2048) : iblk2 V c 0 t (ix2 r s) = V c main_arg5 (ix2 (line t.val (lt2 t) r) s) := by
  unfold line blkAt
  blk_ext [iblk2, (idx2 t).1.1]
theorem blk2_1 (t : Fin cfg2.N) (r : Fin 256) (s : Fin 2048) : iblk2 V c 1 t (ix2 r s) = V c main_v1_0 (ix2 (line t.val (lt2 t) r) s) := by
  unfold line blkAt
  blk_ext [iblk2, (idx2 t).1.2.1]
theorem blk2_2 (t : Fin cfg2.N) (r : Fin 256) (s : Fin 2048) : iblk2 V c 2 t (ix2 r s) = V c main_v0 (ix2 (line t.val (lt2 t) r) s) := by
  unfold line blkAt
  blk_ext [iblk2, (idx2 t).1.2.2]
theorem blk3_0 (t : Fin cfg3.N) (r : Fin 1024) (l : Fin 2048) : iblk3 V c 0 t (ix2 r l) = V c main_v2_0 (ix2 (row t.val (lt3 t) r) l) := by
  unfold row blkAt
  blk_ext [iblk3, (idx3 t).1]
theorem blk3_1 (t : Fin cfg3.N) (s : Fin 1024) (l : Fin 2048) : iblk3 V c 1 t (ix2 s l) = V c main_arg1 (ix2 (col t.val s) l) := by
  unfold col blkAt
  blk_ext [iblk3, (idx3 t).2.1]

section
variable (X : Fin 8192 → Fin 256 → EReal) (W : Fin 256 → Fin 2048 → EReal)
  (h0 : ∀ i l, V c main_arg2 (ix2 i l) = X i l) (h1 : ∀ l j, V c main_arg3 (ix2 l j) = W l j)
include h0 h1
theorem arr0_2 : (dat0 V c).arrAt 2 cfg0.N = arrOf (mm X W) := by
  refine (dat0 V c).arrAt_eq_of_covers 2 _ cov0_2 fun t hf y => ?_
  obtain ⟨r, s, rfl⟩ : ∃ (r s : Fin 1024), y = ix2 r s := ⟨y 0, y 1, eq_ix2 y⟩
  have e0 : (((cfg0.win 2).blk t).view.emb (ix2 r s)) = ix2 (row t.val (lt0 t) r) (col t.val s) := by
    unfold row col blkAt
    blk_ext [(idx0 t).2.2]
  rw [e0]
  blk_simp
  rw [after0_2]
  refine (pt0 _ _ r s).trans ?_
  unfold mm
  simp only [blk0_0, blk0_1, h0, h1]
  rfl
end

section
variable (X : Fin 8192 → Fin 2048 → EReal) (W : Fin 2048 → Fin 2048 → EReal) (H P : Fin 8192 → Fin 2048 → EReal)
  (h0 : ∀ i l, V c main_arg0 (ix2 i l) = X i l) (h1 : ∀ l j, V c main_arg1 (ix2 l j) = W l j)
  (h2 : ∀ i j, V c main_arg4 (ix2 i j) = H i j) (h3 : ∀ i j, V c main_v0 (ix2 i j) = P i j)
include h0 h1
theorem arr1_4 : (dat1 V c).arrAt 4 cfg1.N = arrOf (mm X W) := by
  refine (dat1 V c).arrAt_eq_of_covers 4 _ cov1_4 fun t hf y => ?_
  obtain ⟨r, s, rfl⟩ : ∃ (r s : Fin 1024), y = ix2 r s := ⟨y 0, y 1, eq_ix2 y⟩
  have e0 : (((cfg1.win 4).blk t).view.emb (ix2 r s)) = ix2 (row t.val (lt1 t) r) (col t.val s) := by
    unfold row col blkAt
    blk_ext [(idx1 t).2.2.1]
  rw [e0]
  blk_simp
  rw [after1_4]
  refine (pt1_4 _ _ _ _ r s).trans ?_
  unfold mm
  simp only [blk1_0, blk1_1, h0, h1]
  rfl
include h2 h3
theorem arr1_5 : (dat1 V c).arrAt 5 cfg1.N = arrOf fun i j => H i j + sg (mm X W i j) * P i j := by
  refine (dat1 V c).arrAt_eq_of_covers 5 _ cov1_5 fun t hf y => ?_
  obtain ⟨r, s, rfl⟩ : ∃ (r s : Fin 1024), y = ix2 r s := ⟨y 0, y 1, eq_ix2 y⟩
  have e0 : (((cfg1.win 5).blk t).view.emb (ix2 r s)) = ix2 (row t.val (lt1 t) r) (col t.val s) := by
    unfold row col blkAt
    blk_ext [(idx1 t).2.2.2]
  rw [e0]
  blk_simp
  rw [after1_5]
  refine (pt1_5 _ _ _ _ r s).trans ?_
  unfold mm
  simp only [blk1_0, blk1_1, blk1_2, blk1_3, h0, h1, h2, h3]
  rfl
end

section
variable (E Z P : Fin 8192 → Fin 2048 → EReal)
  (h0 : ∀ i j, V c main_arg5 (ix2 i j) = E i j) (h1 : ∀ i j, V c main_v1_0 (ix2 i j) = Z i j) (h2 : ∀ i j, V c main_v0 (ix2 i j) = P i j)
include h0 h1
theorem arr2_4 : (dat2 V c).arrAt 4 cfg2.N = arrOf fun i j => gp (E i j) (Z i j) := by
  refine (dat2 V c).arrAt_eq_of_covers 4 _ cov2_4 fun t hf y => ?_
  obtain ⟨r, s, rfl⟩ : ∃ (r : Fin 256) (s : Fin 2048), y = ix2 r s := ⟨y 0, y 1, eq_ix2 y⟩
  have e0 : (((cfg2.win 4).blk t).view.emb (ix2 r s)) = ix2 (line t.val (lt2 t) r) s := by
    unfold line blkAt
    blk_ext [(idx2 t).2.2]
  rw [e0]
  blk_simp
  rw [after2_4]
  refine (pt2_4 _ _ _ r s).trans ?_
  rw [blk2_0, blk2_1, h0, h1]
  rfl
include h2
theorem arr2_3 : (dat2 V c).arrAt 3 cfg2.N = arrOf fun i j => gz (E i j) (Z i j) (P i j) := by
  refine (dat2 V c).arrAt_eq_of_covers 3 _ cov2_3 fun t hf y => ?_
  obtain ⟨r, s, rfl⟩ : ∃ (r : Fin 256) (s : Fin 2048), y = ix2 r s := ⟨y 0, y 1, eq_ix2 y⟩
  have e0 : (((cfg2.win 3).blk t).view.emb (ix2 r s)) = ix2 (line t.val (lt2 t) r) s := by
    unfold line blkAt
    blk_ext [(idx2 t).2.1]
  rw [e0]
  blk_simp
  rw [after2_3]
  refine (pt2_3 _ _ _ r s).trans ?_
  rw [blk2_0, blk2_1, blk2_2, h0, h1, h2]
  rfl
end

section
variable (D : Fin 8192 → Fin 2048 → EReal) (W : Fin 2048 → Fin 2048 → EReal)
  (h0 : ∀ i l, V c main_v2_0 (ix2 i l) = D i l) (h1 : ∀ j l, V c main_arg1 (ix2 j l) = W j l)
include h0 h1
theorem arr3_2 : (dat3 V c).arrAt 2 cfg3.N = arrOf (mt D W) := by
  refine (dat3 V c).arrAt_eq_of_covers 2 _ cov3_2 fun t hf y => ?_
  obtain ⟨r, s, rfl⟩ : ∃ (r s : Fin 1024), y = ix2 r s := ⟨y 0, y 1, eq_ix2 y⟩
  have e0 : (((cfg3.win 2).blk t).view.emb (ix2 r s)) = ix2 (row t.val (lt3 t) r) (col t.val s) := by
    unfold row col blkAt
    blk_ext [(idx3 t).2.2]
  rw [e0]
  blk_simp
  rw [after3_2]
  refine (pt3 _ _ r s).trans ?_
  unfold mt
  simp only [blk3_0, blk3_1, h0, h1]
  rfl
end

end Cert.Emb
end
-- ==== Proof.Mix.lean ====
/-
  A mixer's output product with the residual, and the gradient of the product's input: what the two calls' output arrays
  hold after all their grid points, and the run of both.
-/
module
public import proofs.«01_k».proof.Proof.Gen.Kernel10Ideal.Frame
public import proofs.«01_k».proof.Proof.Emb

@[expose] public section
set_option maxRecDepth 16384
noncomputable section
namespace Cert.Mix
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel10Ideal Cert.Kernel10Ideal.Gen Cert.Ffn
open Cert.Emb (mm mt row col arrOf)
open scoped BigOperators

/-! ## One grid point -/

section
variable (x0 : Vec Ideal S1024x2048 .bf16) (x1 : Vec Ideal S2048x1024 .bf16) (x2 : Vec Ideal S1024x1024 .f32) (y1 : Vec Ideal S1024x2048 .bf16)
theorem pt0 (r s : Fin 1024) : out0_3 x0 x1 x2 (ix2 r s) = x2 (ix2 r s) + mm (fun i l => x0 (ix2 i l)) (fun l j => x1 (ix2 l j)) r s := by
  unfold out0_3
  rw [View.canon_unit_zero zero2, View.ld_unit_zero (S := S1024x2048) zero2, View.ld_unit_zero (S := S2048x1024) zero2,
    View.ld_unit_zero (S := S1024x1024) zero2]
  unfold k0_pay1 mm
  pointwise
theorem pt1 (r s : Fin 1024) : out1_2 x0 y1 (ix2 r s) = mt (fun i l => x0 (ix2 i l)) (fun j l => y1 (ix2 j l)) r s := by
  unfold out1_2
  rw [View.canon_unit_zero zero2]
  simp only [View.ld_unit_zero (S := S1024x2048) zero2]
  unfold k1_pay1 Emb.mt
  pointwise
end

/-! ## The arrays -/

theorem idx0 : ∀ t : Fin cfg0.N, (win0_0.index t = ![t.val / 2, 0] ∧ win0_1.index t = ![0, t.val % 2])
    ∧ win0_2.index t = ![t.val / 2, t.val % 2] ∧ win0_3.index t = ![t.val / 2, t.val % 2] := by
  decide +kernel
theorem idx1 : ∀ t : Fin cfg1.N, win1_0.index t = ![t.val / 2, 0] ∧ win1_1.index t = ![t.val % 2, 0] ∧ win1_2.index t = ![t.val / 2, t.val % 2] := by
  decide +kernel
theorem cov0 : (cfg0.win 3).Covers := by decide +kernel
theorem cov1 : (cfg1.win 2).Covers := by decide +kernel

section
variable (V : (c : Dev nD) → (b : Ref sig .tc) → Buf (Elt Ideal) ((c : Thread nD τ).loc b)) (c : Dev nD)

theorem lt0 (t : Fin cfg0.N) : t.val < 16 := N_0 ▸ t.2
theorem lt1 (t : Fin cfg1.N) : t.val < 16 := N_1 ▸ t.2

theorem blk0_0 (t : Fin cfg0.N) (r : Fin 1024) (l : Fin 2048) : iblk0 V c 0 t (ix2 r l) = V c main_arg0 (ix2 (row t.val (lt0 t) r) l) := by
  unfold row blkAt
  blk_ext [iblk0, (idx0 t).1.1]
theorem blk0_1 (t : Fin cfg0.N) (l : Fin 2048) (s : Fin 1024) : iblk0 V c 1 t (ix2 l s) = V c main_arg1 (ix2 l (col t.val s)) := by
  unfold col blkAt
  blk_ext [iblk0, (idx0 t).1.2]
theorem blk0_2 (t : Fin cfg0.N) (r s : Fin 1024) : iblk0 V c 2 t (ix2 r s) = V c main_arg2 (ix2 (row t.val (lt0 t) r) (col t.val s)) := by
  unfold row col blkAt
  blk_ext [iblk0, (idx0 t).2.1]
theorem blk1_0 (t : Fin cfg1.N) (r : Fin 1024) (l : Fin 2048) : iblk1 V c 0 t (ix2 r l) = V c main_arg3 (ix2 (row t.val (lt1 t) r) l) := by
  unfold row blkAt
  blk_ext [iblk1, (idx1 t).1]
theorem blk1_1 (t : Fin cfg1.N) (s : Fin 1024) (l : Fin 2048) : iblk1 V c 1 t (ix2 s l) = V c main_arg1 (ix2 (col t.val s) l) := by
  unfold col blkAt
  blk_ext [iblk1, (idx1 t).2.1]

variable (X : Fin 8192 → Fin 2048 → EReal) (W : Fin 2048 → Fin 2048 → EReal) (H : Fin 8192 → Fin 2048 → EReal)
theorem arr0 (h0 : ∀ i l, V c main_arg0 (ix2 i l) = X i l) (h1 : ∀ l j, V c main_arg1 (ix2 l j) = W l j) (h2 : ∀ i j, V c main_arg2 (ix2 i j) = H i j) :
    (dat0 V c).arrAt 3 cfg0.N = arrOf fun i j => H i j + mm X W i j := by
  refine (dat0 V c).arrAt_eq_of_covers 3 _ cov0 fun t hf y => ?_
  obtain ⟨r, s, rfl⟩ : ∃ (r s : Fin 1024), y = ix2 r s := ⟨y 0, y 1, eq_ix2 y⟩
  have e0 : (((cfg0.win 3).blk t).view.emb (ix2 r s)) = ix2 (row t.val (lt0 t) r) (col t.val s) := by
    unfold row col blkAt
    blk_ext [(idx0 t).2.2]
  rw [e0]
  blk_simp
  rw [after0_3]
  refine (pt0 _ _ _ r s).trans ?_
  unfold mm
  simp only [blk0_0, blk0_1, blk0_2, h0, h1, h2]
  rfl
theorem arr1 (h0 : ∀ i l, V c main_arg3 (ix2 i l) = X i l) (h1 : ∀ j l, V c main_arg1 (ix2 j l) = W j l) :
    (dat1 V c).arrAt 2 cfg1.N = arrOf (mt X W) := by
  refine (dat1 V c).arrAt_eq_of_covers 2 _ cov1 fun t hf y => ?_
  obtain ⟨r, s, rfl⟩ : ∃ (r s : Fin 1024), y = ix2 r s := ⟨y 0, y 1, eq_ix2 y⟩
  have e0 : (((cfg1.win 2).blk t).view.emb (ix2 r s)) = ix2 (row t.val (lt1 t) r) (col t.val s) := by
    unfold row col blkAt
    blk_ext [(idx1 t).2.2]
  rw [e0]
  blk_simp
  rw [after1_2]
  refine (pt1 _ _ r s).trans ?_
  unfold Emb.mt
  simp only [blk1_0, blk1_1, h0, h1]
  rfl
end

/-! ## The run -/

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The results and the arguments at the end of the run. -/
theorem run_to : θ_run defs (onTc (τ := τ) (main (F := F))) ⟨m, fun _ => 0, ρ⟩ (fun r => ∀ c : Dev nD,
      r.2.mem ((c.tc : Thread nD τ).loc main_v0) = W2 m ρ c (Proc.devRef .tc main_v0)
      ∧ r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨h c _ (mem_uc main_v0 (by decide)), h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

section
variable (n : (ℓ : Loc nD τ sig) → Buf (Elt Ideal) ℓ) (ρ : Dev nD → PrngReg) (c : Dev nD)

/-- The arguments, entry by entry. -/
def a0 (i : Fin 8192) (j : Fin 2048) : EReal := (n ((c.tc : Thread nD τ).loc main_arg0) : FVec Ideal S8192x2048 .bf16) (ix2 i j)
def a1 (i j : Fin 2048) : EReal := (n ((c.tc : Thread nD τ).loc main_arg1) : FVec Ideal S2048x2048 .bf16) (ix2 i j)
def a2 (i : Fin 8192) (j : Fin 2048) : EReal := (n ((c.tc : Thread nD τ).loc main_arg2) : FVec Ideal S8192x2048 .f32) (ix2 i j)
def a3 (i : Fin 8192) (j : Fin 2048) : EReal := (n ((c.tc : Thread nD τ).loc main_arg3) : FVec Ideal S8192x2048 .bf16) (ix2 i j)
/-- The results. -/
def out (i : Fin 8192) (j : Fin 2048) : EReal := a2 n c i j + mm (a0 n c) (a1 n c) i j
def back : Fin 8192 → Fin 2048 → EReal := mt (a3 n c) (a1 n c)

theorem end_out : W2 n ρ c (Proc.devRef .tc main_v0) = arrOf (out n c) :=
  (W2_of n ρ c main_v0 (by decide)).trans ((W1_arr n ρ c 3).trans
    (arr0 (V0 n ρ) c (a0 n c) (a1 n c) (a2 n c) (fun _ _ => rfl) (fun _ _ => rfl) fun _ _ => rfl))
theorem end_back : W2 n ρ c (Proc.devRef .tc main_v1) = arrOf (back n c) :=
  (W2_arr n ρ c 2).trans (arr1 (V1 n ρ) c (a3 n c) (a1 n c)
    (fun i j => congrFun (W1_args n ρ c main_arg3 (by decide)) (ix2 i j)) fun i j => congrFun (W1_args n ρ c main_arg1 (by decide)) (ix2 i j))
end

end Cert.Mix
end
-- ==== Proof.EmbRun.lean ====
/-
  The run of the four calls of the gate of the per-layer embeddings: every weakly fair execution ends with the buffers at
  the fold of the run, the arguments as launched.
-/
module
public import proofs.«01_k».proof.Proof.Emb

@[expose] public section
set_option maxRecDepth 16384
noncomputable section
namespace Cert.Emb
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The results and the arguments at the end of the run. -/
theorem run_to : θ_run defs (onTc (τ := τ) (main (F := F))) ⟨m, fun _ => 0, ρ⟩ (fun r => ∀ c : Dev nD,
      r.2.mem ((c.tc : Thread nD τ).loc main_v1_0) = W4 m ρ c (Proc.devRef .tc main_v1_0)
      ∧ r.2.mem ((c.tc : Thread nD τ).loc main_v1_1) = W4 m ρ c (Proc.devRef .tc main_v1_1)
      ∧ r.2.mem ((c.tc : Thread nD τ).loc main_v2_0) = W4 m ρ c (Proc.devRef .tc main_v2_0)
      ∧ r.2.mem ((c.tc : Thread nD τ).loc main_v2_1) = W4 m ρ c (Proc.devRef .tc main_v2_1)
      ∧ r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v1_0 (by decide)), h c _ (mem_uc main_v1_1 (by decide)), h c _ (mem_uc main_v2_0 (by decide)), h c _ (mem_uc main_v2_1 (by decide)), h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-! ## The results at the end of the run -/

section
variable (n : (ℓ : Loc nD τ sig) → Buf (Elt Ideal) ℓ) (ρ : Dev nD → PrngReg) (c : Dev nD)

/-- The arguments, entry by entry. -/
def a0 (i : Fin 8192) (j : Fin 2048) : EReal := (n ((c.tc : Thread nD τ).loc main_arg0) : FVec Ideal S8192x2048 .bf16) (ix2 i j)
def a1 (i j : Fin 2048) : EReal := (n ((c.tc : Thread nD τ).loc main_arg1) : FVec Ideal S2048x2048 .bf16) (ix2 i j)
def a2 (i : Fin 8192) (j : Fin 256) : EReal := (n ((c.tc : Thread nD τ).loc main_arg2) : FVec Ideal S8192x256 .bf16) (ix2 i j)
def a3 (i : Fin 256) (j : Fin 2048) : EReal := (n ((c.tc : Thread nD τ).loc main_arg3) : FVec Ideal S256x2048 .bf16) (ix2 i j)
def a4 (i : Fin 8192) (j : Fin 2048) : EReal := (n ((c.tc : Thread nD τ).loc main_arg4) : FVec Ideal S8192x2048 .f32) (ix2 i j)
def a5 (i : Fin 8192) (j : Fin 2048) : EReal := (n ((c.tc : Thread nD τ).loc main_arg5) : FVec Ideal S8192x2048 .f32) (ix2 i j)
/-- The gate's inputs: the gate before the logistic function, and the embedding's projection. -/
def zz : Fin 8192 → Fin 2048 → EReal := mm (a0 n c) (a1 n c)
def pp : Fin 8192 → Fin 2048 → EReal := mm (a2 n c) (a3 n c)
/-- The results. -/
def ho (i : Fin 8192) (j : Fin 2048) : EReal := a4 n c i j + sg (zz n c i j) * pp n c i j
def dz (i : Fin 8192) (j : Fin 2048) : EReal := gz (a5 n c i j) (zz n c i j) (pp n c i j)
def dp (i : Fin 8192) (j : Fin 2048) : EReal := gp (a5 n c i j) (zz n c i j)

theorem at1_p : W1 n ρ c (Proc.devRef .tc main_v0) = arrOf (pp n c) :=
  (W1_arr n ρ c 2).trans (arr0_2 (V0 n ρ) c (a2 n c) (a3 n c) (fun _ _ => rfl) fun _ _ => rfl)
theorem at2_p : W2 n ρ c (Proc.devRef .tc main_v0) = arrOf (pp n c) := (W2_of n ρ c main_v0 (by decide)).trans (at1_p n ρ c)
theorem at2_z : W2 n ρ c (Proc.devRef .tc main_v1_0) = arrOf (zz n c) :=
  (W2_arr n ρ c 4).trans (arr1_4 (V1 n ρ) c (a0 n c) (a1 n c)
    (fun i j => congrFun (W1_args n ρ c main_arg0 (by decide)) (ix2 i j)) fun i j => congrFun (W1_args n ρ c main_arg1 (by decide)) (ix2 i j))
theorem at2_h : W2 n ρ c (Proc.devRef .tc main_v1_1) = arrOf (ho n c) :=
  (W2_arr n ρ c 5).trans (arr1_5 (V1 n ρ) c (a0 n c) (a1 n c) (a4 n c) (pp n c)
    (fun i j => congrFun (W1_args n ρ c main_arg0 (by decide)) (ix2 i j)) (fun i j => congrFun (W1_args n ρ c main_arg1 (by decide)) (ix2 i j))
    (fun i j => congrFun (W1_args n ρ c main_arg4 (by decide)) (ix2 i j)) fun i j => congrFun (at1_p n ρ c) (ix2 i j))
theorem at3_z : W3 n ρ c (Proc.devRef .tc main_v2_0) = arrOf (dz n c) :=
  (W3_arr n ρ c 3).trans (arr2_3 (V2 n ρ) c (a5 n c) (zz n c) (pp n c)
    (fun i j => congrFun (W2_args n ρ c main_arg5 (by decide)) (ix2 i j)) (fun i j => congrFun (at2_z n ρ c) (ix2 i j))
    fun i j => congrFun (at2_p n ρ c) (ix2 i j))
theorem at3_p : W3 n ρ c (Proc.devRef .tc main_v2_1) = arrOf (dp n c) :=
  (W3_arr n ρ c 4).trans (arr2_4 (V2 n ρ) c (a5 n c) (zz n c)
    (fun i j => congrFun (W2_args n ρ c main_arg5 (by decide)) (ix2 i j)) fun i j => congrFun (at2_z n ρ c) (ix2 i j))

theorem end_z : W4 n ρ c (Proc.devRef .tc main_v1_0) = arrOf (zz n c) :=
  (W4_of n ρ c main_v1_0 (by decide)).trans ((W3_of n ρ c main_v1_0 (by decide)).trans (at2_z n ρ c))
theorem end_h : W4 n ρ c (Proc.devRef .tc main_v1_1) = arrOf (ho n c) :=
  (W4_of n ρ c main_v1_1 (by decide)).trans ((W3_of n ρ c main_v1_1 (by decide)).trans (at2_h n ρ c))
theorem end_dz : W4 n ρ c (Proc.devRef .tc main_v2_0) = arrOf (dz n c) := (W4_of n ρ c main_v2_0 (by decide)).trans (at3_z n ρ c)
theorem end_dp : W4 n ρ c (Proc.devRef .tc main_v2_1) = arrOf (dp n c) := (W4_of n ρ c main_v2_1 (by decide)).trans (at3_p n ρ c)
theorem end_dh : W4 n ρ c (Proc.devRef .tc main_v3) = arrOf (mt (dz n c) (a1 n c)) :=
  (W4_arr n ρ c 2).trans (arr3_2 (V3 n ρ) c (dz n c) (a1 n c)
    (fun i j => congrFun (at3_z n ρ c) (ix2 i j)) fun i j => congrFun (W3_args n ρ c main_arg1 (by decide)) (ix2 i j))
end

end Cert.Emb
end
-- ==== Proof.SameEmb.lean ====
/-
  The four calls of the gate of the per-layer embeddings and their plain formula return the same arrays.
-/
module
public import proofs.«01_k».proof.Proof.EmbRun
public import proofs.«01_k».proof.Proof.Gen.Reference8Ideal.Run
public import Idealize.ShloMosaic.Lib.Claim
public import proofs.«01_k».proof.Defs

@[expose] public section
set_option maxRecDepth 16384
noncomputable section
namespace Cert.Emb
open Idealize.ShloMosaic Idealize.ShloMosaic.TcCoe Idealize.ShloMosaic.Tactic
open Idealize.SL Idealize.SL.Sem
open scoped BigOperators

section
open Cert.Reference8Ideal Cert.Reference8Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2.2.2.2.2, funext fun s => by
    have e : IsEmpty (SemLoc sig) := ⟨by decide⟩
    exact e.elim s.2⟩) (Value.run m ρ)

variable (A : FVec Ideal S8192x2048 .bf16) (B : FVec Ideal S2048x2048 .bf16) (C : FVec Ideal S8192x256 .bf16) (D : FVec Ideal S256x2048 .bf16)
  (H E Z P : FVec Ideal S8192x2048 .f32)

/-- The formula's products, its logistic function, and its gradient of the gate. -/
def rz : FVec Ideal S8192x2048 .f32 :=
  Host.dotGeneral dot_S8192x2048_S2048x2048_S8192x2048_1_0_0_1_n_n none (extf .f32 A bitsLt_bf16_f32) (extf .f32 B bitsLt_bf16_f32)
def rp : FVec Ideal S8192x2048 .f32 :=
  Host.dotGeneral dot_S8192x256_S256x2048_S8192x2048_1_0_0_1_n_n none (extf .f32 C bitsLt_bf16_f32) (extf .f32 D bitsLt_bf16_f32)
def rsg : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf Z)))
def rdz : FVec Ideal S8192x2048 .f32 :=
  mulf (mulf (shapeCast _ E shapeCasts_S8192x2048_S8192x2048) P) (mulf (rsg Z) (subf (broadcastInDim S8192x2048 ![] bcast_S_S8192x2048 (constant S_ .f32 0x3F800000#32)) (rsg Z)))
def rdh : FVec Ideal S8192x2048 .f32 :=
  Host.dotGeneral dot_S8192x2048_S2048x2048_S8192x2048_1_1_0_0_n_n none (rdz E Z P) (extf .f32 B bitsLt_bf16_f32)

theorem rz_at (i : Fin 8192) (j : Fin 2048) : rz A B (ix2 i j) = mm (fun i l => A (ix2 i l)) (fun l j => B (ix2 l j)) i j := by
  unfold rz mm
  pointwise
theorem rp_at (i : Fin 8192) (j : Fin 2048) : rp C D (ix2 i j) = mm (fun i l => C (ix2 i l)) (fun l j => D (ix2 l j)) i j := by
  unfold rp mm
  pointwise
theorem rsg_at (i : Fin 8192) (j : Fin 2048) : rsg Z (ix2 i j) = sg (Z (ix2 i j)) := by
  unfold rsg sg
  pointwise
theorem rdz_at (i : Fin 8192) (j : Fin 2048) : rdz E Z P (ix2 i j) = gz (E (ix2 i j)) (Z (ix2 i j)) (P (ix2 i j)) := by
  unfold rdz gz
  pointwise
  rw [rsg_at]
theorem rdh_at (i : Fin 8192) (j : Fin 2048) :
    rdh B E Z P (ix2 i j) = mt (fun i l => gz (E (ix2 i l)) (Z (ix2 i l)) (P (ix2 i l))) (fun j l => B (ix2 j l)) i j := by
  unfold rdh mt
  pointwise
  simp only [rdz_at]

/-- The formula's five results, entry by entry. -/
theorem r1 (i : Fin 8192) (j : Fin 2048) : truncf .bf16 (rz A B) bitsLt_bf16_f32 (ix2 i j) = mm (fun i l => A (ix2 i l)) (fun l j => B (ix2 l j)) i j := by
  pointwise
  exact rz_at A B i j
theorem r2 (i : Fin 8192) (j : Fin 2048) : addf H (mulf (rsg Z) P) (ix2 i j) = H (ix2 i j) + sg (Z (ix2 i j)) * P (ix2 i j) := by
  pointwise
  rw [rsg_at]
theorem r3 (i : Fin 8192) (j : Fin 2048) : truncf .bf16 (rdz E Z P) bitsLt_bf16_f32 (ix2 i j) = gz (E (ix2 i j)) (Z (ix2 i j)) (P (ix2 i j)) := by
  pointwise
  exact rdz_at E Z P i j
theorem r4 (i : Fin 8192) (j : Fin 2048) :
    truncf .bf16 (mulf (rsg Z) (shapeCast _ E shapeCasts_S8192x2048_S8192x2048)) bitsLt_bf16_f32 (ix2 i j) = gp (E (ix2 i j)) (Z (ix2 i j)) := by
  unfold gp
  rw [mul_comm]
  pointwise
  rw [rsg_at]
end

section
variable (f : Fin 8192 → Fin 2048 → EReal)
/-- An array is given by its entries. -/
theorem arr_eq (g : Cert.Kernel8Ideal.S8192x2048.Idx → EReal) (h : ∀ i j, g (ix2 i j) = f i j) : g = arrOf f := by
  funext y
  obtain ⟨i, j, rfl⟩ : ∃ (i : Fin 8192) (j : Fin 2048), y = ix2 i j := ⟨y 0, y 1, eq_ix2 y⟩
  exact h i j
end

/-- The two programs return the same arrays. -/
theorem same : Cert.algebraic_Kernel8Ideal_Reference8Ideal := by
  intro m ρ m' ρ' _ hm
  refine ⟨fun c => arrOf (zz m c), fun c => arrOf (ho m c), fun c => arrOf (dz m c), fun c => arrOf (dp m c), fun c => arrOf (mt (dz m c) (a1 m c)), ?_, ?_⟩
  · refine (θ_run Cert.Kernel8Ideal.defs _ _).mono (fun r h c => ?_) (run_to (F := Ideal) m ρ)
    obtain ⟨h0, h1, h2, h3, h4, h5⟩ := h c
    exact ⟨h0.trans (end_z m ρ c), h1.trans (end_h m ρ c), h2.trans (end_dz m ρ c), h3.trans (end_dp m ρ c), h4.trans (end_dh m ρ c), h5⟩
  · refine (θ_run Cert.Reference8Ideal.defs _ _).mono (fun r h c => ?_) (Cert.Reference8Ideal.Value.run (F := Ideal) m' ρ')
    obtain ⟨h0, h1, h2, h3, h4, h5⟩ := h c
    obtain ⟨e0, e1, e2, e3, e4, e5⟩ := hm c
    rw [e0, e1] at h0
    rw [e0, e1, e2, e3, e4] at h1
    rw [e0, e1, e2, e3, e5] at h2
    rw [e0, e1, e5] at h3
    rw [e0, e1, e2, e3, e5] at h4
    have hz := rz_at (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))
    have hp := rp_at (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))
    refine ⟨h0.trans (arr_eq _ _ fun i j => ?_), h1.trans (arr_eq _ _ fun i j => ?_), h2.trans (arr_eq _ _ fun i j => ?_),
      h3.trans (arr_eq _ _ fun i j => ?_), h4.trans (arr_eq _ _ fun i j => ?_), h5⟩
    · exact r1 _ _ i j
    · refine (r2 _ (rz _ _) (rp _ _) i j).trans ?_
      rw [hz, hp]
      rfl
    · refine (r3 _ (rz _ _) (rp _ _) i j).trans ?_
      rw [hz, hp]
      rfl
    · refine (r4 _ (rz _ _) i j).trans ?_
      rw [hz]
      rfl
    · refine (rdh_at _ _ (rz _ _) (rp _ _) i j).trans ?_
      simp only [hz, hp]
      rfl

end Cert.Emb
end
-- ==== Proof.SameMix.lean ====
/-
  A mixer's output product and its gradient, and their plain formula, are the same arrays.
-/
module
public import proofs.«01_k».proof.Proof.Mix
public import proofs.«01_k».proof.Proof.SameEmb
public import proofs.«01_k».proof.Proof.Gen.Reference10Ideal.Run
public import Idealize.ShloMosaic.Lib.Claim
public import proofs.«01_k».proof.Defs

@[expose] public section
set_option maxRecDepth 16384
noncomputable section
namespace Cert.Mix
open Idealize.ShloMosaic Idealize.ShloMosaic.TcCoe Idealize.ShloMosaic.Tactic
open Idealize.SL Idealize.SL.Sem
open Cert.Emb (mm mt arrOf arr_eq)
open scoped BigOperators

section
open Cert.Reference10Ideal Cert.Reference10Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, funext fun s => by
    have e : IsEmpty (SemLoc sig) := ⟨by decide⟩
    exact e.elim s.2⟩) (Value.run m ρ)

variable (A D : FVec Ideal S8192x2048 .bf16) (B : FVec Ideal S2048x2048 .bf16) (H : FVec Ideal S8192x2048 .f32) (i : Fin 8192) (j : Fin 2048)
/-- The formula's two results, entry by entry. -/
theorem r0 : addf H (Host.dotGeneral dot_S8192x2048_S2048x2048_S8192x2048_1_0_0_1_n_n none (extf .f32 A bitsLt_bf16_f32) (extf .f32 B bitsLt_bf16_f32)) (ix2 i j)
    = H (ix2 i j) + mm (fun i l => A (ix2 i l)) (fun l j => B (ix2 l j)) i j := by
  unfold mm
  pointwise
theorem r1 : truncf .bf16 (Host.dotGeneral dot_S8192x2048_S2048x2048_S8192x2048_1_1_0_0_n_n none (extf .f32 D bitsLt_bf16_f32) (extf .f32 B bitsLt_bf16_f32)) bitsLt_bf16_f32 (ix2 i j)
    = mt (fun i l => D (ix2 i l)) (fun j l => B (ix2 j l)) i j := by
  unfold Emb.mt
  pointwise
end

/-- The two programs return the same arrays. -/
theorem same : Cert.algebraic_Kernel10Ideal_Reference10Ideal := by
  intro m ρ m' ρ' _ hm
  refine ⟨fun c => arrOf (out m c), fun c => arrOf (back m c), ?_, ?_⟩
  · refine (θ_run Cert.Kernel10Ideal.defs _ _).mono (fun r h c => ?_) (run_to (F := Ideal) m ρ)
    obtain ⟨h0, h1, h2⟩ := h c
    exact ⟨h0.trans (end_out m ρ c), h1.trans (end_back m ρ c), h2⟩
  · refine (θ_run Cert.Reference10Ideal.defs _ _).mono (fun r h c => ?_) (Cert.Reference10Ideal.Value.run (F := Ideal) m' ρ')
    obtain ⟨h0, h1, h2⟩ := h c
    obtain ⟨e0, e1, e2, e3⟩ := hm c
    rw [e0, e1, e2] at h0
    rw [e1, e3] at h1
    exact ⟨h0.trans (arr_eq _ _ fun i j => r0 _ _ _ i j), h1.trans (arr_eq _ _ fun i j => r1 _ _ i j), h2⟩

end Cert.Mix
end
-- ==== Proof.CIn.lean ====
/-
  The third mixer's input product: what the call's output array holds after all 80 grid points. Point `t` works on rows
  `1024 * (t / 10) …` and on columns `1024 * (t % 10) …`, with the whole inner dimension.
-/
module
public import proofs.«01_k».proof.Proof.Gen.Kernel11Ideal.Value
public import proofs.«01_k».proof.Proof.Blocks
public import Idealize.ShloMosaic.Lib.Tactic
public import Idealize.ShloMosaic.Lib.Pipeline.ValueKit

@[expose] public section
set_option maxRecDepth 16384
noncomputable section
namespace Cert.CIn
open Idealize.ShloMosaic Idealize.ShloMosaic.TcCoe Idealize.ShloMosaic.Tactic
open Idealize.SL Idealize.SL.Sem
open Cert.Kernel11Ideal Cert.Kernel11Ideal.Gen Cert.Ffn
open scoped BigOperators

theorem r8 : 8 * 1024 = 8192 := by decide
theorem c10 : 10 * 1024 = 10240 := by decide

/-- One grid point's block. -/
theorem pt (x0 : Vec Ideal S1024x2048 .bf16) (x1 : Vec Ideal S2048x1024 .bf16) (r s : Fin 1024) :
    out0_2 x0 x1 (ix2 r s) = ∑ l : Fin 2048, x0 (ix2 r l) * x1 (ix2 l s) := by
  unfold out0_2
  rw [View.canon_unit_zero zero2, View.ld_unit_zero (S := S1024x2048) zero2, View.ld_unit_zero (S := S2048x1024) zero2]
  unfold k0_pay1
  pointwise

theorem idx : ∀ t : Fin cfg0.N, win0_0.index t = ![t.val / 10, 0] ∧ win0_1.index t = ![0, t.val % 10] ∧ win0_2.index t = ![t.val / 10, t.val % 10] := by
  decide +kernel
theorem cov : (cfg0.win 2).Covers := by decide +kernel

variable (m : (ℓ : Loc nD τ sig) → Buf (Elt Ideal) ℓ) (c : Dev nD)

/-- The arguments as arrays. -/
abbrev a0 : FVec Ideal S8192x2048 .bf16 := m ((c.tc : Thread nD τ).loc main_arg0)
abbrev a1 : FVec Ideal S2048x10240 .bf16 := m ((c.tc : Thread nD τ).loc main_arg1)

theorem lt (t : Fin cfg0.N) : t.val < 80 := N_0 ▸ t.2
/-- The rows and columns of a grid point. -/
def row (t : Fin cfg0.N) (r : Fin 1024) : Fin 8192 := blkAt r8 ⟨t.val / 10, by have := lt t; omega⟩ r
def col (t : Fin cfg0.N) (s : Fin 1024) : Fin 10240 := blkAt c10 ⟨t.val % 10, by omega⟩ s

theorem blk0 (t : Fin cfg0.N) (r : Fin 1024) (l : Fin 2048) : iblk m c 0 t (ix2 r l) = a0 m c (ix2 (row t r) l) := by
  unfold row blkAt
  blk_ext [iblk, (idx t).1]
theorem blk1 (t : Fin cfg0.N) (l : Fin 2048) (s : Fin 1024) : iblk m c 1 t (ix2 l s) = a1 m c (ix2 l (col t s)) := by
  unfold col blkAt
  blk_ext [iblk, (idx t).2.1]

/-- The product, entry by entry. -/
def prod (x : Fin 8192) (y : Fin 10240) : EReal := ∑ l : Fin 2048, a0 m c (ix2 x l) * a1 m c (ix2 l y)

/-- The output array. -/
theorem arr : (dats m 0 c).arrAt 2 cfg0.N = fun y : S8192x10240.Idx => prod m c (y 0) (y 1) := by
  refine (dats m 0 c).arrAt_eq_of_covers 2 _ cov fun t hf y => ?_
  obtain ⟨r, s, rfl⟩ : ∃ (r s : Fin 1024), y = ix2 r s := ⟨y 0, y 1, eq_ix2 y⟩
  have e0 : (((cfg0.win 2).blk t).view.emb (ix2 r s)) = ix2 (row t r) (col t s) := by
    unfold row col blkAt
    blk_ext [(idx t).2.2]
  rw [e0]
  blk_simp
  rw [after0_2]
  refine (pt _ _ r s).trans ?_
  simp only [blk0, blk1]
  rfl

end Cert.CIn
-- ==== Proof.CBack.lean ====
/-
  The gradient of the third mixer's normed input: what the call's output array holds after all 80 grid points. Point `t`
  works on rows `1024 * (t / 10) …`, on columns `1024 * (t / 5 % 2) …` and on block `t % 5` of the inner dimension.
-/
module
public import proofs.«01_k».proof.Proof.Gen.Kernel12Ideal.Value
public import proofs.«01_k».proof.Proof.Blocks
public import Idealize.ShloMosaic.Lib.Tactic
public import Idealize.ShloMosaic.Lib.Pipeline.ValueKit

@[expose] public section
set_option maxRecDepth 16384
noncomputable section
namespace Cert.CBack
open Idealize.ShloMosaic Idealize.ShloMosaic.TcCoe Idealize.ShloMosaic.Tactic
open Idealize.SL Idealize.SL.Sem
open Cert.Kernel12Ideal Cert.Kernel12Ideal.Gen Cert.Ffn
open scoped BigOperators

theorem k2048 : 5 * 2048 = 10240 := by decide
theorem r8 : 8 * 1024 = 8192 := by decide
theorem c2 : 2 * 1024 = 2048 := by decide

section
variable (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec Ideal S1024x2048 .bf16) (x2 : Vec Ideal S1024x1024 .f32) (r s : Fin 1024)

/-- One block's part of the product. -/
def one : EReal := ∑ j : Fin 2048, x0 (ix2 r j) * x1 (ix2 s j)

/-- The accumulator after the first block. -/
theorem acc_A (hc0 : cond0_0 i) (hc1 : ¬cond0_1 i) :
    sout0_A_0 c i arg3 harg3 arg4 harg4 arg5 harg5 arg6 harg6 hc0 hc1 x0 x1 (ix2 r s) = one x0 x1 r s := by
  unfold sout0_A_0 one
  rw [View.read_writes_eq_canon _ _ _ (scover0_A_0 c i arg3 harg3 arg4 harg4 arg5 harg5 arg6 harg6 hc0 hc1 x0 x1)]
  unfold kernelRun0_A; dsimp only; sl_unfold_words
  rw [View.canon_cons_unit_zero zero2]
  simp only [View.readAt_eq_ld, harg3.read_unread, harg4.read_unread]
  simp only [View.ld_unit_zero (S := S1024x2048) zero2, readCov_all (S := S1024x1024) _ _ zero2, View.canon_unit_zero (S := S1024x1024) zero2]
  unfold k0_pay2 k0_pay1
  pointwise

/-- The accumulator after a later block. -/
theorem acc_B (hc0 : ¬cond0_0 i) (hc1 : ¬cond0_1 i) :
    sout0_B_0 c i arg3 harg3 arg4 harg4 arg5 harg5 arg6 harg6 hc0 hc1 x0 x1 x2 (ix2 r s) = x2 (ix2 r s) + one x0 x1 r s := by
  unfold sout0_B_0 one
  rw [View.read_writes_eq_canon _ _ _ (scover0_B_0 c i arg3 harg3 arg4 harg4 arg5 harg5 arg6 harg6 hc0 hc1 x0 x1 x2)]
  unfold kernelRun0_B; dsimp only; sl_unfold_words
  rw [View.canon_cons_unit_zero zero2]
  simp only [View.readAt_eq_ld, harg3.read_unread, harg4.read_unread, harg6.read_unread]
  simp only [View.ld_unit_zero (S := S1024x2048) zero2, View.ld_unit_zero (S := S1024x1024) zero2]
  unfold k0_pay2
  pointwise

/-- The output block after the last block. -/
theorem out_C (hc0 : ¬cond0_0 i) (hc1 : cond0_1 i) :
    out0_C_2 c i arg3 harg3 arg4 harg4 arg5 harg5 arg6 harg6 hc0 hc1 x0 x1 x2 (ix2 r s) = x2 (ix2 r s) + one x0 x1 r s := by
  unfold out0_C_2 one
  rw [View.read_writes_eq_canon _ _ _ (cover0_C_2 c i arg3 harg3 arg4 harg4 arg5 harg5 arg6 harg6 hc0 hc1 x0 x1 x2)]
  unfold kernelRun0_C; dsimp only; sl_unfold_words
  rw [View.canon_cons_unit_zero zero2]
  simp only [View.readAt_eq_ld, harg3.read_unread, harg4.read_unread, harg6.read_unread]
  simp only [View.ld_unit_zero (S := S1024x2048) zero2, View.ld_unit_zero (S := S1024x1024) zero2, readCov_all (S := S1024x1024) _ _ zero2, View.canon_unit_zero (S := S1024x1024) zero2]
  unfold k0_pay2
  pointwise
end

theorem idx : ∀ t : Fin cfg0.N, win0_0.index t = ![t.val / 10, t.val % 5] ∧ win0_1.index t = ![t.val / 5 % 2, t.val % 5]
    ∧ win0_2.index t = ![t.val / 10, t.val / 5 % 2] := by
  decide +kernel
theorem cov : (cfg0.win 2).Covers := by decide +kernel

variable (m : (ℓ : Loc nD τ sig) → Buf (Elt Ideal) ℓ) (c : Dev nD)

/-- The arguments as arrays. -/
abbrev a0 : FVec Ideal S8192x10240 .bf16 := m ((c.tc : Thread nD τ).loc main_arg0)
abbrev a1 : FVec Ideal S2048x10240 .bf16 := m ((c.tc : Thread nD τ).loc main_arg1)

theorem lt (t : Fin cfg0.N) : t.val < 80 := N_0 ▸ t.2
/-- The rows, columns and inner block of a grid point. -/
def row (t : Fin cfg0.N) (r : Fin 1024) : Fin 8192 := blkAt r8 ⟨t.val / 10, by have := lt t; omega⟩ r
def col (t : Fin cfg0.N) (s : Fin 1024) : Fin 2048 := blkAt c2 ⟨t.val / 5 % 2, by omega⟩ s
def inn (t : Fin cfg0.N) (j : Fin 2048) : Fin 10240 := blkAt k2048 ⟨t.val % 5, by omega⟩ j

theorem blk0 (t : Fin cfg0.N) (r : Fin 1024) (j : Fin 2048) : iblk m c 0 t (ix2 r j) = a0 m c (ix2 (row t r) (inn t j)) := by
  unfold row inn blkAt
  blk_ext [iblk, (idx t).1]
theorem blk1 (t : Fin cfg0.N) (s : Fin 1024) (j : Fin 2048) : iblk m c 1 t (ix2 s j) = a1 m c (ix2 (col t s) (inn t j)) := by
  unfold col inn blkAt
  blk_ext [iblk, (idx t).2.1]

/-- One block's part of an entry. -/
def part (x : Fin 8192) (y : Fin 2048) (p : Fin 5) : EReal :=
  ∑ j : Fin 2048, a0 m c (ix2 x (blkAt k2048 p j)) * a1 m c (ix2 y (blkAt k2048 p j))

/-- The product, entry by entry. -/
def prod (x : Fin 8192) (y : Fin 2048) : EReal := ∑ k : Fin 10240, a0 m c (ix2 x k) * a1 m c (ix2 y k)

theorem sum_part (x : Fin 8192) (y : Fin 2048) : (∑ p, part m c x y p) = prod m c x y := by
  unfold part prod
  rw [sum_blocks k2048 fun k => a0 m c (ix2 x k) * a1 m c (ix2 y k)]

theorem one_part (t : Fin cfg0.N) (r s : Fin 1024) :
    one (iblk m c 0 t) (iblk m c 1 t) r s = part m c (row t r) (col t s) ⟨t.val % 5, by omega⟩ := by
  unfold one part
  simp only [blk0, blk1]
  rfl

theorem row_eq (t u : Fin cfg0.N) (h : u.val / 10 = t.val / 10) (r : Fin 1024) : row u r = row t r := by
  unfold row; simp only [h]
theorem col_eq (t u : Fin cfg0.N) (h : u.val / 5 % 2 = t.val / 5 % 2) (s : Fin 1024) : col u s = col t s := by
  unfold col; simp only [h]

theorem pred_lt (t : Fin cfg0.N) : t.val - 1 < cfg0.N := Nat.lt_of_le_of_lt (Nat.sub_le _ _) t.isLt

theorem first (t : Fin cfg0.N) (h : t.val % 5 = 0) (r s : Fin 1024) :
    (outsAt0 m c t.val t.isLt).2 (ix2 r s) = part m c (row t r) (col t s) 0 := by
  rw [outsAt0_A m c t h (by omega)]
  dsimp only
  rw [acc_A, one_part]
  simp only [h]
  rfl

theorem next (t : Fin cfg0.N) (h0 : ¬t.val % 5 = 0) (h4 : ¬t.val % 5 = 4) (r s : Fin 1024) :
    (outsAt0 m c t.val t.isLt).2 (ix2 r s) = (outsAt0 m c (t.val - 1) (pred_lt t)).2 (ix2 r s) + part m c (row t r) (col t s) ⟨t.val % 5, by omega⟩ := by
  rw [outsAt0_B m c t h0 h4]
  dsimp only
  rw [acc_B, one_part]

theorem last (t : Fin cfg0.N) (h4 : t.val % 5 = 4) (r s : Fin 1024) :
    (outsAt0 m c t.val t.isLt).1 (ix2 r s) = (outsAt0 m c (t.val - 1) (pred_lt t)).2 (ix2 r s) + part m c (row t r) (col t s) 4 := by
  rw [outsAt0_C m c t (by omega) h4]
  dsimp only
  rw [out_C, one_part]
  simp only [h4]
  rfl

/-- What the last point of a block's run leaves in the output block. -/
theorem pt (t : Fin cfg0.N) (h : t.val % 5 = 4) (r s : Fin 1024) :
    (outsAt0 m c t.val t.isLt).1 (ix2 r s) = prod m c (row t r) (col t s) := by
  have ht := lt t
  obtain ⟨u3, h3⟩ : ∃ u : Fin cfg0.N, u.val = t.val - 1 := ⟨⟨t.val - 1, pred_lt t⟩, rfl⟩
  obtain ⟨u2, h2⟩ : ∃ u : Fin cfg0.N, u.val = u3.val - 1 := ⟨⟨u3.val - 1, pred_lt u3⟩, rfl⟩
  obtain ⟨u1, h1⟩ : ∃ u : Fin cfg0.N, u.val = u2.val - 1 := ⟨⟨u2.val - 1, pred_lt u2⟩, rfl⟩
  obtain ⟨u0, h0⟩ : ∃ u : Fin cfg0.N, u.val = u1.val - 1 := ⟨⟨u1.val - 1, pred_lt u1⟩, rfl⟩
  have e4 := last m c t h r s
  have e3 := next m c u3 (by omega) (by omega) r s
  have e2 := next m c u2 (by omega) (by omega) r s
  have e1 := next m c u1 (by omega) (by omega) r s
  have e0 := first m c u0 (by omega) r s
  simp only [← h3] at e4
  simp only [← h2] at e3
  simp only [← h1] at e2
  simp only [← h0] at e1
  rw [e4, e3, e2, e1, e0, ← sum_part, Fin.sum_univ_five,
    row_eq t u3 (by omega), row_eq t u2 (by omega), row_eq t u1 (by omega), row_eq t u0 (by omega),
    col_eq t u3 (by omega), col_eq t u2 (by omega), col_eq t u1 (by omega), col_eq t u0 (by omega)]
  simp only [show u3.val % 5 = 3 by omega, show u2.val % 5 = 2 by omega, show u1.val % 5 = 1 by omega]
  rfl

/-- The output array. -/
theorem arr : (dats m 0 c).arrAt 2 cfg0.N = fun y : S8192x2048.Idx => prod m c (y 0) (y 1) := by
  refine (dats m 0 c).arrAt_eq_of_covers 2 _ cov fun t hf y => ?_
  obtain ⟨r, s, rfl⟩ : ∃ (r s : Fin 1024), y = ix2 r s := ⟨y 0, y 1, eq_ix2 y⟩
  have e0 : (((cfg0.win 2).blk t).view.emb (ix2 r s)) = ix2 (row t r) (col t s) := by
    unfold row col blkAt
    blk_ext [(idx t).2.2]
  rw [e0]
  blk_simp
  rw [after0_2]
  exact pt m c t ((flush0_2 t).mp hf) r s

end Cert.CBack
-- ==== Proof.CGrad.lean ====
/-
  The gradient of the third mixer's input weight: what the call's output array holds after all 40 grid points. Point `t`
  works on rows `1024 * (t / 20) …`, on columns `1024 * (t / 2 % 10) …` and on half `t % 2` of the tokens.
-/
module
public import proofs.«01_k».proof.Proof.Gen.Kernel13Ideal.Value
public import proofs.«01_k».proof.Proof.Blocks
public import Idealize.ShloMosaic.Lib.Tactic
public import Idealize.ShloMosaic.Lib.Pipeline.ValueKit

@[expose] public section
set_option maxRecDepth 16384
noncomputable section
namespace Cert.CGrad
open Idealize.ShloMosaic Idealize.ShloMosaic.TcCoe Idealize.ShloMosaic.Tactic
open Idealize.SL Idealize.SL.Sem
open Cert.Kernel13Ideal Cert.Kernel13Ideal.Gen Cert.Ffn
open scoped BigOperators

theorem k4096 : 2 * 4096 = 8192 := by decide
theorem r2 : 2 * 1024 = 2048 := by decide
theorem c10 : 10 * 1024 = 10240 := by decide

section
variable (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec Ideal S4096x1024 .bf16) (x2 : Vec Ideal S1024x1024 .f32) (r s : Fin 1024)

/-- The accumulator after the first half. -/
theorem acc_A (hc0 : cond0_0 i) (hc1 : ¬cond0_1 i) :
    sout0_A_0 c i arg3 harg3 arg4 harg4 arg5 harg5 arg6 harg6 hc0 hc1 x0 x1 (ix2 r s) = ∑ j : Fin 4096, x0 (ix2 j r) * x1 (ix2 j s) := by
  unfold sout0_A_0
  rw [View.read_writes_eq_canon _ _ _ (scover0_A_0 c i arg3 harg3 arg4 harg4 arg5 harg5 arg6 harg6 hc0 hc1 x0 x1)]
  unfold kernelRun0_A; dsimp only; sl_unfold_words
  rw [View.canon_cons_unit_zero zero2]
  simp only [View.readAt_eq_ld, harg3.read_unread, harg4.read_unread]
  simp only [View.ld_unit_zero (S := S4096x1024) zero2, readCov_all (S := S1024x1024) _ _ zero2, View.canon_unit_zero (S := S1024x1024) zero2]
  unfold k0_pay2 k0_pay1
  pointwise

/-- The output block after the second half. -/
theorem out_B (hc0 : ¬cond0_0 i) (hc1 : cond0_1 i) :
    out0_B_2 c i arg3 harg3 arg4 harg4 arg5 harg5 arg6 harg6 hc0 hc1 x0 x1 x2 (ix2 r s) = x2 (ix2 r s) + ∑ j : Fin 4096, x0 (ix2 j r) * x1 (ix2 j s) := by
  unfold out0_B_2
  rw [View.read_writes_eq_canon _ _ _ (cover0_B_2 c i arg3 harg3 arg4 harg4 arg5 harg5 arg6 harg6 hc0 hc1 x0 x1 x2)]
  unfold kernelRun0_B; dsimp only; sl_unfold_words
  rw [View.canon_cons_unit_zero zero2]
  simp only [View.readAt_eq_ld, harg3.read_unread, harg4.read_unread, harg6.read_unread]
  simp only [View.ld_unit_zero (S := S4096x1024) zero2, View.ld_unit_zero (S := S1024x1024) zero2, readCov_all (S := S1024x1024) _ _ zero2, View.canon_unit_zero (S := S1024x1024) zero2]
  unfold k0_pay2
  pointwise
end

theorem idx : ∀ t : Fin cfg0.N, win0_0.index t = ![t.val % 2, t.val / 20] ∧ win0_1.index t = ![t.val % 2, t.val / 2 % 10]
    ∧ win0_2.index t = ![t.val / 20, t.val / 2 % 10] := by
  decide +kernel
theorem cov : (cfg0.win 2).Covers := by decide +kernel

variable (m : (ℓ : Loc nD τ sig) → Buf (Elt Ideal) ℓ) (c : Dev nD)

/-- The arguments as arrays. -/
abbrev a0 : FVec Ideal S8192x2048 .bf16 := m ((c.tc : Thread nD τ).loc main_arg0)
abbrev a1 : FVec Ideal S8192x10240 .bf16 := m ((c.tc : Thread nD τ).loc main_arg1)

theorem lt (t : Fin cfg0.N) : t.val < 40 := N_0 ▸ t.2
/-- The rows, columns and inner half of a grid point. -/
def row (t : Fin cfg0.N) (r : Fin 1024) : Fin 2048 := blkAt r2 ⟨t.val / 20, by have := lt t; omega⟩ r
def col (t : Fin cfg0.N) (s : Fin 1024) : Fin 10240 := blkAt c10 ⟨t.val / 2 % 10, by omega⟩ s
def inn (t : Fin cfg0.N) (j : Fin 4096) : Fin 8192 := blkAt k4096 ⟨t.val % 2, by omega⟩ j

theorem blk0 (t : Fin cfg0.N) (j : Fin 4096) (r : Fin 1024) : iblk m c 0 t (ix2 j r) = a0 m c (ix2 (inn t j) (row t r)) := by
  unfold row inn blkAt
  blk_ext [iblk, (idx t).1]
theorem blk1 (t : Fin cfg0.N) (j : Fin 4096) (s : Fin 1024) : iblk m c 1 t (ix2 j s) = a1 m c (ix2 (inn t j) (col t s)) := by
  unfold col inn blkAt
  blk_ext [iblk, (idx t).2.1]

/-- The product, entry by entry. -/
def prod (x : Fin 2048) (y : Fin 10240) : EReal := ∑ k : Fin 8192, a0 m c (ix2 k x) * a1 m c (ix2 k y)

/-- What the last point of a block's run leaves in the output block. -/
theorem pt (t : Fin cfg0.N) (h : t.val % 2 = 1) (r s : Fin 1024) :
    (outsAt0 m c t.val t.isLt).1 (ix2 r s) = prod m c (row t r) (col t s) := by
  have ht := lt t
  rw [outsAt0_B m c t (by omega) h]
  dsimp only
  rw [out_B]
  have hu : t.val - 1 < cfg0.N := Nat.lt_of_le_of_lt (Nat.sub_le _ _) t.isLt
  have e := outsAt0_A m c ⟨t.val - 1, hu⟩ (by show (t.val - 1) % 2 = 0; omega) (by show ¬ (t.val - 1) % 2 = 1; omega)
  rw [show outsAt0 m c (t.val - 1) hu = _ from e]
  dsimp only
  rw [acc_A]
  unfold prod
  simp only [blk0, blk1]
  have e1 : row ⟨t.val - 1, hu⟩ r = row t r := by unfold row blkAt; refine Fin.ext ?_; show 1024 * ((t.val - 1) / 20) + _ = 1024 * (t.val / 20) + _; omega
  have e2 : col ⟨t.val - 1, hu⟩ s = col t s := by unfold col blkAt; refine Fin.ext ?_; show 1024 * ((t.val - 1) / 2 % 10) + _ = 1024 * (t.val / 2 % 10) + _; omega
  rw [e1, e2, ← sum_blocks k4096, Fin.sum_univ_two]
  have e3 : ∀ j, inn ⟨t.val - 1, hu⟩ j = blkAt k4096 0 j := fun j => by unfold inn blkAt; refine Fin.ext ?_; show 4096 * ((t.val - 1) % 2) + _ = 4096 * 0 + _; omega
  have e4 : ∀ j, inn t j = blkAt k4096 1 j := fun j => by unfold inn blkAt; refine Fin.ext ?_; show 4096 * (t.val % 2) + _ = 4096 * 1 + _; omega
  simp only [e3, e4]

/-- The output array. -/
theorem arr : (dats m 0 c).arrAt 2 cfg0.N = fun y : S2048x10240.Idx => prod m c (y 0) (y 1) := by
  refine (dats m 0 c).arrAt_eq_of_covers 2 _ cov fun t hf y => ?_
  obtain ⟨r, s, rfl⟩ : ∃ (r s : Fin 1024), y = ix2 r s := ⟨y 0, y 1, eq_ix2 y⟩
  have e0 : (((cfg0.win 2).blk t).view.emb (ix2 r s)) = ix2 (row t r) (col t s) := by
    unfold row col blkAt
    blk_ext [(idx t).2.2]
  rw [e0]
  blk_simp
  rw [after0_2]
  exact pt m c t ((flush0_2 t).mp hf) r s

end Cert.CGrad
-- ==== Proof.SameC.lean ====
/-
  The third mixer's input product, the gradient of its normed input and the gradient of its input weight, and their plain
  formulas, are the same arrays.
-/
module
public import proofs.«01_k».proof.Proof.CIn
public import proofs.«01_k».proof.Proof.CBack
public import proofs.«01_k».proof.Proof.CGrad
public import proofs.«01_k».proof.Proof.Gen.Reference11Ideal.Run
public import proofs.«01_k».proof.Proof.Gen.Reference12Ideal.Run
public import proofs.«01_k».proof.Proof.Gen.Reference13Ideal.Run
public import proofs.«01_k».proof.Defs

@[expose] public section
set_option maxRecDepth 16384
noncomputable section
open Idealize.ShloMosaic Idealize.ShloMosaic.TcCoe Idealize.ShloMosaic.Tactic
open Idealize.SL Idealize.SL.Sem
open scoped BigOperators

namespace Cert.CIn
section
open Cert.Reference11Ideal Cert.Reference11Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, funext fun s => by
    have e : IsEmpty (SemLoc sig) := ⟨by decide⟩
    exact e.elim s.2⟩) (Value.run m ρ)
end

/-- The input product. -/
theorem same : Cert.algebraic_Kernel11Ideal_Reference11Ideal := by
  intro m ρ m' ρ' _ hm
  refine ⟨fun c => fun y : Cert.Kernel11Ideal.S8192x10240.Idx => prod m c (y 0) (y 1), ?_, ?_⟩
  · refine (θ_run Cert.Kernel11Ideal.defs _ _).mono (fun r h c => ?_) (Cert.Kernel11Ideal.Value.run_blocks (F := Ideal) m ρ)
    exact ⟨(h c).1.trans (arr m c), (h c).2⟩
  · refine (θ_run Cert.Reference11Ideal.defs _ _).mono (fun r h c => ?_) (Cert.Reference11Ideal.Value.run (F := Ideal) m' ρ')
    refine ⟨(h c).1.trans ?_, (h c).2⟩
    rw [(hm c).1, (hm c).2]
    funext y
    obtain ⟨i, j, rfl⟩ : ∃ (i : Fin 8192) (j : Fin 10240), y = ix2 i j := ⟨y 0, y 1, eq_ix2 y⟩
    show _ = prod m c i j
    unfold prod
    pointwise
end Cert.CIn

namespace Cert.CBack
section
open Cert.Reference12Ideal Cert.Reference12Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, funext fun s => by
    have e : IsEmpty (SemLoc sig) := ⟨by decide⟩
    exact e.elim s.2⟩) (Value.run m ρ)
end

/-- The gradient of the normed input. -/
theorem same : Cert.algebraic_Kernel12Ideal_Reference12Ideal := by
  intro m ρ m' ρ' _ hm
  refine ⟨fun c => fun y : Cert.Kernel12Ideal.S8192x2048.Idx => prod m c (y 0) (y 1), ?_, ?_⟩
  · refine (θ_run Cert.Kernel12Ideal.defs _ _).mono (fun r h c => ?_) (Cert.Kernel12Ideal.Value.run_blocks (F := Ideal) m ρ)
    exact ⟨(h c).1.trans (arr m c), (h c).2⟩
  · refine (θ_run Cert.Reference12Ideal.defs _ _).mono (fun r h c => ?_) (Cert.Reference12Ideal.Value.run (F := Ideal) m' ρ')
    refine ⟨(h c).1.trans ?_, (h c).2⟩
    rw [(hm c).1, (hm c).2]
    funext y
    obtain ⟨i, j, rfl⟩ : ∃ (i : Fin 8192) (j : Fin 2048), y = ix2 i j := ⟨y 0, y 1, eq_ix2 y⟩
    show _ = prod m c i j
    unfold prod
    pointwise
end Cert.CBack

namespace Cert.CGrad
section
open Cert.Reference13Ideal Cert.Reference13Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, funext fun s => by
    have e : IsEmpty (SemLoc sig) := ⟨by decide⟩
    exact e.elim s.2⟩) (Value.run m ρ)
end

/-- The gradient of the input weight. -/
theorem same : Cert.algebraic_Kernel13Ideal_Reference13Ideal := by
  intro m ρ m' ρ' _ hm
  refine ⟨fun c => fun y : Cert.Kernel13Ideal.S2048x10240.Idx => prod m c (y 0) (y 1), ?_, ?_⟩
  · refine (θ_run Cert.Kernel13Ideal.defs _ _).mono (fun r h c => ?_) (Cert.Kernel13Ideal.Value.run_blocks (F := Ideal) m ρ)
    exact ⟨(h c).1.trans (arr m c), (h c).2⟩
  · refine (θ_run Cert.Reference13Ideal.defs _ _).mono (fun r h c => ?_) (Cert.Reference13Ideal.Value.run (F := Ideal) m' ρ')
    refine ⟨(h c).1.trans ?_, (h c).2⟩
    rw [(hm c).1, (hm c).2]
    funext y
    obtain ⟨i, j, rfl⟩ : ∃ (i : Fin 2048) (j : Fin 10240), y = ix2 i j := ⟨y 0, y 1, eq_ix2 y⟩
    show _ = prod m c i j
    unfold prod
    rw [Finset.sum_congr rfl fun k _ => mul_comm (a0 m c (ix2 k i)) (a1 m c (ix2 k j))]
    pointwise
end Cert.CGrad
end
-- ==== Proof.OGrad.lean ====
/-
  The gradient of a mixer's output weight: what the call's output array holds after all 8 grid points. Point `t` works on
  rows `1024 * (t / 4) …`, on columns `1024 * (t / 2 % 2) …` and on half `t % 2` of the tokens.
-/
module
public import proofs.«01_k».proof.Proof.Gen.Kernel14Ideal.Value
public import proofs.«01_k».proof.Proof.Gen.Reference14Ideal.Run
public import proofs.«01_k».proof.Proof.CGrad
public import proofs.«01_k».proof.Defs

@[expose] public section
set_option maxRecDepth 16384
noncomputable section
namespace Cert.OGrad
open Idealize.ShloMosaic Idealize.ShloMosaic.TcCoe Idealize.ShloMosaic.Tactic
open Idealize.SL Idealize.SL.Sem
open Cert.Ffn
open Cert.CGrad (k4096 r2)
open scoped BigOperators

section
open Cert.Kernel14Ideal Cert.Kernel14Ideal.Gen
section
variable (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .f32) (harg5 : arg5.IsWhole) (arg6 : Memref sig .tc .vmem S1024x1024 .f32) (harg6 : arg6.IsWhole)
  (x0 x1 : Vec Ideal S4096x1024 .bf16) (x2 : Vec Ideal S1024x1024 .f32) (r s : Fin 1024)

/-- The accumulator after the first half. -/
theorem acc_A (hc0 : cond0_0 i) (hc1 : ¬cond0_1 i) :
    sout0_A_0 c i arg3 harg3 arg4 harg4 arg5 harg5 arg6 harg6 hc0 hc1 x0 x1 (ix2 r s) = ∑ j : Fin 4096, x0 (ix2 j r) * x1 (ix2 j s) := by
  unfold sout0_A_0
  rw [View.read_writes_eq_canon _ _ _ (scover0_A_0 c i arg3 harg3 arg4 harg4 arg5 harg5 arg6 harg6 hc0 hc1 x0 x1)]
  unfold kernelRun0_A; dsimp only; sl_unfold_words
  rw [View.canon_cons_unit_zero zero2]
  simp only [View.readAt_eq_ld, harg3.read_unread, harg4.read_unread]
  simp only [View.ld_unit_zero (S := S4096x1024) zero2, readCov_all (S := S1024x1024) _ _ zero2, View.canon_unit_zero (S := S1024x1024) zero2]
  unfold k0_pay2 k0_pay1
  pointwise

/-- The output block after the second half. -/
theorem out_B (hc0 : ¬cond0_0 i) (hc1 : cond0_1 i) :
    out0_B_2 c i arg3 harg3 arg4 harg4 arg5 harg5 arg6 harg6 hc0 hc1 x0 x1 x2 (ix2 r s) = x2 (ix2 r s) + ∑ j : Fin 4096, x0 (ix2 j r) * x1 (ix2 j s) := by
  unfold out0_B_2
  rw [View.read_writes_eq_canon _ _ _ (cover0_B_2 c i arg3 harg3 arg4 harg4 arg5 harg5 arg6 harg6 hc0 hc1 x0 x1 x2)]
  unfold kernelRun0_B; dsimp only; sl_unfold_words
  rw [View.canon_cons_unit_zero zero2]
  simp only [View.readAt_eq_ld, harg3.read_unread, harg4.read_unread, harg6.read_unread]
  simp only [View.ld_unit_zero (S := S4096x1024) zero2, View.ld_unit_zero (S := S1024x1024) zero2, readCov_all (S := S1024x1024) _ _ zero2, View.canon_unit_zero (S := S1024x1024) zero2]
  unfold k0_pay2
  pointwise
end

theorem idx : ∀ t : Fin cfg0.N, win0_0.index t = ![t.val % 2, t.val / 4] ∧ win0_1.index t = ![t.val % 2, t.val / 2 % 2]
    ∧ win0_2.index t = ![t.val / 4, t.val / 2 % 2] := by
  decide +kernel
theorem cov : (cfg0.win 2).Covers := by decide +kernel

variable (m : (ℓ : Loc nD τ sig) → Buf (Elt Ideal) ℓ) (c : Dev nD)

/-- The arguments as arrays. -/
abbrev a0 : FVec Ideal S8192x2048 .bf16 := m ((c.tc : Thread nD τ).loc main_arg0)
abbrev a1 : FVec Ideal S8192x2048 .bf16 := m ((c.tc : Thread nD τ).loc main_arg1)

theorem lt (t : Fin cfg0.N) : t.val < 8 := N_0 ▸ t.2
/-- The rows, columns and inner half of a grid point. -/
def row (t : Fin cfg0.N) (r : Fin 1024) : Fin 2048 := blkAt r2 ⟨t.val / 4, by have := lt t; omega⟩ r
def col (t : Fin cfg0.N) (s : Fin 1024) : Fin 2048 := blkAt r2 ⟨t.val / 2 % 2, by omega⟩ s
def inn (t : Fin cfg0.N) (j : Fin 4096) : Fin 8192 := blkAt k4096 ⟨t.val % 2, by omega⟩ j

theorem blk0 (t : Fin cfg0.N) (j : Fin 4096) (r : Fin 1024) : iblk m c 0 t (ix2 j r) = a0 m c (ix2 (inn t j) (row t r)) := by
  unfold row inn blkAt
  blk_ext [iblk, (idx t).1]
theorem blk1 (t : Fin cfg0.N) (j : Fin 4096) (s : Fin 1024) : iblk m c 1 t (ix2 j s) = a1 m c (ix2 (inn t j) (col t s)) := by
  unfold col inn blkAt
  blk_ext [iblk, (idx t).2.1]

/-- The product, entry by entry. -/
def prod (x y : Fin 2048) : EReal := ∑ k : Fin 8192, a0 m c (ix2 k x) * a1 m c (ix2 k y)

/-- What the last point of a block's run leaves in the output block. -/
theorem pt (t : Fin cfg0.N) (h : t.val % 2 = 1) (r s : Fin 1024) :
    (outsAt0 m c t.val t.isLt).1 (ix2 r s) = prod m c (row t r) (col t s) := by
  have ht := lt t
  obtain ⟨u, hu⟩ : ∃ u : Fin cfg0.N, u.val = t.val - 1 := ⟨⟨t.val - 1, Nat.lt_of_le_of_lt (Nat.sub_le _ _) t.isLt⟩, rfl⟩
  rw [outsAt0_B m c t (by omega) h]
  dsimp only
  simp only [← hu]
  rw [out_B, outsAt0_A m c u (by omega) (by omega)]
  dsimp only
  rw [acc_A]
  unfold prod
  simp only [blk0, blk1]
  rw [← sum_blocks k4096, Fin.sum_univ_two]
  unfold row col inn
  simp only [show u.val / 4 = t.val / 4 by omega, show u.val / 2 % 2 = t.val / 2 % 2 by omega, show u.val % 2 = 0 by omega, h]
  rfl

/-- The output array. -/
theorem arr : (dats m 0 c).arrAt 2 cfg0.N = fun y : S2048x2048.Idx => prod m c (y 0) (y 1) := by
  refine (dats m 0 c).arrAt_eq_of_covers 2 _ cov fun t hf y => ?_
  obtain ⟨r, s, rfl⟩ : ∃ (r s : Fin 1024), y = ix2 r s := ⟨y 0, y 1, eq_ix2 y⟩
  have e0 : (((cfg0.win 2).blk t).view.emb (ix2 r s)) = ix2 (row t r) (col t s) := by
    unfold row col blkAt
    blk_ext [(idx t).2.2]
  rw [e0]
  blk_simp
  rw [after0_2]
  exact pt m c t ((flush0_2 t).mp hf) r s
end

section
open Cert.Reference14Ideal Cert.Reference14Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, funext fun s => by
    have e : IsEmpty (SemLoc sig) := ⟨by decide⟩
    exact e.elim s.2⟩) (Value.run m ρ)
end

/-- The gradient and its plain formula are the same array. -/
theorem same : Cert.algebraic_Kernel14Ideal_Reference14Ideal := by
  intro m ρ m' ρ' _ hm
  refine ⟨fun c => fun y : Cert.Kernel14Ideal.S2048x2048.Idx => prod m c (y 0) (y 1), ?_, ?_⟩
  · refine (θ_run Cert.Kernel14Ideal.defs _ _).mono (fun r h c => ?_) (Cert.Kernel14Ideal.Value.run_blocks (F := Ideal) m ρ)
    exact ⟨(h c).1.trans (arr m c), (h c).2⟩
  · refine (θ_run Cert.Reference14Ideal.defs _ _).mono (fun r h c => ?_) (Cert.Reference14Ideal.Value.run (F := Ideal) m' ρ')
    refine ⟨(h c).1.trans ?_, (h c).2⟩
    rw [(hm c).1, (hm c).2]
    funext y
    obtain ⟨i, j, rfl⟩ : ∃ (i j : Fin 2048), y = ix2 i j := ⟨y 0, y 1, eq_ix2 y⟩
    show _ = prod m c i j
    unfold prod
    rw [Finset.sum_congr rfl fun k _ => mul_comm (a0 m c (ix2 k i)) (a1 m c (ix2 k j))]
    pointwise

end Cert.OGrad
end
-- ==== Proof.Heads.lean ====
/-
  Arrays of sixteen heads side by side: columns of a head, blocks of 1024 rows, and what a block of rows of the attention
  functions depends on.
-/
module
public import proofs.«01_k».proof.Proof.Reals
public import Idealize.ShloMosaic.Lib.Pointwise

@[expose] public section
noncomputable section
namespace Cert.Mla
open Idealize.ShloMosaic
open scoped BigOperators

/-! The widths of the arrays: sixteen heads of 192, 128 or 256 columns. -/
theorem w192 : 16 * 192 = 3072 := by decide
theorem w128 : 16 * 128 = 2048 := by decide
theorem w256 : 16 * 256 = 4096 := by decide
theorem p192 : 0 < 192 := by decide
theorem p128 : 0 < 128 := by decide
theorem p256 : 0 < 256 := by decide

/-- The column of entry `d` of head `h`, the heads side by side, `n` columns each. -/
def col {n N : ℕ} (h : Fin 16) (d : Fin n) (hN : 16 * n = N) : Fin N := ⟨n * h.val + d.val, by have := h.2; have := d.2; nlinarith⟩
/-- The head that column `j` belongs to, `n` columns to a head. -/
def hdOf (n j : ℕ) : Fin 16 := ⟨j / n % 16, Nat.mod_lt _ (by decide)⟩
/-- The place of column `j` within its head. -/
def inOf (n j : ℕ) (hn : 0 < n) : Fin n := ⟨j % n, Nat.mod_lt _ hn⟩

theorem hdOf_col {n N : ℕ} {hN : 16 * n = N} (h : Fin 16) (d : Fin n) : hdOf n (col h d hN).val = h := by
  refine Fin.ext ?_
  show (n * h.val + d.val) / n % 16 = h.val
  rw [Nat.mul_add_div (lt_of_le_of_lt (Nat.zero_le _) d.2), Nat.div_eq_of_lt d.2, Nat.add_zero, Nat.mod_eq_of_lt h.2]
theorem inOf_col {n N : ℕ} {hN : 16 * n = N} (h : Fin 16) (d : Fin n) (hn : 0 < n) : inOf n (col h d hN).val hn = d := by
  refine Fin.ext ?_
  show (n * h.val + d.val) % n = d.val
  rw [Nat.mul_add_mod, Nat.mod_eq_of_lt d.2]
/-- Every column belongs to a head. -/
theorem exists_col {n N : ℕ} (hN : 16 * n = N) (hn : 0 < n) (j : Fin N) : ∃ h d, j = col (n := n) h d hN := by
  have hj : j.val / n < 16 := Nat.div_lt_of_lt_mul (by have := j.2; omega)
  exact ⟨⟨j.val / n, hj⟩, ⟨j.val % n, Nat.mod_lt _ hn⟩, Fin.ext (Nat.div_add_mod _ _).symm⟩

/-- The array of sixteen heads side by side, a head an array of 8192 rows. -/
def heads {n : ℕ} (N : ℕ) (hn : 0 < n) (f : Fin 16 → Fin 8192 → Fin n → ℝ) (y : (⟨2, ![8192, N]⟩ : Shape).Idx) : EReal :=
  ((f (hdOf n (y 1).val) (y 0) (inOf n (y 1).val hn) : ℝ) : EReal)
theorem heads_col {n N : ℕ} (hn : 0 < n) (hN : 16 * n = N) (f : Fin 16 → Fin 8192 → Fin n → ℝ) (h : Fin 16) (i : Fin 8192) (d : Fin n) :
    heads N hn f (ix2 i (col h d hN)) = ((f h i d : ℝ) : EReal) :=
  congrArg _ (congrArg₂ (fun h d => f h i d) (hdOf_col (hN := hN) h d) (inOf_col (hN := hN) h d _))

/-- A head of 192 columns padded with zeros to 256. -/
def padH (f : Fin 16 → Fin 8192 → Fin 192 → ℝ) (h : Fin 16) (i : Fin 8192) (d : Fin 256) : ℝ :=
  if hd : d.val < 192 then f h i ⟨d.val, hd⟩ else 0

/-- The head a grid point works on. -/
def hd (t : ℕ) (ht : t < 128) : Fin 16 := ⟨t / 8, by omega⟩
/-- The place in the whole sequence of row `r` of the block a grid point works on. -/
def rw8 (t : ℕ) (r : Fin 1024) : Fin 8192 := ⟨1024 * (t % 8) + r.val, by omega⟩
/-- The value columns of head `h` in the joint array of keys and values. -/
def vcol (h : Fin 16) (d : Fin 128) : Fin 4096 := ⟨256 * h.val + 128 + d.val, by omega⟩

section
variable {I I' J C D : Type} [Fintype I] [Fintype I'] [Fintype J] [Fintype C] [Fintype D] (f : I' → I)
  (Q : I → C → ℝ) (K : J → C → ℝ) (V : J → D → ℝ) (G : I → D → ℝ)

theorem lse_rows (i : I') : lse (sc (fun r c => Q (f r) c) K) i = lse (sc Q K) (f i) := rfl
theorem ov_rows (i : I') (d : D) : ov (sc (fun r c => Q (f r) c) K) V i d = ov (sc Q K) V (f i) d := rfl
theorem dq_rows (i : I') (c : C) :
    dq (sc (fun r c => Q (f r) c) K) V (fun r d => G (f r) d) K i c = dq (sc Q K) V G K (f i) c := rfl

variable [Nonempty J]
/-- A block of rows of the gradient of the keys, from the forward call's output and log-sum. -/
theorem dk_rows (g : I' → J) (j : I') (c : C) :
    (∑ i, Real.exp (sc Q (fun r c => K (g r) c) i j - lse (sc Q K) i) * (dp (fun r d => V (g r) d) G i j - ∑ t, G i t * ov (sc Q K) V i t) * scale * Q i c)
      = dk (sc Q K) V G Q (g j) c := by
  unfold dk ds dl
  refine Finset.sum_congr rfl fun i _ => ?_
  rw [← exp_sub_lse]
  rfl
/-- A block of rows of the gradient of the values. -/
theorem dv_rows (g : I' → J) (j : I') (d : D) :
    (∑ i, Real.exp (sc Q (fun r c => K (g r) c) i j - lse (sc Q K) i) * G i d) = dv (sc Q K) G (g j) d := by
  unfold dv
  refine Finset.sum_congr rfl fun i _ => ?_
  rw [← exp_sub_lse]
  rfl

end
end Cert.Mla
-- ==== Proof.HostIn.lean ====
/-
  The host's operations around the three calls: the heads of the queries and of the keys padded from 192 to 256 columns
  before them, the gradients cut back after them.
-/
module
public import proofs.«01_k».proof.Proof.Gen.KernelIdeal.Frame
public import proofs.«01_k».proof.Proof.Heads
public import Idealize.ShloMosaic.Lib.Tactic
public import Idealize.ShloMosaic.Lib.Claim
public import Idealize.ShloMosaic.Lib.Pipeline.ValueKit

@[expose] public section
set_option maxRecDepth 16384
noncomputable section
namespace Cert.Mla
open Idealize.ShloMosaic Idealize.ShloMosaic.TcCoe Idealize.ShloMosaic.Tactic
open Idealize.SL Idealize.SL.Sem
open Cert.KernelIdeal Cert.KernelIdeal.Gen
open scoped BigOperators

variable (m : (ℓ : Loc nD τ sig) → Buf (Elt Ideal) ℓ) (ρ : Dev nD → PrngReg) (c : Dev nD)

/-- A row of heads of 192 columns, cut into heads, padded and joined again. -/
theorem pad_real (X : FVec Ideal S8192x3072 .bf16) (f : Fin 16 → Fin 8192 → Fin 192 → ℝ)
    (hf : ∀ h i d, X (ix2 i (col h d w192)) = (f h i d : EReal)) (h : Fin 16) (i : Fin 8192) (d : Fin 256) :
    shapeCast S8192x4096 (pad S8192x16x256 ![0, 0, 0] ![0, 0, 64] ![0, 0, 0] (shapeCast S8192x16x192 X shapeCasts_S8192x3072_S8192x16x192 : FVec Ideal S8192x16x192 .bf16) (sitofp (F := Ideal) .bf16 (constantI S_ 32 0#32)) pads_S8192x16x192_S8192x16x256_000_000_0640 h_S_) shapeCasts_S8192x16x256_S8192x4096 (ix2 i (col h d w256))
      = ((padH f h i d : ℝ) : EReal) := by
  pointwise
  have e1 : (256 * h.val + d.val) / 256 = h.val := by omega
  have e2 : (256 * h.val + d.val) % 256 = d.val := by omega
  unfold padH
  split_ifs with h1 h2 h2
  · rw [← hf]
    unfold col
    blk_ext [e1, e2]
  · exfalso; unfold col at h1; simp only [e1, e2] at h1; omega
  · exfalso; unfold col at h1; simp only [e1, e2] at h1; omega
  · show (((0#32 : BitVec 32).toInt : ℝ) : EReal) = _
    simp

/-- The queries as the calls take them: each head padded with zeros. -/
theorem in_q (f : Fin 16 → Fin 8192 → Fin 192 → ℝ)
    (hf : ∀ h i d, m ((c : Thread nD τ).loc main_arg0) (ix2 i (col h d w192)) = (f h i d : EReal)) (h : Fin 16) (i : Fin 8192) (d : Fin 256) :
    V5 m ρ c main_v2 (ix2 i (col h d w256)) = ((padH f h i d : ℝ) : EReal) := by
  rw [show V5 m ρ c main_v2 = W3 m ρ c (Proc.devRef .tc main_v2) from (W5_of m ρ c main_v2 (by decide)).trans (W4_of m ρ c main_v2 (by decide))]
  show StableHlo.after hostOps0_2 (StableHlo.after hostOps0_1 (StableHlo.after hostOps0 (W0 m ρ c))) (Proc.devRef .tc main_v2) (ix2 i (col h d w256)) = _
  simp only [StableHlo.after_cons, StableHlo.after_nil]
  after_results_simp
  show shapeCast S8192x4096 (pad S8192x16x256 ![0, 0, 0] ![0, 0, 64] ![0, 0, 0] (shapeCast S8192x16x192 (m ((c : Thread nD τ).loc main_arg0)) shapeCasts_S8192x3072_S8192x16x192 : FVec Ideal S8192x16x192 .bf16) (sitofp (F := Ideal) .bf16 (constantI S_ 32 0#32)) pads_S8192x16x192_S8192x16x256_000_000_0640 h_S_) shapeCasts_S8192x16x256_S8192x4096 (ix2 i (col h d w256)) = _
  exact pad_real _ f hf h i d

/-- The keys as the calls take them: each head padded with zeros. -/
theorem in_k (f : Fin 16 → Fin 8192 → Fin 192 → ℝ)
    (hf : ∀ h i d, m ((c : Thread nD τ).loc main_arg1) (ix2 i (col h d w192)) = (f h i d : EReal)) (h : Fin 16) (i : Fin 8192) (d : Fin 256) :
    V5 m ρ c main_v5 (ix2 i (col h d w256)) = ((padH f h i d : ℝ) : EReal) := by
  show StableHlo.after hostOps0_4 (StableHlo.after hostOps0_3 (StableHlo.after hostOps0_2 (W2 m ρ c))) (Proc.devRef .tc main_v5) (ix2 i (col h d w256)) = _
  simp only [StableHlo.after_cons, StableHlo.after_nil]
  after_results_simp
  show shapeCast S8192x4096 (pad S8192x16x256 ![0, 0, 0] ![0, 0, 64] ![0, 0, 0] (shapeCast S8192x16x192 (m ((c : Thread nD τ).loc main_arg1)) shapeCasts_S8192x3072_S8192x16x192 : FVec Ideal S8192x16x192 .bf16) (sitofp (F := Ideal) .bf16 (constantI S_ 32 0#32)) pads_S8192x16x192_S8192x16x256_000_000_0640 h_S_) shapeCasts_S8192x16x256_S8192x4096 (ix2 i (col h d w256)) = _
  exact pad_real _ f hf h i d

/-- Joined heads of 256 columns, cut to 192 columns each. -/
theorem cut_real (X : FVec Ideal S8192x4096 .bf16) (f : Fin 16 → Fin 8192 → Fin 256 → ℝ)
    (hX : X = heads 4096 p256 f) :
    shapeCast S8192x3072 (extractStridedSlice S8192x16x192 ![0, 0, 0] (shapeCast S8192x16x256 X shapeCasts_S8192x4096_S8192x16x256) slices_S8192x16x256_S8192x16x192_0_0_0) shapeCasts_S8192x16x192_S8192x3072
      = heads 3072 p192 fun h i (d : Fin 192) => f h i ⟨d.val, by omega⟩ := by
  funext y
  obtain ⟨i, j, rfl⟩ : ∃ (i : Fin 8192) (j : Fin 3072), y = ix2 i j := ⟨y 0, y 1, eq_ix2 y⟩
  obtain ⟨h, d, rfl⟩ := exists_col (n := 192) (N := 3072) w192 p192 j
  rw [heads_col]
  pointwise
  have e1 : (192 * h.val + d.val) / 192 = h.val := by omega
  have e2 : (192 * h.val + d.val) % 192 = d.val := by omega
  have e : X (ix2 i (col h (⟨d.val, by omega⟩ : Fin 256) w256)) = ((f h i ⟨d.val, by omega⟩ : ℝ) : EReal) := by rw [hX, heads_col]
  rw [← e]
  unfold col
  blk_ext [e1, e2]

/-- The gradient of the queries as the program returns it. -/
theorem out_q (f : Fin 16 → Fin 8192 → Fin 256 → ℝ) (hX : W8 m ρ c (Proc.devRef .tc main_v7) = heads 4096 p256 f) :
    W9 m ρ c (Proc.devRef .tc main_v11) = heads 3072 p192 fun h i (d : Fin 192) => f h i ⟨d.val, by omega⟩ := by
  show StableHlo.after hostOps3 (W8 m ρ c) (Proc.devRef .tc main_v11) = _
  simp only [StableHlo.after_cons, StableHlo.after_nil]
  after_results_simp
  exact cut_real _ f hX
/-- The gradient of the keys as the program returns it. -/
theorem out_k (f : Fin 16 → Fin 8192 → Fin 256 → ℝ) (hX : W8 m ρ c (Proc.devRef .tc main_v8_0) = heads 4096 p256 f) :
    W9 m ρ c (Proc.devRef .tc main_v14) = heads 3072 p192 fun h i (d : Fin 192) => f h i ⟨d.val, by omega⟩ := by
  show StableHlo.after hostOps3 (W8 m ρ c) (Proc.devRef .tc main_v14) = _
  simp only [StableHlo.after_cons, StableHlo.after_nil]
  after_results_simp
  exact cut_real _ f hX

end Cert.Mla
-- ==== Proof.Chunks.lean ====
/-
  Four stores of 256 rows each into a block of 1,024 rows, and loads of 256 rows of a block: what they hold, entry by
  entry. Any number of columns, any entries.
-/
module
public import Idealize.ShloMosaic.Lib.Pipeline.Value
public import Idealize.ShloMosaic.Lib.Pipeline.ReadBack
public import Idealize.ShloMosaic.Lib.Pointwise

@[expose] public section
set_option maxRecDepth 16384
noncomputable section
namespace Cert.Mla
open Idealize.ShloMosaic

/-- Row `r` of the `c`-th group of 256 rows. -/
def row4 (c : Fin 4) (r : Fin 256) : Fin 1024 := ⟨256 * c.val + r.val, by omega⟩

theorem exists_row4 (i : Fin 1024) : ∃ c r, i = row4 c r :=
  ⟨⟨i.val / 256, by omega⟩, ⟨i.val % 256, by omega⟩, Fin.ext (by show i.val = 256 * (i.val / 256) + i.val % 256; omega)⟩

section
variable {Val : EltTy → Type} {e : EltTy} {n : ℕ}

/-- The place of an entry of 256 rows inside the block they start at row `o` of. -/
theorem emb_rows (o : ℕ) (inb : ∀ a, (![o, 0] : Fin 2 → ℕ) a + (![256, n] : Fin 2 → ℕ) a ≤ (⟨2, ![1024, n]⟩ : Shape).size a)
    (c : Fin 4) (ho : o = 256 * c.val) (r : Fin 256) (d : Fin n) :
    (Rect.unit (s := ⟨2, ![1024, n]⟩) ![o, 0] ![256, n] inb).emb (ix2 r d) = ix2 (row4 c r) d := by
  subst ho
  funext a
  refine Fin.ext ?_
  match a with
  | ⟨0, _⟩ => show 256 * c.val + 1 * r.val = 256 * c.val + r.val; omega
  | ⟨1, _⟩ => show 0 + 1 * d.val = d.val; omega

/-- A load of 256 rows. -/
theorem ld_rows (X : (⟨2, ![1024, n]⟩ : Shape).Idx → Val e) (o : ℕ)
    (inb : ∀ a, (![o, 0] : Fin 2 → ℕ) a + (![256, n] : Fin 2 → ℕ) a ≤ (⟨2, ![1024, n]⟩ : Shape).size a)
    (c : Fin 4) (ho : o = 256 * c.val) (r : Fin 256) (d : Fin n) :
    View.ld X (Rect.unit (s := ⟨2, ![1024, n]⟩) ![o, 0] ![256, n] inb) (ix2 r d) = X (ix2 (row4 c r) d) := by
  show X _ = _
  rw [show (Rect.unit (s := ⟨2, ![1024, n]⟩) ![o, 0] ![256, n] inb).idx (ix2 r d) = _ from emb_rows o inb c ho r d]

/-- A load of the first column of 256 rows. -/
theorem ld_col (X : (⟨2, ![1024, n]⟩ : Shape).Idx → Val e) (o : ℕ)
    (inb : ∀ a, (![o, 0] : Fin 2 → ℕ) a + (![256, 1] : Fin 2 → ℕ) a ≤ (⟨2, ![1024, n]⟩ : Shape).size a)
    (c : Fin 4) (ho : o = 256 * c.val) (hn : 0 < n) (r : Fin 256) (d : Fin 1) :
    View.ld X (Rect.unit (s := ⟨2, ![1024, n]⟩) ![o, 0] ![256, 1] inb) (ix2 r d) = X (ix2 (row4 c r) ⟨0, hn⟩) := by
  subst ho
  show X _ = _
  congr 1
  funext a
  refine Fin.ext ?_
  match a with
  | ⟨0, _⟩ => show 256 * c.val + 1 * r.val = 256 * c.val + r.val; omega
  | ⟨1, _⟩ => show 0 + 1 * d.val = 0; omega

/-- A load of the first column of a block. -/
theorem ld_col0 {m : ℕ} (X : (⟨2, ![m, n]⟩ : Shape).Idx → Val e)
    (inb : ∀ a, (![0, 0] : Fin 2 → ℕ) a + (![m, 1] : Fin 2 → ℕ) a ≤ (⟨2, ![m, n]⟩ : Shape).size a) (hn : 0 < n) (r : Fin m) (d : Fin 1) :
    View.ld X (Rect.unit (s := ⟨2, ![m, n]⟩) ![0, 0] ![m, 1] inb) (ix2 r d) = X (ix2 r ⟨0, hn⟩) := by
  show X _ = _
  congr 1
  funext a
  refine Fin.ext ?_
  match a with
  | ⟨0, _⟩ => show 0 + 1 * r.val = r.val; omega
  | ⟨1, _⟩ => show 0 + 1 * d.val = 0; omega

theorem not_mem_rows (o : ℕ) (inb : ∀ a, (![o, 0] : Fin 2 → ℕ) a + (![256, n] : Fin 2 → ℕ) a ≤ (⟨2, ![1024, n]⟩ : Shape).size a)
    (c : Fin 4) (h : 256 * c.val + 256 ≤ o ∨ o + 256 ≤ 256 * c.val) (r : Fin 256) (d : Fin n) :
    ix2 (row4 c r) d ∉ (Rect.unit (s := ⟨2, ![1024, n]⟩) ![o, 0] ![256, n] inb).set := by
  rw [Rect.mem_set_unit]
  intro hm
  have h0 := hm 0
  have e1 : ((ix2 (row4 c r) d : (⟨2, ![1024, n]⟩ : Shape).Idx) 0 : ℕ) = 256 * c.val + r.val := rfl
  have e2 : (![o, 0] : Fin 2 → ℕ) 0 = o := rfl
  have e3 : (![256, n] : Fin 2 → ℕ) 0 = 256 := rfl
  rw [e1, e2, e3] at h0
  omega

/-- Four stores of 256 rows each, read at an entry. -/
theorem canon_rows [∀ e, Nonempty (Val e)] (h0 h1 h2 h3)
    (w0 w1 w2 w3 : (⟨2, ![256, n]⟩ : Shape).Idx → Val e) (L : List (View.Piece Val (⟨2, ![1024, n]⟩ : Shape) e)) (c : Fin 4) (r : Fin 256) (d : Fin n) :
    View.canon ((⟨Rect.unit (s := ⟨2, ![1024, n]⟩) ![768, 0] ![256, n] h3, w3⟩ : View.Piece Val (⟨2, ![1024, n]⟩ : Shape) e)
      :: ⟨Rect.unit (s := ⟨2, ![1024, n]⟩) ![512, 0] ![256, n] h2, w2⟩ :: ⟨Rect.unit (s := ⟨2, ![1024, n]⟩) ![256, 0] ![256, n] h1, w1⟩
      :: ⟨Rect.unit (s := ⟨2, ![1024, n]⟩) ![0, 0] ![256, n] h0, w0⟩ :: L) (ix2 (row4 c r) d) = (![w0, w1, w2, w3] c) (ix2 r d) := by
  obtain ⟨c, hc⟩ := c
  have skip : ∀ (o : ℕ) (ho : 256 * c + 256 ≤ o ∨ o + 256 ≤ 256 * c) (h) (w : (⟨2, ![256, n]⟩ : Shape).Idx → Val e) (L' : List (View.Piece Val (⟨2, ![1024, n]⟩ : Shape) e)),
      View.canon ((⟨Rect.unit (s := ⟨2, ![1024, n]⟩) ![o, 0] ![256, n] h, w⟩ : View.Piece Val (⟨2, ![1024, n]⟩ : Shape) e) :: L') (ix2 (row4 ⟨c, hc⟩ r) d)
        = View.canon L' (ix2 (row4 ⟨c, hc⟩ r) d) := fun o ho h w L' =>
    View.canon_cons_of_not_mem _ _ (not_mem_rows o h ⟨c, hc⟩ ho r d)
  have hit : ∀ (o : ℕ) (ho : o = 256 * c) (h) (w : (⟨2, ![256, n]⟩ : Shape).Idx → Val e) (L' : List (View.Piece Val (⟨2, ![1024, n]⟩ : Shape) e)),
      View.canon ((⟨Rect.unit (s := ⟨2, ![1024, n]⟩) ![o, 0] ![256, n] h, w⟩ : View.Piece Val (⟨2, ![1024, n]⟩ : Shape) e) :: L') (ix2 (row4 ⟨c, hc⟩ r) d)
        = w (ix2 r d) := fun o ho h w L' => by
    rw [← emb_rows o h ⟨c, hc⟩ ho r d]
    exact View.canon_cons_emb (Rect.unit (s := ⟨2, ![1024, n]⟩) ![o, 0] ![256, n] h) w L' (ix2 r d)
  have hcs : c = 0 ∨ c = 1 ∨ c = 2 ∨ c = 3 := by omega
  rcases hcs with rfl | rfl | rfl | rfl
  · rw [skip 768 (by omega), skip 512 (by omega), skip 256 (by omega), hit 0 (by omega)]; rfl
  · rw [skip 768 (by omega), skip 512 (by omega), hit 256 (by omega)]; rfl
  · rw [skip 768 (by omega), hit 512 (by omega)]; rfl
  · rw [hit 768 (by omega)]; rfl

/-- A load of the whole of what stores left. -/
theorem readCov_whole [∀ e, Nonempty (Val e)] {S : Shape} {sig : RefSig} {κ : Kind} {sp : Space}
    (v : View sig κ sp S e) (L : List (View.Piece Val S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)

end

/-- One of four blocks at an index, from what each of the four holds there. -/
theorem sel4 {ι α : Type} (f : Fin 4 → α) (x : ι) {w0 w1 w2 w3 : ι → α} (h0 : w0 x = f 0) (h1 : w1 x = f 1) (h2 : w2 x = f 2)
    (h3 : w3 x = f 3) (g : Fin 4) : (![w0, w1, w2, w3] g) x = f g := by
  fin_cases g <;> assumption

end Cert.Mla
end
-- ==== Proof.Fwd.lean ====
/-
  The forward attention call at one grid point: what its two output blocks hold, for blocks of real numbers. The running
  maximum of a row is some real number and drops out of both results.
-/
module
public import proofs.«01_k».proof.Proof.Gen.KernelIdeal.Frame
public import proofs.«01_k».proof.Proof.Reals
public import proofs.«01_k».proof.Proof.Chunks
public import Idealize.ShloMosaic.Lib.Tactic

@[expose] public section
set_option maxRecDepth 16384
noncomputable section
namespace Cert.Mla
open Idealize.ShloMosaic Idealize.ShloMosaic.TcCoe Idealize.ShloMosaic.Tactic
open Idealize.SL Idealize.SL.Sem
open Cert.KernelIdeal Cert.KernelIdeal.Gen
open scoped BigOperators

theorem off_zero : (![0, 0] : Fin 2 → Nat) = fun _ => 0 := funext fun a => by fin_cases a <;> rfl

/-! ## One group of 256 query rows -/

/-- A row's maximum from −∞, over a block of real entries. -/
theorem red_max {m n : ℕ} [Nonempty (Fin n)] (x : FVec Ideal ⟨2, ![m, n]⟩ .f32) (f : Fin m → Fin n → ℝ)
    (hx : ∀ r j, x (ix2 r j) = (f r j : EReal)) (h : Shape.Reduces ⟨2, ![m, n]⟩ [1] ⟨1, ![m]⟩) (hφ : FKind.Formats .f32)
    (ha : (0xFF800000#32 : BitVec 32) = FKind.maximumf.neutral .f32 hφ) (r : Fin m) :
    multiReduction .maximumf [1] ⟨1, ![m]⟩ x 0xFF800000#32 h hφ ha (ix1 r) = ((rowMax (f r) : ℝ) : EReal) := by
  rw [multiReduction_maximumf_eq_fold, Shape.Reduces.fold_fiber_r2_a1, ← fold_max_coe]
  have e : FloatOps.ofBits (F := Ideal) .f32 0xFF800000#32 = (⊥ : EReal) := ofBits_bot
  rw [e]
  exact congrArg (fun g => Finset.fold max (⊥ : EReal) g Finset.univ) (funext fun j => hx r j)

section
variable {k : Vec Ideal S8192x256 .bf16} {v : Vec Ideal S8192x128 .bf16} {q : Vec Ideal S256x256 .bf16}
  {m0 l0 a0 : Vec Ideal S256x128 .f32}
  {Q : Fin 256 → Fin 256 → ℝ} {K : Fin 8192 → Fin 256 → ℝ} {V : Fin 8192 → Fin 128 → ℝ}

/-- The scores. -/
theorem pay9_real (hq : ∀ r c, q (ix2 r c) = (Q r c : EReal)) (hk : ∀ j c, k (ix2 j c) = (K j c : EReal)) (r : Fin 256) (j : Fin 8192) :
    k0_pay9 k q (ix2 r j) = ((sc Q K r j : ℝ) : EReal) := by
  unfold k0_pay9 k0_pay8
  pointwise
  simp only [hq, hk, ofBits_scale, ← EReal.coe_mul, sum_coe, sc]

/-- The running maximum of a row. -/
def mx (Q : Fin 256 → Fin 256 → ℝ) (K : Fin 8192 → Fin 256 → ℝ) (r : Fin 256) : ℝ := max low (rowMax (sc Q K r))

theorem pay10_real (hq : ∀ r c, q (ix2 r c) = (Q r c : EReal)) (hk : ∀ j c, k (ix2 j c) = (K j c : EReal))
    (hm : ∀ r d, m0 (ix2 r d) = (low : EReal)) (r : Fin 256) (d : Fin 128) :
    k0_pay10 k q m0 (ix2 r d) = ((mx Q K r : ℝ) : EReal) := by
  have e := red_max (k0_pay9 k q) (sc Q K) (pay9_real hq hk) reduces_S256x8192_S256 (.inl rfl) rfl
  unfold k0_pay10
  generalize multiReduction (F := Ideal) .maximumf [1] S256 (k0_pay9 k q) 0xFF800000#32 reduces_S256x8192_S256 (.inl rfl) rfl = M at e ⊢
  pointwise
  simp only [e, hm]
  rw [max_coe, mx]

theorem pay11_real (hq : ∀ r c, q (ix2 r c) = (Q r c : EReal)) (hk : ∀ j c, k (ix2 j c) = (K j c : EReal))
    (hm : ∀ r d, m0 (ix2 r d) = (low : EReal)) (r : Fin 256) (j : Fin 8192) :
    k0_pay11 k q m0 (ix2 r j) = ((Real.exp (sc Q K r j - mx Q K r) : ℝ) : EReal) := by
  unfold k0_pay11
  pointwise
  simp only [pay9_real hq hk, pay10_real hq hk hm, ← EReal.coe_sub, Ideal.exp_coe]

/-- The sum of the shifted exponentials. -/
theorem pay13_real (hq : ∀ r c, q (ix2 r c) = (Q r c : EReal)) (hk : ∀ j c, k (ix2 j c) = (K j c : EReal))
    (hm : ∀ r d, m0 (ix2 r d) = (low : EReal)) (hl : ∀ r d, l0 (ix2 r d) = 0) (r : Fin 256) (d : Fin 128) :
    k0_pay13 k q m0 l0 (ix2 r d) = ((∑ j, Real.exp (sc Q K r j - mx Q K r) : ℝ) : EReal) := by
  unfold k0_pay13 k0_pay12
  pointwise
  simp only [pay11_real hq hk hm, hl, mul_zero, zero_add, sum_coe]

/-- The weighted sum of the values. -/
theorem pay16_real (hq : ∀ r c, q (ix2 r c) = (Q r c : EReal)) (hk : ∀ j c, k (ix2 j c) = (K j c : EReal)) (hv : ∀ j d, v (ix2 j d) = (V j d : EReal))
    (hm : ∀ r d, m0 (ix2 r d) = (low : EReal)) (hl : ∀ r d, a0 (ix2 r d) = 0) (r : Fin 256) (d : Fin 128) :
    k0_pay16 v (k0_pay14 k q m0 a0) (k0_pay15 k q m0) (ix2 r d)
      = ((∑ j, Real.exp (sc Q K r j - mx Q K r) * V j d : ℝ) : EReal) := by
  unfold k0_pay16 k0_pay15 k0_pay14 k0_pay12
  pointwise
  simp only [pay11_real hq hk hm, hl, hv, mul_zero, zero_add, ← EReal.coe_mul, sum_coe]

/-- The four groups run one text. -/
theorem acc_3 : k0_pay1 (F := Ideal) (k0_pay40 (k0_pay8 k) v q m0 a0) = k0_pay16 v (k0_pay14 k q m0 a0) (k0_pay15 k q m0) := rfl
theorem acc_2 : k0_pay33 (F := Ideal) (k0_pay32 (k0_pay8 k) v q m0 a0) = k0_pay16 v (k0_pay14 k q m0 a0) (k0_pay15 k q m0) := rfl
theorem acc_1 : k0_pay25 (F := Ideal) (k0_pay23 (k0_pay8 k) q m0 a0) (k0_pay24 (k0_pay8 k) v q m0) = k0_pay16 v (k0_pay14 k q m0 a0) (k0_pay15 k q m0) := rfl
theorem sum_3 : k0_pay39 (F := Ideal) (k0_pay8 k) q m0 l0 = k0_pay13 k q m0 l0 := rfl
theorem sum_2 : k0_pay31 (F := Ideal) (k0_pay8 k) q m0 l0 = k0_pay13 k q m0 l0 := rfl
theorem sum_1 : k0_pay22 (F := Ideal) (k0_pay8 k) q m0 l0 = k0_pay13 k q m0 l0 := rfl

theorem max_0 (x : FVec Ideal S256x128 .f32) (r : Fin 256) (d : Fin 128) : k0_pay17 x (ix2 r d) = x (ix2 r d) := by
  unfold k0_pay17; pointwise
theorem max_1 (r : Fin 256) (d : Fin 128) : k0_pay26 (F := Ideal) (k0_pay19 (k0_pay8 k) q m0) (ix2 r d) = k0_pay10 k q m0 (ix2 r d) := max_0 _ r d
theorem max_2 (r : Fin 256) (d : Fin 128) : k0_pay34 (F := Ideal) (k0_pay28 (k0_pay8 k) q m0) (ix2 r d) = k0_pay10 k q m0 (ix2 r d) := max_0 _ r d
theorem max_3 (r : Fin 256) (d : Fin 128) : k0_pay2 (F := Ideal) (k0_pay36 (k0_pay8 k) q m0) (ix2 r d) = k0_pay10 k q m0 (ix2 r d) := max_0 _ r d

end

/-! ## The block -/

theorem pay5_low (y : S1024x128.Idx) : (k0_pay5 (F := Ideal)) y = (low : EReal) := by
  unfold k0_pay5; idx_vars y; pointwise; exact ofBits_low
theorem pay6_zero (y : S1024x128.Idx) : (k0_pay6 (F := Ideal)) y = 0 := by
  unfold k0_pay6; idx_vars y; pointwise
theorem pay7_zero (y : S1024x128.Idx) : (k0_pay7 (F := Ideal)) y = 0 := by
  unfold k0_pay7; idx_vars y; pointwise

theorem ld_all {n m : ℕ} {X : Vec Ideal ⟨2, ![n, m]⟩ .f32} {z : EReal} (hX : ∀ y, X y = z) {a b : ℕ} (o : Nat)
    (inb : ∀ t, ![o, 0] t + ![a, b] t ≤ (⟨2, ![n, m]⟩ : Shape).size t) (r : Fin a) (d : Fin b) :
    View.ld X (Rect.unit (s := ⟨2, ![n, m]⟩) ![o, 0] ![a, b] inb) (ix2 r d) = z := hX _

/-- The rows of one group. -/
def grp {C : Type} (Q : Fin 1024 → C → ℝ) (c : Fin 4) (r : Fin 256) (x : C) : ℝ := Q (row4 c r) x

theorem sc_grp (Q : Fin 1024 → Fin 256 → ℝ) (K : Fin 8192 → Fin 256 → ℝ) (c : Fin 4) (r : Fin 256) : sc (grp Q c) K r = sc Q K (row4 c r) :=
  funext fun j => by unfold sc grp; with_reducible rfl

/-- The output block. -/
theorem out0_3_real (c : Dev nD) (i : grid0.Coords) (arg4 : Memref sig .tc .vmem S1024x256 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i)
    (x0 : Vec Ideal S1024x256 .bf16) (x1 : Vec Ideal S8192x256 .bf16) (x2 : Vec Ideal S8192x128 .bf16)
    (Q : Fin 1024 → Fin 256 → ℝ) (K : Fin 8192 → Fin 256 → ℝ) (V : Fin 8192 → Fin 128 → ℝ)
    (hq : ∀ r c, x0 (ix2 r c) = (Q r c : EReal)) (hk : ∀ j c, x1 (ix2 j c) = (K j c : EReal)) (hv : ∀ j d, x2 (ix2 j d) = (V j d : EReal))
    (w : Fin 1024) (d : Fin 128) :
    out0_A_3 c i arg4 harg4 arg5 harg5 arg6 harg6 arg7 harg7 arg8 harg8 arg9 harg9 arg10 harg10 arg11 harg11 hc0 hc1 x0 x1 x2 (ix2 w d) = ((ov (sc Q K) V w d : ℝ) : EReal) := by
  obtain ⟨g, r, rfl⟩ := exists_row4 w
  unfold out0_A_3
  rw [View.read_writes_eq_canon _ _ _ (cover0_A_3 c i arg4 harg4 arg5 harg5 arg6 harg6 arg7 harg7 arg8 harg8 arg9 harg9 arg10 harg10 arg11 harg11 hc0 hc1 x0 x1 x2)]
  unfold kernelRun0_A; dsimp only; sl_unfold_words
  rw [View.canon_unit_zero off_zero]
  have hf : ∀ a, (![0, 0] : Fin 2 → Nat) a = 0 := by decide
  simp only [View.readAt_eq_ld, harg4.read_unread, harg5.read_unread, harg6.read_unread]
  simp (config := {decide := true}) only [↓View.readCov_skip, View.readCov_fill, hf]
  simp only [View.ld_unit_zero (S := S8192x256) off_zero, View.ld_unit_zero (S := S8192x128) off_zero,
    readCov_whole (S := S1024x128) _ _ off_zero, acc_1, acc_2, acc_3, sum_1, sum_2, sum_3]
  unfold k0_pay3
  pointwise
  rw [canon_rows, canon_rows]
  have hqg : ∀ (o : Nat) inb (c : Fin 4) (_ : o = 256 * c.val) (r : Fin 256) (t : Fin 256),
      View.ld x0 (Rect.unit (s := S1024x256) ![o, 0] ![256, 256] inb) (ix2 r t) = ((grp Q c r t : ℝ) : EReal) :=
    fun o inb c ho r t => (ld_rows x0 o inb c ho r t).trans (hq _ _)
  have fin : ∀ c : Fin 4, Ideal.div ((∑ j, Real.exp (sc (grp Q c) K r j - mx (grp Q c) K r) * V j d : ℝ) : EReal)
      ((∑ j, Real.exp (sc (grp Q c) K r j - mx (grp Q c) K r) : ℝ) : EReal) = ((ov (sc Q K) V (row4 c r) d : ℝ) : EReal) := fun c => by
    rw [div_coe_coe _ (sumExp_pos _).ne', ← ov_shift (sc Q K) V (row4 c r) d (mx (grp Q c) K r), sc_grp]
  exact (congrArg₂ Ideal.div
    (sel4 (fun c => ((∑ j, Real.exp (sc (grp Q c) K r j - mx (grp Q c) K r) * V j d : ℝ) : EReal)) _
      (pay16_real (hqg 0 _ 0 rfl) hk hv (ld_all pay5_low 0 _) (ld_all pay7_zero 0 _) r d)
      (pay16_real (hqg 256 _ 1 rfl) hk hv (ld_all pay5_low 256 _) (ld_all pay7_zero 256 _) r d)
      (pay16_real (hqg 512 _ 2 rfl) hk hv (ld_all pay5_low 512 _) (ld_all pay7_zero 512 _) r d)
      (pay16_real (hqg 768 _ 3 rfl) hk hv (ld_all pay5_low 768 _) (ld_all pay7_zero 768 _) r d) g)
    (sel4 (fun c => ((∑ j, Real.exp (sc (grp Q c) K r j - mx (grp Q c) K r) : ℝ) : EReal)) _
      (pay13_real (hqg 0 _ 0 rfl) hk (ld_all pay5_low 0 _) (ld_all pay6_zero 0 _) r d)
      (pay13_real (hqg 256 _ 1 rfl) hk (ld_all pay5_low 256 _) (ld_all pay6_zero 256 _) r d)
      (pay13_real (hqg 512 _ 2 rfl) hk (ld_all pay5_low 512 _) (ld_all pay6_zero 512 _) r d)
      (pay13_real (hqg 768 _ 3 rfl) hk (ld_all pay5_low 768 _) (ld_all pay6_zero 768 _) r d) g)).trans (fin g)

/-- The block of logarithms of the sums. -/
theorem out0_4_real (c : Dev nD) (i : grid0.Coords) (arg4 : Memref sig .tc .vmem S1024x256 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S1024x128 .f32) (harg11 : arg11.IsWhole) (hc0 : cond0_0 i) (hc1 : cond0_1 i)
    (x0 : Vec Ideal S1024x256 .bf16) (x1 : Vec Ideal S8192x256 .bf16) (x2 : Vec Ideal S8192x128 .bf16)
    (Q : Fin 1024 → Fin 256 → ℝ) (K : Fin 8192 → Fin 256 → ℝ)
    (hq : ∀ r c, x0 (ix2 r c) = (Q r c : EReal)) (hk : ∀ j c, x1 (ix2 j c) = (K j c : EReal))
    (w : Fin 1024) (d : Fin 128) :
    out0_A_4 c i arg4 harg4 arg5 harg5 arg6 harg6 arg7 harg7 arg8 harg8 arg9 harg9 arg10 harg10 arg11 harg11 hc0 hc1 x0 x1 x2 (ix2 w d) = ((lse (sc Q K) w : ℝ) : EReal) := by
  obtain ⟨g, r, rfl⟩ := exists_row4 w
  unfold out0_A_4
  rw [View.read_writes_eq_canon _ _ _ (cover0_A_4 c i arg4 harg4 arg5 harg5 arg6 harg6 arg7 harg7 arg8 harg8 arg9 harg9 arg10 harg10 arg11 harg11 hc0 hc1 x0 x1 x2)]
  unfold kernelRun0_A; dsimp only; sl_unfold_words
  rw [View.canon_unit_zero off_zero]
  have hf : ∀ a, (![0, 0] : Fin 2 → Nat) a = 0 := by decide
  simp only [View.readAt_eq_ld, harg4.read_unread, harg5.read_unread, harg6.read_unread]
  simp (config := {decide := true}) only [↓View.readCov_skip, View.readCov_fill, hf]
  simp only [View.ld_unit_zero (S := S8192x256) off_zero, View.ld_unit_zero (S := S8192x128) off_zero,
    readCov_whole (S := S1024x128) _ _ off_zero, acc_1, acc_2, acc_3, sum_1, sum_2, sum_3]
  unfold k0_pay4
  pointwise
  rw [canon_rows, canon_rows]
  have hqg : ∀ (o : Nat) inb (c : Fin 4) (_ : o = 256 * c.val) (r : Fin 256) (t : Fin 256),
      View.ld x0 (Rect.unit (s := S1024x256) ![o, 0] ![256, 256] inb) (ix2 r t) = ((grp Q c r t : ℝ) : EReal) :=
    fun o inb c ho r t => (ld_rows x0 o inb c ho r t).trans (hq _ _)
  have fin : ∀ c : Fin 4, ((mx (grp Q c) K r : ℝ) : EReal)
      + Ideal.log ((∑ j, Real.exp (sc (grp Q c) K r j - mx (grp Q c) K r) : ℝ) : EReal) = ((lse (sc Q K) (row4 c r) : ℝ) : EReal) := fun c => by
    rw [log_coe_pos (sumExp_pos _), ← EReal.coe_add, ← lse_shift (sc Q K) (row4 c r) (mx (grp Q c) K r), sc_grp]
  have two : ∀ {a b a' b' : EReal}, a = a' → b = b' → a + Ideal.log b = a' + Ideal.log b' := fun h h' => by rw [h, h']
  exact (two
    (sel4 (fun c => ((mx (grp Q c) K r : ℝ) : EReal)) _
      ((max_0 _ _ _).trans (pay10_real (hqg 0 _ 0 rfl) hk (ld_all pay5_low 0 _) r d))
      ((max_1 _ _).trans (pay10_real (hqg 256 _ 1 rfl) hk (ld_all pay5_low 256 _) r d))
      ((max_2 _ _).trans (pay10_real (hqg 512 _ 2 rfl) hk (ld_all pay5_low 512 _) r d))
      ((max_3 _ _).trans (pay10_real (hqg 768 _ 3 rfl) hk (ld_all pay5_low 768 _) r d)) g)
    (sel4 (fun c => ((∑ j, Real.exp (sc (grp Q c) K r j - mx (grp Q c) K r) : ℝ) : EReal)) _
      (pay13_real (hqg 0 _ 0 rfl) hk (ld_all pay5_low 0 _) (ld_all pay6_zero 0 _) r d)
      (pay13_real (hqg 256 _ 1 rfl) hk (ld_all pay5_low 256 _) (ld_all pay6_zero 256 _) r d)
      (pay13_real (hqg 512 _ 2 rfl) hk (ld_all pay5_low 512 _) (ld_all pay6_zero 512 _) r d)
      (pay13_real (hqg 768 _ 3 rfl) hk (ld_all pay5_low 768 _) (ld_all pay6_zero 768 _) r d) g)).trans (fin g)

end Cert.Mla
end
-- ==== Proof.Arr0.lean ====
/-
  The forward attention call: what its two output arrays hold after all 128 grid points, for operand arrays of real
  numbers. Point `t` works on head `t / 8` and on query rows `1024 * (t % 8) …`.
-/
module
public import proofs.«01_k».proof.Proof.Fwd
public import proofs.«01_k».proof.Proof.Heads
public import Idealize.ShloMosaic.Lib.Pipeline.ValueKit

@[expose] public section
set_option maxRecDepth 16384
noncomputable section
namespace Cert.Mla
open Idealize.ShloMosaic Idealize.ShloMosaic.TcCoe Idealize.ShloMosaic.Tactic
open Idealize.SL Idealize.SL.Sem
open Cert.KernelIdeal Cert.KernelIdeal.Gen
open Idealize.ShloMosaic.Pipeline (Dat Cfg Window)
open scoped BigOperators

theorem idx0 : ∀ t : Fin cfg0.N, win0_0.index t = ![t.val % 8, t.val / 8] ∧ win0_1.index t = ![0, t.val / 8]
    ∧ win0_2.index t = ![0, 2 * (t.val / 8) + 1] ∧ win0_3.index t = ![t.val % 8, t.val / 8] ∧ win0_4.index t = ![t.val % 8, t.val / 8] := by
  decide +kernel

theorem cov0_3 : (cfg0.win 3).Covers := by decide +kernel
theorem cov0_4 : (cfg0.win 4).Covers := by decide +kernel

variable (V : (c : Dev nD) → (b : Ref sig .tc) → Buf (Elt Ideal) ((c : Thread nD τ).loc b)) (c : Dev nD)

theorem lt0 (t : Fin cfg0.N) : t.val < 128 := N_0 ▸ t.2

theorem blk0_0 (t : Fin cfg0.N) (r : Fin 1024) (d : Fin 256) :
    iblk0 V c 0 t (ix2 r d) = V c main_v2 (ix2 (rw8 t r) (col (hd t (lt0 t)) d w256)) := by
  unfold rw8 col hd
  blk_ext [iblk0, (idx0 t).1]
theorem blk0_1 (t : Fin cfg0.N) (j : Fin 8192) (d : Fin 256) :
    iblk0 V c 1 t (ix2 j d) = V c main_v5 (ix2 j (col (hd t (lt0 t)) d w256)) := by
  unfold col hd
  blk_ext [iblk0, (idx0 t).2.1]
theorem blk0_2 (t : Fin cfg0.N) (j : Fin 8192) (d : Fin 128) :
    iblk0 V c 2 t (ix2 j d) = V c main_arg2 (ix2 j (vcol (hd t (lt0 t)) d)) := by
  unfold vcol hd
  blk_ext [iblk0, (idx0 t).2.2.1]

section
variable (Q K : Fin 16 → Fin 8192 → Fin 256 → ℝ) (W : Fin 16 → Fin 8192 → Fin 128 → ℝ)
  (hq : ∀ h i d, V c main_v2 (ix2 i (col h d w256)) = (Q h i d : EReal))
  (hk : ∀ h i d, V c main_v5 (ix2 i (col h d w256)) = (K h i d : EReal))
  (hv : ∀ h i d, V c main_arg2 (ix2 i (vcol h d)) = (W h i d : EReal))
include hq hk

/-- What the body leaves in the second output block at a grid point. -/
theorem pt0_4 (t : Fin cfg0.N) (w : Fin 1024) (d : Fin 128) :
    (outsAt0 V c t).2 (ix2 w d) = ((lse (sc (Q (hd t (lt0 t))) (K (hd t (lt0 t)))) (rw8 t w) : ℝ) : EReal) := by
  have e := out0_4_real c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (hcond0_0 t) (hcond0_1 t) (iblk0 V c 0 t) (iblk0 V c 1 t) (iblk0 V c 2 t)
    (fun r d => Q (hd t (lt0 t)) (rw8 t r) d) (K (hd t (lt0 t)))
    (fun r d => (blk0_0 V c t r d).trans (hq _ _ _)) (fun r d => (blk0_1 V c t r d).trans (hk _ _ _)) w d
  unfold outsAt0
  dsimp only
  rw [e]
  exact congrArg _ (lse_rows (rw8 t) (Q (hd t (lt0 t))) (K (hd t (lt0 t))) w)

/-- The second output array: the logarithm of the softmax denominator, repeated along the 128 columns of the head. -/
theorem arr0_4 : (dat0 V c).arrAt 4 cfg0.N = heads (n := 128) 2048 p128 fun h i _ => lse (sc (Q h) (K h)) i := by
  refine (dat0 V c).arrAt_eq_of_covers 4 _ cov0_4 fun t hf y => ?_
  obtain ⟨w, d, rfl⟩ : ∃ (w : Fin 1024) (d : Fin 128), y = ix2 w d := ⟨y 0, y 1, eq_ix2 y⟩
  have e0 : (((cfg0.win 4).blk t).view.emb (ix2 w d)) = ix2 (rw8 t w) (col (hd t (lt0 t)) d w128) := by
    unfold rw8 col hd
    blk_ext [(idx0 t).2.2.2.2]
  rw [e0]
  blk_simp
  rw [after0_4]
  exact (pt0_4 V c Q K hq hk t w d).trans (heads_col (n := 128) p128 w128 (fun h i _ => lse (sc (Q h) (K h)) i) _ _ d).symm

include hv

/-- What the body leaves in the first output block at a grid point. -/
theorem pt0_3 (t : Fin cfg0.N) (w : Fin 1024) (d : Fin 128) :
    (outsAt0 V c t).1 (ix2 w d) = ((ov (sc (Q (hd t (lt0 t))) (K (hd t (lt0 t)))) (W (hd t (lt0 t))) (rw8 t w) d : ℝ) : EReal) := by
  have e := out0_3_real c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (hcond0_0 t) (hcond0_1 t) (iblk0 V c 0 t) (iblk0 V c 1 t) (iblk0 V c 2 t)
    (fun r d => Q (hd t (lt0 t)) (rw8 t r) d) (K (hd t (lt0 t))) (W (hd t (lt0 t)))
    (fun r d => (blk0_0 V c t r d).trans (hq _ _ _)) (fun r d => (blk0_1 V c t r d).trans (hk _ _ _))
    (fun r d => (blk0_2 V c t r d).trans (hv _ _ _)) w d
  unfold outsAt0
  dsimp only
  rw [e]
  exact congrArg _ (ov_rows (rw8 t) (Q (hd t (lt0 t))) (K (hd t (lt0 t))) (W (hd t (lt0 t))) w d)

/-- The first output array: the attention output, head by head. -/
theorem arr0_3 : (dat0 V c).arrAt 3 cfg0.N = heads (n := 128) 2048 p128 fun h => ov (sc (Q h) (K h)) (W h) := by
  refine (dat0 V c).arrAt_eq_of_covers 3 _ cov0_3 fun t hf y => ?_
  obtain ⟨w, d, rfl⟩ : ∃ (w : Fin 1024) (d : Fin 128), y = ix2 w d := ⟨y 0, y 1, eq_ix2 y⟩
  have e0 : (((cfg0.win 3).blk t).view.emb (ix2 w d)) = ix2 (rw8 t w) (col (hd t (lt0 t)) d w128) := by
    unfold rw8 col hd
    blk_ext [(idx0 t).2.2.2.1]
  rw [e0]
  blk_simp
  rw [after0_3]
  exact (pt0_3 V c Q K W hq hk hv t w d).trans (heads_col (n := 128) p128 w128 (fun h => ov (sc (Q h) (K h)) (W h)) _ _ d).symm

end
end Cert.Mla
-- ==== Proof.Dq.lean ====
/-
  The query-gradient call at one grid point: what its output block holds, for blocks of real numbers, where the output and the
  logarithms of the sums are the forward call's.
-/
module
public import proofs.«01_k».proof.Proof.Fwd

@[expose] public section
set_option maxRecDepth 16384
noncomputable section
namespace Cert.Mla
open Idealize.ShloMosaic Idealize.ShloMosaic.TcCoe Idealize.ShloMosaic.Tactic
open Idealize.SL Idealize.SL.Sem
open Cert.KernelIdeal Cert.KernelIdeal.Gen
open scoped BigOperators

/-! ## One group of 256 query rows -/

section
variable {k : Vec Ideal S8192x256 .bf16} {v : Vec Ideal S8192x128 .bf16} {q : Vec Ideal S256x256 .bf16} {g : Vec Ideal S256x128 .bf16}
  {l e : Vec Ideal S256x1 .f32} {a : Vec Ideal S256x256 .f32}
  {Q : Fin 256 → Fin 256 → ℝ} {K : Fin 8192 → Fin 256 → ℝ} {V : Fin 8192 → Fin 128 → ℝ} {G : Fin 256 → Fin 128 → ℝ} {L E : Fin 256 → ℝ}

/-- The product of the scores' gradient with the keys. -/
theorem dq_pay6_real (hq : ∀ r c, q (ix2 r c) = (Q r c : EReal)) (hk : ∀ j c, k (ix2 j c) = (K j c : EReal)) (hv : ∀ j d, v (ix2 j d) = (V j d : EReal))
    (hg : ∀ r d, g (ix2 r d) = (G r d : EReal)) (hl : ∀ r t, l (ix2 r t) = (L r : EReal)) (he : ∀ r t, e (ix2 r t) = (E r : EReal))
    (ha : ∀ r c, a (ix2 r c) = 0) (r : Fin 256) (c : Fin 256) :
    k1_pay6 k v q l g e a (ix2 r c)
      = ((∑ j, Real.exp (sc Q K r j - L r) * (dp V G r j - E r) * scale * K j c : ℝ) : EReal) := by
  unfold k1_pay6 k1_pay5
  pointwise
  simp only [hq, hk, hv, hg, hl, he, ha, ofBits_scale, ← EReal.coe_mul, sum_coe, ← EReal.coe_sub, Ideal.exp_coe, zero_add, sc, dp]

/-- The four groups run one text. -/
theorem dq_1 : k1_pay7 (F := Ideal) (k1_pay5 k) v q l g e a = k1_pay6 k v q l g e a := rfl
theorem dq_2 : k1_pay9 (F := Ideal) (k1_pay5 k) v (k1_pay8 (k1_pay5 k) q l) g e a = k1_pay6 k v q l g e a := rfl
theorem dq_3 : k1_pay1 (F := Ideal) (k1_pay5 k) a (k1_pay10 (k1_pay5 k) v q l g e) = k1_pay6 k v q l g e a := rfl

end

/-! ## The block -/

theorem dq_zero (y : S1024x256.Idx) : (k1_pay3 (F := Ideal)) y = 0 := by
  unfold k1_pay3; idx_vars y; pointwise

/-- The entries of one group. -/
def grp1 (L : Fin 1024 → ℝ) (c : Fin 4) (r : Fin 256) : ℝ := L (row4 c r)

theorem dp_grp (V : Fin 8192 → Fin 128 → ℝ) (G : Fin 1024 → Fin 128 → ℝ) (c : Fin 4) (r : Fin 256) : dp V (grp G c) r = dp V G (row4 c r) :=
  funext fun j => by unfold dp grp; with_reducible rfl

/-- The row sums of gradient times output. -/
theorem dq_pay4_real {x3 x4 : Vec Ideal S1024x128 .bf16} {G O : Fin 1024 → Fin 128 → ℝ} (hg : ∀ r d, x3 (ix2 r d) = (G r d : EReal))
    (ho : ∀ r d, x4 (ix2 r d) = (O r d : EReal)) (r : Fin 1024) (d : Fin 128) :
    k1_pay4 x3 x4 (ix2 r d) = ((∑ t, G r t * O r t : ℝ) : EReal) := by
  unfold k1_pay4
  pointwise
  simp only [hg, ho, ← EReal.coe_mul, sum_coe]

/-- The output block. -/
theorem out1_6_real (c : Dev nD) (i : grid1.Coords) (arg4 : Memref sig .tc .vmem S1024x256 .bf16) (harg4 : arg4.IsWhole) (arg5 : Memref sig .tc .vmem S8192x256 .bf16) (harg5 : arg5.IsWhole) (arg6 : Memref sig .tc .vmem S8192x128 .bf16) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1024x128 .f32) (harg9 : arg9.IsWhole) (arg10 : Memref sig .tc .vmem S1024x256 .bf16) (harg10 : arg10.IsWhole) (arg11 : Memref sig .tc .vmem S1024x256 .f32) (harg11 : arg11.IsWhole) (arg12 : Memref sig .tc .vmem S1024x128 .f32) (harg12 : arg12.IsWhole) (hc0 : cond1_0 i) (hc1 : cond1_1 i)
    (x0 : Vec Ideal S1024x256 .bf16) (x1 : Vec Ideal S8192x256 .bf16) (x2 : Vec Ideal S8192x128 .bf16)
    (x3 x4 : Vec Ideal S1024x128 .bf16) (x5 : Vec Ideal S1024x128 .f32)
    (Q : Fin 1024 → Fin 256 → ℝ) (K : Fin 8192 → Fin 256 → ℝ) (V : Fin 8192 → Fin 128 → ℝ) (G : Fin 1024 → Fin 128 → ℝ)
    (hq : ∀ r c, x0 (ix2 r c) = (Q r c : EReal)) (hk : ∀ j c, x1 (ix2 j c) = (K j c : EReal)) (hv : ∀ j d, x2 (ix2 j d) = (V j d : EReal))
    (hg : ∀ r d, x3 (ix2 r d) = (G r d : EReal)) (ho : ∀ r d, x4 (ix2 r d) = ((ov (sc Q K) V r d : ℝ) : EReal))
    (hl : ∀ r d, x5 (ix2 r d) = ((lse (sc Q K) r : ℝ) : EReal))
    (w : Fin 1024) (d : Fin 256) :
    out1_A_6 c i arg4 harg4 arg5 harg5 arg6 harg6 arg7 harg7 arg8 harg8 arg9 harg9 arg10 harg10 arg11 harg11 arg12 harg12 hc0 hc1 x0 x1 x2 x3 x4 x5 (ix2 w d) = ((dq (sc Q K) V G K w d : ℝ) : EReal) := by
  obtain ⟨g, r, rfl⟩ := exists_row4 w
  unfold out1_A_6
  rw [View.read_writes_eq_canon _ _ _ (cover1_A_6 c i arg4 harg4 arg5 harg5 arg6 harg6 arg7 harg7 arg8 harg8 arg9 harg9 arg10 harg10 arg11 harg11 arg12 harg12 hc0 hc1 x0 x1 x2 x3 x4 x5)]
  unfold kernelRun1_A; dsimp only; sl_unfold_words
  rw [View.canon_unit_zero off_zero]
  have hf : ∀ a, (![0, 0] : Fin 2 → Nat) a = 0 := by decide
  simp only [View.readAt_eq_ld, harg4.read_unread, harg5.read_unread, harg6.read_unread, harg7.read_unread, harg8.read_unread, harg9.read_unread]
  simp (config := {decide := true}) only [↓View.readCov_skip, View.readCov_fill, hf]
  simp only [View.ld_unit_zero (S := S8192x256) off_zero, View.ld_unit_zero (S := S8192x128) off_zero, View.ld_unit_zero (S := S1024x128) off_zero,
    readCov_whole (S := S1024x256) _ _ off_zero, readCov_whole (S := S1024x128) _ _ off_zero, dq_1, dq_2, dq_3]
  unfold k1_pay2
  pointwise
  rw [canon_rows]
  have cq : ∀ (o : Nat) inb (c : Fin 4) (_ : o = 256 * c.val) (r : Fin 256) (t : Fin 256),
      View.ld x0 (Rect.unit (s := S1024x256) ![o, 0] ![256, 256] inb) (ix2 r t) = ((grp Q c r t : ℝ) : EReal) :=
    fun o inb c ho r t => (ld_rows x0 o inb c ho r t).trans (hq _ _)
  have cg : ∀ (o : Nat) inb (c : Fin 4) (_ : o = 256 * c.val) (r : Fin 256) (t : Fin 128),
      View.ld x3 (Rect.unit (s := S1024x128) ![o, 0] ![256, 128] inb) (ix2 r t) = ((grp G c r t : ℝ) : EReal) :=
    fun o inb c ho r t => (ld_rows x3 o inb c ho r t).trans (hg _ _)
  have cl : ∀ (o : Nat) inb (c : Fin 4) (_ : o = 256 * c.val) (r : Fin 256) (t : Fin 1),
      View.ld x5 (Rect.unit (s := S1024x128) ![o, 0] ![256, 1] inb) (ix2 r t) = ((grp1 (lse (sc Q K)) c r : ℝ) : EReal) :=
    fun o inb c ho r t => (ld_col x5 o inb c ho (by decide) r t).trans (hl _ _)
  have he : ∀ r d, k1_pay4 x3 x4 (ix2 r d) = ((dl (sc Q K) V G r : ℝ) : EReal) := dq_pay4_real hg ho
  obtain ⟨X, hX⟩ : ∃ X : Vec Ideal S1024x128 .f32, X = k1_pay4 x3 x4 := ⟨_, rfl⟩
  rw [← hX] at he ⊢
  have ce : ∀ (o : Nat) inb (c : Fin 4) (_ : o = 256 * c.val) (r : Fin 256) (t : Fin 1),
      View.ld X (Rect.unit (s := S1024x128) ![o, 0] ![256, 1] inb) (ix2 r t) = ((grp1 (dl (sc Q K) V G) c r : ℝ) : EReal) :=
    fun o inb c hc r t => (ld_col X o inb c hc (by decide) r t).trans (he _ _)
  have fin : ∀ c : Fin 4, ((∑ j, Real.exp (sc (grp Q c) K r j - grp1 (lse (sc Q K)) c r)
      * (dp V (grp G c) r j - grp1 (dl (sc Q K) V G) c r) * scale * K j d : ℝ) : EReal) = ((dq (sc Q K) V G K (row4 c r) d : ℝ) : EReal) := fun c => by
    unfold dq ds grp1
    rw [sc_grp, dp_grp]
    exact congrArg _ (Finset.sum_congr rfl fun j _ => by rw [exp_sub_lse])
  exact (sel4 (fun c => ((∑ j, Real.exp (sc (grp Q c) K r j - grp1 (lse (sc Q K)) c r)
      * (dp V (grp G c) r j - grp1 (dl (sc Q K) V G) c r) * scale * K j d : ℝ) : EReal)) _
    (dq_pay6_real (cq 0 _ 0 rfl) hk hv (cg 0 _ 0 rfl) (cl 0 _ 0 rfl) (ce 0 _ 0 rfl) (ld_all dq_zero 0 _) r d)
    (dq_pay6_real (cq 256 _ 1 rfl) hk hv (cg 256 _ 1 rfl) (cl 256 _ 1 rfl) (ce 256 _ 1 rfl) (ld_all dq_zero 256 _) r d)
    (dq_pay6_real (cq 512 _ 2 rfl) hk hv (cg 512 _ 2 rfl) (cl 512 _ 2 rfl) (ce 512 _ 2 rfl) (ld_all dq_zero 512 _) r d)
    (dq_pay6_real (cq 768 _ 3 rfl) hk hv (cg 768 _ 3 rfl) (cl 768 _ 3 rfl) (ce 768 _ 3 rfl) (ld_all dq_zero 768 _) r d) g).trans (fin g)

end Cert.Mla
end
-- ==== Proof.Arr1.lean ====
/-
  The call for the gradient of the queries: what its output array holds after all 128 grid points. Point `t` works on head
  `t / 8` and on query rows `1024 * (t % 8) …`.
-/
module
public import proofs.«01_k».proof.Proof.Dq
public import proofs.«01_k».proof.Proof.Heads
public import Idealize.ShloMosaic.Lib.Pipeline.ValueKit

@[expose] public section
set_option maxRecDepth 16384
noncomputable section
namespace Cert.Mla
open Idealize.ShloMosaic Idealize.ShloMosaic.TcCoe Idealize.ShloMosaic.Tactic
open Idealize.SL Idealize.SL.Sem
open Cert.KernelIdeal Cert.KernelIdeal.Gen
open Idealize.ShloMosaic.Pipeline (Dat Cfg Window)
open scoped BigOperators

theorem idx1 : ∀ t : Fin cfg1.N, win1_0.index t = ![t.val % 8, t.val / 8]
    ∧ win1_1.index t = ![0, t.val / 8]
    ∧ win1_2.index t = ![0, 2 * (t.val / 8) + 1]
    ∧ win1_3.index t = ![t.val % 8, t.val / 8]
    ∧ win1_4.index t = ![t.val % 8, t.val / 8]
    ∧ win1_5.index t = ![t.val % 8, t.val / 8]
    ∧ win1_6.index t = ![t.val % 8, t.val / 8] := by
  decide +kernel

theorem cov1_6 : (cfg1.win 6).Covers := by decide +kernel

variable (V : (c : Dev nD) → (b : Ref sig .tc) → Buf (Elt Ideal) ((c : Thread nD τ).loc b)) (c : Dev nD)

theorem lt1 (t : Fin cfg1.N) : t.val < 128 := N_1 ▸ t.2

theorem blk1_0 (t : Fin cfg1.N) (j : Fin 1024) (d : Fin 256) :
    iblk1 V c 0 t (ix2 j d) = V c main_v2 (ix2 (rw8 t j) (col (hd t (lt1 t)) d w256)) := by
  unfold rw8 col hd
  blk_ext [iblk1, (idx1 t).1]
theorem blk1_1 (t : Fin cfg1.N) (j : Fin 8192) (d : Fin 256) :
    iblk1 V c 1 t (ix2 j d) = V c main_v5 (ix2 j (col (hd t (lt1 t)) d w256)) := by
  unfold col hd
  blk_ext [iblk1, (idx1 t).2.1]
theorem blk1_2 (t : Fin cfg1.N) (j : Fin 8192) (d : Fin 128) :
    iblk1 V c 2 t (ix2 j d) = V c main_arg2 (ix2 j (vcol (hd t (lt1 t)) d)) := by
  unfold vcol hd
  blk_ext [iblk1, (idx1 t).2.2.1]
theorem blk1_3 (t : Fin cfg1.N) (j : Fin 1024) (d : Fin 128) :
    iblk1 V c 3 t (ix2 j d) = V c main_arg3 (ix2 (rw8 t j) (col (hd t (lt1 t)) d w128)) := by
  unfold rw8 col hd
  blk_ext [iblk1, (idx1 t).2.2.2.1]
theorem blk1_4 (t : Fin cfg1.N) (j : Fin 1024) (d : Fin 128) :
    iblk1 V c 4 t (ix2 j d) = V c main_v6_0 (ix2 (rw8 t j) (col (hd t (lt1 t)) d w128)) := by
  unfold rw8 col hd
  blk_ext [iblk1, (idx1 t).2.2.2.2.1]
theorem blk1_5 (t : Fin cfg1.N) (j : Fin 1024) (d : Fin 128) :
    iblk1 V c 5 t (ix2 j d) = V c main_v6_1 (ix2 (rw8 t j) (col (hd t (lt1 t)) d w128)) := by
  unfold rw8 col hd
  blk_ext [iblk1, (idx1 t).2.2.2.2.2.1]

section
variable (Q K : Fin 16 → Fin 8192 → Fin 256 → ℝ) (W G : Fin 16 → Fin 8192 → Fin 128 → ℝ)
  (hq : ∀ h i d, V c main_v2 (ix2 i (col h d w256)) = (Q h i d : EReal))
  (hk : ∀ h i d, V c main_v5 (ix2 i (col h d w256)) = (K h i d : EReal))
  (hv : ∀ h i d, V c main_arg2 (ix2 i (vcol h d)) = (W h i d : EReal))
  (hg : ∀ h i d, V c main_arg3 (ix2 i (col h d w128)) = (G h i d : EReal))
  (ho : ∀ h i d, V c main_v6_0 (ix2 i (col h d w128)) = ((ov (sc (Q h) (K h)) (W h) i d : ℝ) : EReal))
  (hl : ∀ h i (d : Fin 128), V c main_v6_1 (ix2 i (col h d w128)) = ((lse (sc (Q h) (K h)) i : ℝ) : EReal))
include hq hk hv hg ho hl

/-- What the body leaves in the output block at a grid point. -/
theorem pt1_6 (t : Fin cfg1.N) (w : Fin 1024) (d : Fin 256) :
    outsAt1 V c t (ix2 w d) = ((dq (sc (Q (hd t (lt1 t))) (K (hd t (lt1 t)))) (W (hd t (lt1 t))) (G (hd t (lt1 t))) (K (hd t (lt1 t))) (rw8 t w) d : ℝ) : EReal) := by
  have e := out1_6_real c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (hcond1_0 t) (hcond1_1 t) (iblk1 V c 0 t) (iblk1 V c 1 t) (iblk1 V c 2 t) (iblk1 V c 3 t) (iblk1 V c 4 t) (iblk1 V c 5 t)
    (fun r d => Q (hd t (lt1 t)) (rw8 t r) d) (K (hd t (lt1 t))) (W (hd t (lt1 t))) (fun r d => G (hd t (lt1 t)) (rw8 t r) d)
    (fun r d => (blk1_0 V c t r d).trans (hq _ _ _)) (fun r d => (blk1_1 V c t r d).trans (hk _ _ _))
    (fun r d => (blk1_2 V c t r d).trans (hv _ _ _)) (fun r d => (blk1_3 V c t r d).trans (hg _ _ _))
    (fun r d => ((blk1_4 V c t r d).trans (ho _ _ _)).trans (congrArg _ (ov_rows (rw8 t) (Q (hd t (lt1 t))) (K (hd t (lt1 t))) (W (hd t (lt1 t))) r d).symm))
    (fun r d => ((blk1_5 V c t r d).trans (hl _ _ _)).trans (congrArg _ (lse_rows (rw8 t) (Q (hd t (lt1 t))) (K (hd t (lt1 t))) r).symm)) w d
  unfold outsAt1
  rw [e]
  exact congrArg _ (dq_rows (rw8 t) (Q (hd t (lt1 t))) (K (hd t (lt1 t))) (W (hd t (lt1 t))) (G (hd t (lt1 t))) w d)

/-- The output array: the gradient of the queries, head by head. -/
theorem arr1_6 : (dat1 V c).arrAt 6 cfg1.N = heads (n := 256) 4096 p256 fun h => dq (sc (Q h) (K h)) (W h) (G h) (K h) := by
  refine (dat1 V c).arrAt_eq_of_covers 6 _ cov1_6 fun t hf y => ?_
  obtain ⟨w, d, rfl⟩ : ∃ (w : Fin 1024) (d : Fin 256), y = ix2 w d := ⟨y 0, y 1, eq_ix2 y⟩
  have e0 : (((cfg1.win 6).blk t).view.emb (ix2 w d)) = ix2 (rw8 t w) (col (hd t (lt1 t)) d w256) := by
    unfold rw8 col hd
    blk_ext [(idx1 t).2.2.2.2.2.2]
  rw [e0]
  blk_simp
  rw [after1_6]
  exact (pt1_6 V c Q K W G hq hk hv hg ho hl t w d).trans (heads_col (n := 256) p256 w256 (fun h => dq (sc (Q h) (K h)) (W h) (G h) (K h)) _ _ d).symm

end
end Cert.Mla
-- ==== Proof.Dkv.lean ====
/-
  The key- and value-gradient call at one grid point: what its two output blocks hold, for blocks of real numbers, where the
  output and the logarithms of the sums are the forward call's. The scores are taken with the queries along the rows, and the
  products contract over the rows.
-/
module
public import proofs.«01_k».proof.Proof.Fwd

@[expose] public section
set_option maxRecDepth 16384
noncomputable section
namespace Cert.Mla
open Idealize.ShloMosaic Idealize.ShloMosaic.TcCoe Idealize.ShloMosaic.Tactic
open Idealize.SL Idealize.SL.Sem
open Cert.KernelIdeal Cert.KernelIdeal.Gen
open scoped BigOperators

/-! ## One group of 256 key rows -/

section
variable {q : Vec Ideal S8192x256 .bf16} {g o : Vec Ideal S8192x128 .bf16} {k : Vec Ideal S256x256 .bf16} {v : Vec Ideal S256x128 .bf16}
  {l e : Vec Ideal S8192x1 .f32} {a : Vec Ideal S256x256 .f32} {b : Vec Ideal S256x128 .f32}
  {Q : Fin 8192 → Fin 256 → ℝ} {K : Fin 256 → Fin 256 → ℝ} {V : Fin 256 → Fin 128 → ℝ} {G : Fin 8192 → Fin 128 → ℝ} {L E : Fin 8192 → ℝ}

/-- The probabilities. -/
theorem dkv_pay11_real (hq : ∀ r c, q (ix2 r c) = (Q r c : EReal)) (hk : ∀ j c, k (ix2 j c) = (K j c : EReal))
    (hl : ∀ r t, l (ix2 r t) = (L r : EReal)) (r : Fin 8192) (j : Fin 256) :
    k2_pay11 q l k (ix2 r j) = ((Real.exp (sc Q K r j - L r) : ℝ) : EReal) := by
  unfold k2_pay11 k2_pay8 k2_pay9
  pointwise
  simp only [hq, hk, hl, ofBits_scale, ← EReal.coe_mul, sum_coe, ← EReal.coe_sub, Ideal.exp_coe, sc]

/-- The value gradient of the group. -/
theorem dkv_pay12_real (hq : ∀ r c, q (ix2 r c) = (Q r c : EReal)) (hk : ∀ j c, k (ix2 j c) = (K j c : EReal))
    (hl : ∀ r t, l (ix2 r t) = (L r : EReal)) (hg : ∀ r d, g (ix2 r d) = (G r d : EReal)) (hb : ∀ r d, b (ix2 r d) = 0)
    (j : Fin 256) (d : Fin 128) :
    k2_pay12 q g l k b (ix2 j d) = ((∑ r, Real.exp (sc Q K r j - L r) * G r d : ℝ) : EReal) := by
  unfold k2_pay12
  pointwise
  simp only [dkv_pay11_real hq hk hl, hg, hb, zero_add, ← EReal.coe_mul, sum_coe]

/-- The key gradient of the group. -/
theorem dkv_pay13_real (hq : ∀ r c, q (ix2 r c) = (Q r c : EReal)) (hk : ∀ j c, k (ix2 j c) = (K j c : EReal)) (hv : ∀ j d, v (ix2 j d) = (V j d : EReal))
    (hl : ∀ r t, l (ix2 r t) = (L r : EReal)) (he : ∀ r t, e (ix2 r t) = (E r : EReal)) (hg : ∀ r d, g (ix2 r d) = (G r d : EReal))
    (ha : ∀ r c, a (ix2 r c) = 0) (j : Fin 256) (c : Fin 256) :
    k2_pay13 (k2_pay8 q) g e (k2_pay11 q l k) v (constant S8192x256 .f32 0x00000000#32) a (ix2 j c)
      = ((∑ r, Real.exp (sc Q K r j - L r) * (dp V G r j - E r) * scale * Q r c : ℝ) : EReal) := by
  unfold k2_pay13 k2_pay8
  pointwise
  simp only [dkv_pay11_real hq hk hl, hq, hv, hg, he, ha, ofBits_scale, ← EReal.coe_mul, sum_coe, ← EReal.coe_sub, zero_add, dp]

/-- The four groups run one text. -/
theorem dv_1 : k2_pay15 (F := Ideal) (k2_pay8 q) g (k2_pay9 l) k b = k2_pay12 q g l k b := rfl
theorem dv_2 : k2_pay19 (F := Ideal) (k2_pay8 q) g (k2_pay9 l) k b = k2_pay12 q g l k b := rfl
theorem dv_3 : k2_pay2 (F := Ideal) (k2_pay8 q) g (k2_pay9 l) k b = k2_pay12 q g l k b := rfl
theorem dk_1 : k2_pay17 (F := Ideal) (k2_pay8 q) a (k2_pay16 (k2_pay8 q) g (k2_pay9 l) e k v)
    = k2_pay13 (k2_pay8 q) g e (k2_pay11 q l k) v (constant S8192x256 .f32 0x00000000#32) a := rfl
theorem dk_2 : k2_pay20 (F := Ideal) (k2_pay8 q) g (k2_pay9 l) e k v a
    = k2_pay13 (k2_pay8 q) g e (k2_pay11 q l k) v (constant S8192x256 .f32 0x00000000#32) a := rfl
theorem dk_3 : k2_pay3 (F := Ideal) (k2_pay8 q) g (k2_pay9 l) e k v a
    = k2_pay13 (k2_pay8 q) g e (k2_pay11 q l k) v (constant S8192x256 .f32 0x00000000#32) a := rfl

/-- The row sums of gradient times output. -/
theorem dkv_pay10_real {O : Fin 8192 → Fin 128 → ℝ} (hg : ∀ r d, g (ix2 r d) = (G r d : EReal))
    (ho : ∀ r d, o (ix2 r d) = (O r d : EReal)) (r : Fin 8192) (t : Fin 1) :
    k2_pay10 g o (ix2 r t) = ((∑ d, G r d * O r d : ℝ) : EReal) := by
  unfold k2_pay10
  pointwise
  simp only [hg, ho, ← EReal.coe_mul, sum_coe]

end

/-! ## The blocks -/

theorem dk_zero (y : S1024x256.Idx) : (k2_pay6 (F := Ideal)) y = 0 := by
  unfold k2_pay6; idx_vars y; pointwise
theorem dv_zero (y : S1024x128.Idx) : (k2_pay7 (F := Ideal)) y = 0 := by
  unfold k2_pay7; idx_vars y; pointwise

theorem sc_grpK (Q : Fin 8192 → Fin 256 → ℝ) (K : Fin 1024 → Fin 256 → ℝ) (c : Fin 4) (i : Fin 8192) (j : Fin 256) :
    sc Q (grp K c) i j = sc Q K i (row4 c j) := by unfold sc grp; with_reducible rfl

theorem dp_grpV (V : Fin 1024 → Fin 128 → ℝ) (G : Fin 8192 → Fin 128 → ℝ) (c : Fin 4) (i : Fin 8192) (j : Fin 256) :
    dp (grp V c) G i j = dp V G i (row4 c j) := by unfold dp grp; with_reducible rfl

/-- The key-gradient block. -/
theorem out2_6_real (c : Dev nD) (i : grid2.Coords) (arg4 : Memref sig .tc .vmem S1024x256 .bf16) (harg4 : arg4.IsWhole) (arg5 : Memref sig .tc .vmem S1024x128 .bf16) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1024x256 .f32) (harg12 : arg12.IsWhole) (arg13 : Memref sig .tc .vmem S1024x128 .f32) (harg13 : arg13.IsWhole) (hc0 : cond2_0 i) (hc1 : cond2_1 i)
    (x0 : Vec Ideal S1024x256 .bf16) (x1 : Vec Ideal S1024x128 .bf16) (x2 : Vec Ideal S8192x256 .bf16) (x3 x4 : Vec Ideal S8192x128 .bf16)
    (x5 : Vec Ideal S8192x128 .f32)
    (Q : Fin 8192 → Fin 256 → ℝ) (K : Fin 1024 → Fin 256 → ℝ) (V : Fin 1024 → Fin 128 → ℝ) (G O : Fin 8192 → Fin 128 → ℝ) (L : Fin 8192 → ℝ)
    (hk : ∀ r c, x0 (ix2 r c) = (K r c : EReal)) (hv : ∀ j d, x1 (ix2 j d) = (V j d : EReal)) (hq : ∀ j c, x2 (ix2 j c) = (Q j c : EReal))
    (hg : ∀ r d, x3 (ix2 r d) = (G r d : EReal)) (ho : ∀ r d, x4 (ix2 r d) = (O r d : EReal)) (hl : ∀ r d, x5 (ix2 r d) = (L r : EReal))
    (w : Fin 1024) (d : Fin 256) :
    out2_A_6 c i arg4 harg4 arg5 harg5 arg6 harg6 arg7 harg7 arg8 harg8 arg9 harg9 arg10 harg10 arg11 harg11 arg12 harg12 arg13 harg13 hc0 hc1 x0 x1 x2 x3 x4 x5 (ix2 w d) = ((∑ i, Real.exp (sc Q K i w - L i) * (dp V G i w - ∑ t, G i t * O i t) * scale * Q i d : ℝ) : EReal) := by
  obtain ⟨g, r, rfl⟩ := exists_row4 w
  unfold out2_A_6
  rw [View.read_writes_eq_canon _ _ _ (cover2_A_6 c i arg4 harg4 arg5 harg5 arg6 harg6 arg7 harg7 arg8 harg8 arg9 harg9 arg10 harg10 arg11 harg11 arg12 harg12 arg13 harg13 hc0 hc1 x0 x1 x2 x3 x4 x5)]
  unfold kernelRun2_A; dsimp only; sl_unfold_words
  rw [View.canon_unit_zero off_zero]
  have hf : ∀ a, (![0, 0] : Fin 2 → Nat) a = 0 := by decide
  simp only [View.readAt_eq_ld, harg4.read_unread, harg5.read_unread, harg6.read_unread, harg7.read_unread, harg8.read_unread, harg9.read_unread]
  simp (config := {decide := true}) only [↓View.readCov_skip, View.readCov_fill, hf]
  simp only [View.ld_unit_zero (S := S8192x256) off_zero, View.ld_unit_zero (S := S8192x128) off_zero, View.ld_unit_zero (S := S1024x128) off_zero,
    readCov_whole (S := S1024x256) _ _ off_zero, readCov_whole (S := S1024x128) _ _ off_zero, dk_1, dk_2, dk_3, dv_1, dv_2, dv_3]
  unfold k2_pay4
  pointwise
  rw [canon_rows]
  have ck : ∀ (o : Nat) inb (c : Fin 4) (_ : o = 256 * c.val) (r : Fin 256) (t : Fin 256),
      View.ld x0 (Rect.unit (s := S1024x256) ![o, 0] ![256, 256] inb) (ix2 r t) = ((grp K c r t : ℝ) : EReal) :=
    fun o inb c ho r t => (ld_rows x0 o inb c ho r t).trans (hk _ _)
  have cv : ∀ (o : Nat) inb (c : Fin 4) (_ : o = 256 * c.val) (r : Fin 256) (t : Fin 128),
      View.ld x1 (Rect.unit (s := S1024x128) ![o, 0] ![256, 128] inb) (ix2 r t) = ((grp V c r t : ℝ) : EReal) :=
    fun o inb c ho r t => (ld_rows x1 o inb c ho r t).trans (hv _ _)
  have cl : ∀ inb (r : Fin 8192) (t : Fin 1), View.ld x5 (Rect.unit (s := S8192x128) ![0, 0] ![8192, 1] inb) (ix2 r t) = (L r : EReal) :=
    fun inb r t => (ld_col0 x5 inb (by decide) r t).trans (hl _ _)
  have ce := dkv_pay10_real hg ho
  refine (sel4 (fun c => ((∑ i, Real.exp (sc Q (grp K c) i r - L i) * (dp (grp V c) G i r - ∑ t, G i t * O i t) * scale * Q i d : ℝ) : EReal)) _
    (dkv_pay13_real hq (ck 0 _ 0 rfl) (cv 0 _ 0 rfl) (cl _) ce hg (ld_all dk_zero 0 _) r d)
    (dkv_pay13_real hq (ck 256 _ 1 rfl) (cv 256 _ 1 rfl) (cl _) ce hg (ld_all dk_zero 256 _) r d)
    (dkv_pay13_real hq (ck 512 _ 2 rfl) (cv 512 _ 2 rfl) (cl _) ce hg (ld_all dk_zero 512 _) r d)
    (dkv_pay13_real hq (ck 768 _ 3 rfl) (cv 768 _ 3 rfl) (cl _) ce hg (ld_all dk_zero 768 _) r d) g).trans ?_
  simp only [sc_grpK, dp_grpV]

/-- The value-gradient block. -/
theorem out2_7_real (c : Dev nD) (i : grid2.Coords) (arg4 : Memref sig .tc .vmem S1024x256 .bf16) (harg4 : arg4.IsWhole) (arg5 : Memref sig .tc .vmem S1024x128 .bf16) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S8192x128 .f32) (harg9 : arg9.IsWhole) (arg10 : Memref sig .tc .vmem S1024x256 .bf16) (harg10 : arg10.IsWhole) (arg11 : Memref sig .tc .vmem S1024x128 .bf16) (harg11 : arg11.IsWhole) (arg12 : Memref sig .tc .vmem S1024x256 .f32) (harg12 : arg12.IsWhole) (arg13 : Memref sig .tc .vmem S1024x128 .f32) (harg13 : arg13.IsWhole) (hc0 : cond2_0 i) (hc1 : cond2_1 i)
    (x0 : Vec Ideal S1024x256 .bf16) (x1 : Vec Ideal S1024x128 .bf16) (x2 : Vec Ideal S8192x256 .bf16) (x3 x4 : Vec Ideal S8192x128 .bf16)
    (x5 : Vec Ideal S8192x128 .f32)
    (Q : Fin 8192 → Fin 256 → ℝ) (K : Fin 1024 → Fin 256 → ℝ) (V : Fin 1024 → Fin 128 → ℝ) (G O : Fin 8192 → Fin 128 → ℝ) (L : Fin 8192 → ℝ)
    (hk : ∀ r c, x0 (ix2 r c) = (K r c : EReal)) (hv : ∀ j d, x1 (ix2 j d) = (V j d : EReal)) (hq : ∀ j c, x2 (ix2 j c) = (Q j c : EReal))
    (hg : ∀ r d, x3 (ix2 r d) = (G r d : EReal)) (ho : ∀ r d, x4 (ix2 r d) = (O r d : EReal)) (hl : ∀ r d, x5 (ix2 r d) = (L r : EReal))
    (w : Fin 1024) (d : Fin 128) :
    out2_A_7 c i arg4 harg4 arg5 harg5 arg6 harg6 arg7 harg7 arg8 harg8 arg9 harg9 arg10 harg10 arg11 harg11 arg12 harg12 arg13 harg13 hc0 hc1 x0 x1 x2 x3 x4 x5 (ix2 w d) = ((∑ i, Real.exp (sc Q K i w - L i) * G i d : ℝ) : EReal) := by
  obtain ⟨g, r, rfl⟩ := exists_row4 w
  unfold out2_A_7
  rw [View.read_writes_eq_canon _ _ _ (cover2_A_7 c i arg4 harg4 arg5 harg5 arg6 harg6 arg7 harg7 arg8 harg8 arg9 harg9 arg10 harg10 arg11 harg11 arg12 harg12 arg13 harg13 hc0 hc1 x0 x1 x2 x3 x4 x5)]
  unfold kernelRun2_A; dsimp only; sl_unfold_words
  rw [View.canon_unit_zero off_zero]
  have hf : ∀ a, (![0, 0] : Fin 2 → Nat) a = 0 := by decide
  simp only [View.readAt_eq_ld, harg4.read_unread, harg5.read_unread, harg6.read_unread, harg7.read_unread, harg8.read_unread, harg9.read_unread]
  simp (config := {decide := true}) only [↓View.readCov_skip, View.readCov_fill, hf]
  simp only [View.ld_unit_zero (S := S8192x256) off_zero, View.ld_unit_zero (S := S8192x128) off_zero, View.ld_unit_zero (S := S1024x128) off_zero,
    readCov_whole (S := S1024x256) _ _ off_zero, readCov_whole (S := S1024x128) _ _ off_zero, dk_1, dk_2, dk_3, dv_1, dv_2, dv_3]
  unfold k2_pay5
  pointwise
  rw [canon_rows]
  have ck : ∀ (o : Nat) inb (c : Fin 4) (_ : o = 256 * c.val) (r : Fin 256) (t : Fin 256),
      View.ld x0 (Rect.unit (s := S1024x256) ![o, 0] ![256, 256] inb) (ix2 r t) = ((grp K c r t : ℝ) : EReal) :=
    fun o inb c ho r t => (ld_rows x0 o inb c ho r t).trans (hk _ _)
  have cl : ∀ inb (r : Fin 8192) (t : Fin 1), View.ld x5 (Rect.unit (s := S8192x128) ![0, 0] ![8192, 1] inb) (ix2 r t) = (L r : EReal) :=
    fun inb r t => (ld_col0 x5 inb (by decide) r t).trans (hl _ _)
  refine (sel4 (fun c => ((∑ i, Real.exp (sc Q (grp K c) i r - L i) * G i d : ℝ) : EReal)) _
    (dkv_pay12_real hq (ck 0 _ 0 rfl) (cl _) hg (ld_all dv_zero 0 _) r d)
    (dkv_pay12_real hq (ck 256 _ 1 rfl) (cl _) hg (ld_all dv_zero 256 _) r d)
    (dkv_pay12_real hq (ck 512 _ 2 rfl) (cl _) hg (ld_all dv_zero 512 _) r d)
    (dkv_pay12_real hq (ck 768 _ 3 rfl) (cl _) hg (ld_all dv_zero 768 _) r d) g).trans ?_
  simp only [sc_grpK]

end Cert.Mla
end
-- ==== Proof.Arr2.lean ====
/-
  The call for the gradients of the keys and of the values: what its two output arrays hold after all 128 grid points.
  Point `t` works on head `t / 8` and on key rows `1024 * (t % 8) …`.
-/
module
public import proofs.«01_k».proof.Proof.Dkv
public import proofs.«01_k».proof.Proof.Heads
public import Idealize.ShloMosaic.Lib.Pipeline.ValueKit

@[expose] public section
set_option maxRecDepth 16384
noncomputable section
namespace Cert.Mla
open Idealize.ShloMosaic Idealize.ShloMosaic.TcCoe Idealize.ShloMosaic.Tactic
open Idealize.SL Idealize.SL.Sem
open Cert.KernelIdeal Cert.KernelIdeal.Gen
open Idealize.ShloMosaic.Pipeline (Dat Cfg Window)
open scoped BigOperators

theorem idx2 : ∀ t : Fin cfg2.N, win2_0.index t = ![t.val % 8, t.val / 8]
    ∧ win2_1.index t = ![t.val % 8, 2 * (t.val / 8) + 1]
    ∧ win2_2.index t = ![0, t.val / 8]
    ∧ win2_3.index t = ![0, t.val / 8]
    ∧ win2_4.index t = ![0, t.val / 8]
    ∧ win2_5.index t = ![0, t.val / 8]
    ∧ win2_6.index t = ![t.val % 8, t.val / 8]
    ∧ win2_7.index t = ![t.val % 8, t.val / 8] := by
  decide +kernel

theorem cov2_6 : (cfg2.win 6).Covers := by decide +kernel
theorem cov2_7 : (cfg2.win 7).Covers := by decide +kernel

variable (V : (c : Dev nD) → (b : Ref sig .tc) → Buf (Elt Ideal) ((c : Thread nD τ).loc b)) (c : Dev nD)

theorem lt2 (t : Fin cfg2.N) : t.val < 128 := N_2 ▸ t.2

theorem blk2_0 (t : Fin cfg2.N) (j : Fin 1024) (d : Fin 256) :
    iblk2 V c 0 t (ix2 j d) = V c main_v5 (ix2 (rw8 t j) (col (hd t (lt2 t)) d w256)) := by
  unfold rw8 col hd
  blk_ext [iblk2, (idx2 t).1]
theorem blk2_1 (t : Fin cfg2.N) (j : Fin 1024) (d : Fin 128) :
    iblk2 V c 1 t (ix2 j d) = V c main_arg2 (ix2 (rw8 t j) (vcol (hd t (lt2 t)) d)) := by
  unfold rw8 vcol hd
  blk_ext [iblk2, (idx2 t).2.1]
theorem blk2_2 (t : Fin cfg2.N) (j : Fin 8192) (d : Fin 256) :
    iblk2 V c 2 t (ix2 j d) = V c main_v2 (ix2 j (col (hd t (lt2 t)) d w256)) := by
  unfold col hd
  blk_ext [iblk2, (idx2 t).2.2.1]
theorem blk2_3 (t : Fin cfg2.N) (j : Fin 8192) (d : Fin 128) :
    iblk2 V c 3 t (ix2 j d) = V c main_arg3 (ix2 j (col (hd t (lt2 t)) d w128)) := by
  unfold col hd
  blk_ext [iblk2, (idx2 t).2.2.2.1]
theorem blk2_4 (t : Fin cfg2.N) (j : Fin 8192) (d : Fin 128) :
    iblk2 V c 4 t (ix2 j d) = V c main_v6_0 (ix2 j (col (hd t (lt2 t)) d w128)) := by
  unfold col hd
  blk_ext [iblk2, (idx2 t).2.2.2.2.1]
theorem blk2_5 (t : Fin cfg2.N) (j : Fin 8192) (d : Fin 128) :
    iblk2 V c 5 t (ix2 j d) = V c main_v6_1 (ix2 j (col (hd t (lt2 t)) d w128)) := by
  unfold col hd
  blk_ext [iblk2, (idx2 t).2.2.2.2.2.1]

section
variable (Q K : Fin 16 → Fin 8192 → Fin 256 → ℝ) (W G : Fin 16 → Fin 8192 → Fin 128 → ℝ)
  (hq : ∀ h i d, V c main_v2 (ix2 i (col h d w256)) = (Q h i d : EReal))
  (hk : ∀ h i d, V c main_v5 (ix2 i (col h d w256)) = (K h i d : EReal))
  (hv : ∀ h i d, V c main_arg2 (ix2 i (vcol h d)) = (W h i d : EReal))
  (hg : ∀ h i d, V c main_arg3 (ix2 i (col h d w128)) = (G h i d : EReal))
  (ho : ∀ h i d, V c main_v6_0 (ix2 i (col h d w128)) = ((ov (sc (Q h) (K h)) (W h) i d : ℝ) : EReal))
  (hl : ∀ h i (d : Fin 128), V c main_v6_1 (ix2 i (col h d w128)) = ((lse (sc (Q h) (K h)) i : ℝ) : EReal))
include hq hk hv hg ho hl

/-- What the body leaves in output block 1 of 2 at a grid point. -/
theorem pt2_6 (t : Fin cfg2.N) (w : Fin 1024) (d : Fin 256) :
    (outsAt2 V c t).1 (ix2 w d) = ((dk (sc (Q (hd t (lt2 t))) (K (hd t (lt2 t)))) (W (hd t (lt2 t))) (G (hd t (lt2 t))) (Q (hd t (lt2 t))) (rw8 t w) d : ℝ) : EReal) := by
  have e := out2_6_real c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (hcond2_0 t) (hcond2_1 t) (iblk2 V c 0 t) (iblk2 V c 1 t) (iblk2 V c 2 t) (iblk2 V c 3 t) (iblk2 V c 4 t) (iblk2 V c 5 t)
    (Q (hd t (lt2 t))) (fun r d => K (hd t (lt2 t)) (rw8 t r) d) (fun r d => W (hd t (lt2 t)) (rw8 t r) d) (G (hd t (lt2 t))) (ov (sc (Q (hd t (lt2 t))) (K (hd t (lt2 t)))) (W (hd t (lt2 t)))) (lse (sc (Q (hd t (lt2 t))) (K (hd t (lt2 t)))))
    (fun r d => (blk2_0 V c t r d).trans (hk _ _ _)) (fun r d => (blk2_1 V c t r d).trans (hv _ _ _))
    (fun r d => (blk2_2 V c t r d).trans (hq _ _ _)) (fun r d => (blk2_3 V c t r d).trans (hg _ _ _))
    (fun r d => (blk2_4 V c t r d).trans (ho _ _ _)) (fun r d => (blk2_5 V c t r d).trans (hl _ _ _)) w d
  unfold outsAt2
  dsimp only
  rw [e]
  exact congrArg _ (dk_rows (Q (hd t (lt2 t))) (K (hd t (lt2 t))) (W (hd t (lt2 t))) (G (hd t (lt2 t))) (rw8 t) w d)

/-- Output array 1 of 2: the gradient of the keys, head by head. -/
theorem arr2_6 : (dat2 V c).arrAt 6 cfg2.N = heads (n := 256) 4096 p256 fun h => dk (sc (Q h) (K h)) (W h) (G h) (Q h) := by
  refine (dat2 V c).arrAt_eq_of_covers 6 _ cov2_6 fun t hf y => ?_
  obtain ⟨w, d, rfl⟩ : ∃ (w : Fin 1024) (d : Fin 256), y = ix2 w d := ⟨y 0, y 1, eq_ix2 y⟩
  have e0 : (((cfg2.win 6).blk t).view.emb (ix2 w d)) = ix2 (rw8 t w) (col (hd t (lt2 t)) d w256) := by
    unfold rw8 col hd
    blk_ext [(idx2 t).2.2.2.2.2.2.1]
  rw [e0]
  blk_simp
  rw [after2_6]
  exact (pt2_6 V c Q K W G hq hk hv hg ho hl t w d).trans (heads_col (n := 256) p256 w256 (fun h => dk (sc (Q h) (K h)) (W h) (G h) (Q h)) _ _ d).symm

/-- What the body leaves in output block 2 of 2 at a grid point. -/
theorem pt2_7 (t : Fin cfg2.N) (w : Fin 1024) (d : Fin 128) :
    (outsAt2 V c t).2 (ix2 w d) = ((dv (sc (Q (hd t (lt2 t))) (K (hd t (lt2 t)))) (G (hd t (lt2 t))) (rw8 t w) d : ℝ) : EReal) := by
  have e := out2_7_real c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (hcond2_0 t) (hcond2_1 t) (iblk2 V c 0 t) (iblk2 V c 1 t) (iblk2 V c 2 t) (iblk2 V c 3 t) (iblk2 V c 4 t) (iblk2 V c 5 t)
    (Q (hd t (lt2 t))) (fun r d => K (hd t (lt2 t)) (rw8 t r) d) (fun r d => W (hd t (lt2 t)) (rw8 t r) d) (G (hd t (lt2 t))) (ov (sc (Q (hd t (lt2 t))) (K (hd t (lt2 t)))) (W (hd t (lt2 t)))) (lse (sc (Q (hd t (lt2 t))) (K (hd t (lt2 t)))))
    (fun r d => (blk2_0 V c t r d).trans (hk _ _ _)) (fun r d => (blk2_1 V c t r d).trans (hv _ _ _))
    (fun r d => (blk2_2 V c t r d).trans (hq _ _ _)) (fun r d => (blk2_3 V c t r d).trans (hg _ _ _))
    (fun r d => (blk2_4 V c t r d).trans (ho _ _ _)) (fun r d => (blk2_5 V c t r d).trans (hl _ _ _)) w d
  unfold outsAt2
  dsimp only
  rw [e]
  exact congrArg _ (dv_rows (Q (hd t (lt2 t))) (K (hd t (lt2 t))) (G (hd t (lt2 t))) (rw8 t) w d)

/-- Output array 2 of 2: the gradient of the values, head by head. -/
theorem arr2_7 : (dat2 V c).arrAt 7 cfg2.N = heads (n := 128) 2048 p128 fun h => dv (sc (Q h) (K h)) (G h) := by
  refine (dat2 V c).arrAt_eq_of_covers 7 _ cov2_7 fun t hf y => ?_
  obtain ⟨w, d, rfl⟩ : ∃ (w : Fin 1024) (d : Fin 128), y = ix2 w d := ⟨y 0, y 1, eq_ix2 y⟩
  have e0 : (((cfg2.win 7).blk t).view.emb (ix2 w d)) = ix2 (rw8 t w) (col (hd t (lt2 t)) d w128) := by
    unfold rw8 col hd
    blk_ext [(idx2 t).2.2.2.2.2.2.2]
  rw [e0]
  blk_simp
  rw [after2_7]
  exact (pt2_7 V c Q K W G hq hk hv hg ho hl t w d).trans (heads_col (n := 128) p128 w128 (fun h => dv (sc (Q h) (K h)) (G h)) _ _ d).symm

end
end Cert.Mla
-- ==== Proof.KernelRun.lean ====
/-
  What the program of the three calls returns, for arguments of real numbers: the fold of the buffers through the run, and
  the run itself.
-/
module
public import proofs.«01_k».proof.Proof.HostIn
public import proofs.«01_k».proof.Proof.Arr0
public import proofs.«01_k».proof.Proof.Arr1
public import proofs.«01_k».proof.Proof.Arr2

@[expose] public section
set_option maxRecDepth 16384
noncomputable section
namespace Cert.Mla
open Idealize.ShloMosaic Idealize.ShloMosaic.TcCoe Idealize.ShloMosaic.Tactic
open Idealize.SL Idealize.SL.Sem
open Cert.KernelIdeal Cert.KernelIdeal.Gen
open scoped BigOperators

/-- The padding adds nothing to a score. -/
theorem sc_pad (q k : Fin 16 → Fin 8192 → Fin 192 → ℝ) (h : Fin 16) : sc (padH q h) (padH k h) = sc (q h) (k h) := by
  funext i j
  unfold sc
  congr 1
  rw [show (∑ c : Fin 256, padH q h i c * padH k h j c) = _ from Fin.sum_univ_add (a := 192) (b := 64) (fun c => padH q h i c * padH k h j c)]
  have e1 : ∀ c : Fin 192, padH q h i (Fin.castAdd 64 c) * padH k h j (Fin.castAdd 64 c) = q h i c * k h j c := fun c => by
    unfold padH
    have hc : (Fin.castAdd 64 c).val < 192 := c.2
    rw [dif_pos hc, dif_pos hc]
    rfl
  have e2 : ∀ c : Fin 64, padH q h i (Fin.natAdd 192 c) * padH k h j (Fin.natAdd 192 c) = 0 := fun c => by
    unfold padH
    have hc : ¬ (Fin.natAdd 192 c).val < 192 := by simp
    rw [dif_neg hc, zero_mul]
  simp only [e1, e2, Finset.sum_const_zero, add_zero]

theorem padH_lt (f : Fin 16 → Fin 8192 → Fin 192 → ℝ) (h : Fin 16) (i : Fin 8192) (d : Fin 192) (hd : d.val < 256) : padH f h i ⟨d.val, hd⟩ = f h i d := by
  unfold padH
  rw [dif_pos d.2]

section
variable (m : (ℓ : Loc nD τ sig) → Buf (Elt Ideal) ℓ) (ρ : Dev nD → PrngReg) (c : Dev nD)
  (q k : Fin 16 → Fin 8192 → Fin 192 → ℝ) (w g : Fin 16 → Fin 8192 → Fin 128 → ℝ)
  (hq : ∀ h i d, m ((c : Thread nD τ).loc main_arg0) (ix2 i (col h d w192)) = (q h i d : EReal))
  (hk : ∀ h i d, m ((c : Thread nD τ).loc main_arg1) (ix2 i (col h d w192)) = (k h i d : EReal))
  (hv : ∀ h i d, m ((c : Thread nD τ).loc main_arg2) (ix2 i (vcol h d)) = (w h i d : EReal))
  (hg : ∀ h i d, m ((c : Thread nD τ).loc main_arg3) (ix2 i (col h d w128)) = (g h i d : EReal))

theorem v5_v (hv : ∀ h i d, m ((c : Thread nD τ).loc main_arg2) (ix2 i (vcol h d)) = (w h i d : EReal)) (h i d) :
    V5 m ρ c main_arg2 (ix2 i (vcol h d)) = (w h i d : EReal) :=
  (congrFun (W5_args m ρ c main_arg2 (by decide)) _).trans (hv h i d)

include hq hk in
theorem w6_l : W6 m ρ c (Proc.devRef .tc main_v6_1) = heads (n := 128) 2048 p128 fun h i _ => lse (sc (padH q h) (padH k h)) i :=
  (W6_arr m ρ c 4).trans (arr0_4 (V5 m ρ) c (padH q) (padH k) (in_q m ρ c q hq) (in_k m ρ c k hk))
include hq hk hv in
theorem w6_o : W6 m ρ c (Proc.devRef .tc main_v6_0) = heads (n := 128) 2048 p128 fun h => ov (sc (padH q h) (padH k h)) (w h) :=
  (W6_arr m ρ c 3).trans (arr0_3 (V5 m ρ) c (padH q) (padH k) w (in_q m ρ c q hq) (in_k m ρ c k hk) (v5_v m ρ c w hv))

theorem in6 (r : Ref sig .tc) (h : ∀ w : Fin cfg0.W, Pipeline.arrRef spec0 w = r → (cfg0.win w).isOut = false) : V6 m ρ c r = V5 m ρ c r := W6_of m ρ c r h
theorem in7 (r : Ref sig .tc) (h : ∀ w : Fin cfg1.W, Pipeline.arrRef spec1 w = r → (cfg1.win w).isOut = false) : V7 m ρ c r = V6 m ρ c r := W7_of m ρ c r h

include hq hk hv hg

theorem w7_dq : W7 m ρ c (Proc.devRef .tc main_v7)
    = heads (n := 256) 4096 p256 fun h => dq (sc (padH q h) (padH k h)) (w h) (g h) (padH k h) :=
  (W7_arr m ρ c 6).trans (arr1_6 (V6 m ρ) c (padH q) (padH k) w g
    (fun h i d => (congrFun (in6 m ρ c main_v2 (by decide)) _).trans (in_q m ρ c q hq h i d))
    (fun h i d => (congrFun (in6 m ρ c main_v5 (by decide)) _).trans (in_k m ρ c k hk h i d))
    (fun h i d => (congrFun (W6_args m ρ c main_arg2 (by decide)) _).trans (hv h i d))
    (fun h i d => (congrFun (W6_args m ρ c main_arg3 (by decide)) _).trans (hg h i d))
    (fun h i d => (congrFun (w6_o m ρ c q k w hq hk hv) _).trans (heads_col _ (by decide) _ h i d))
    (fun h i d => (congrFun (w6_l m ρ c q k hq hk) _).trans (heads_col _ (by decide) _ h i d)))

theorem w8_dk : W8 m ρ c (Proc.devRef .tc main_v8_0)
    = heads (n := 256) 4096 p256 fun h => dk (sc (padH q h) (padH k h)) (w h) (g h) (padH q h) :=
  (W8_arr m ρ c 6).trans (arr2_6 (V7 m ρ) c (padH q) (padH k) w g
    (fun h i d => (congrFun ((in7 m ρ c main_v2 (by decide)).trans (in6 m ρ c main_v2 (by decide))) _).trans (in_q m ρ c q hq h i d))
    (fun h i d => (congrFun ((in7 m ρ c main_v5 (by decide)).trans (in6 m ρ c main_v5 (by decide))) _).trans (in_k m ρ c k hk h i d))
    (fun h i d => (congrFun (W7_args m ρ c main_arg2 (by decide)) _).trans (hv h i d))
    (fun h i d => (congrFun (W7_args m ρ c main_arg3 (by decide)) _).trans (hg h i d))
    (fun h i d => (congrFun ((in7 m ρ c main_v6_0 (by decide)).trans (w6_o m ρ c q k w hq hk hv)) _).trans (heads_col _ (by decide) _ h i d))
    (fun h i d => (congrFun ((in7 m ρ c main_v6_1 (by decide)).trans (w6_l m ρ c q k hq hk)) _).trans (heads_col _ (by decide) _ h i d)))

theorem w8_dv : W8 m ρ c (Proc.devRef .tc main_v8_1)
    = heads (n := 128) 2048 p128 fun h => dv (sc (padH q h) (padH k h)) (g h) :=
  (W8_arr m ρ c 7).trans (arr2_7 (V7 m ρ) c (padH q) (padH k) w g
    (fun h i d => (congrFun ((in7 m ρ c main_v2 (by decide)).trans (in6 m ρ c main_v2 (by decide))) _).trans (in_q m ρ c q hq h i d))
    (fun h i d => (congrFun ((in7 m ρ c main_v5 (by decide)).trans (in6 m ρ c main_v5 (by decide))) _).trans (in_k m ρ c k hk h i d))
    (fun h i d => (congrFun (W7_args m ρ c main_arg2 (by decide)) _).trans (hv h i d))
    (fun h i d => (congrFun (W7_args m ρ c main_arg3 (by decide)) _).trans (hg h i d))
    (fun h i d => (congrFun ((in7 m ρ c main_v6_0 (by decide)).trans (w6_o m ρ c q k w hq hk hv)) _).trans (heads_col _ (by decide) _ h i d))
    (fun h i d => (congrFun ((in7 m ρ c main_v6_1 (by decide)).trans (w6_l m ρ c q k hq hk)) _).trans (heads_col _ (by decide) _ h i d)))

omit hg in
/-- The attention output. -/
theorem end_o : W9 m ρ c (Proc.devRef .tc main_v6_0) = heads (n := 128) 2048 p128 fun h => ov (sc (q h) (k h)) (w h) := by
  rw [W9_of m ρ c main_v6_0 (by decide), W8_of m ρ c main_v6_0 (by decide), W7_of m ρ c main_v6_0 (by decide), w6_o m ρ c q k w hq hk hv]
  simp only [sc_pad]
/-- The gradient of the queries. -/
theorem end_dq : W9 m ρ c (Proc.devRef .tc main_v11) = heads (n := 192) 3072 p192 fun h => dq (sc (q h) (k h)) (w h) (g h) (k h) := by
  rw [out_q m ρ c _ ((W8_of m ρ c main_v7 (by decide)).trans (w7_dq m ρ c q k w g hq hk hv hg))]
  simp only [sc_pad]
  unfold dq
  simp only [padH_lt]
/-- The gradient of the keys. -/
theorem end_dk : W9 m ρ c (Proc.devRef .tc main_v14) = heads (n := 192) 3072 p192 fun h => dk (sc (q h) (k h)) (w h) (g h) (q h) := by
  rw [out_k m ρ c _ (w8_dk m ρ c q k w g hq hk hv hg)]
  simp only [sc_pad]
  unfold dk
  simp only [padH_lt]
/-- The gradient of the values. -/
theorem end_dv : W9 m ρ c (Proc.devRef .tc main_v8_1) = heads (n := 128) 2048 p128 fun h => dv (sc (q h) (k h)) (g h) := by
  rw [W9_of m ρ c main_v8_1 (by decide), w8_dv m ρ c q k w g hq hk hv hg]
  simp only [sc_pad]

end
end Cert.Mla
-- ==== Proof.RunTo.lean ====
/-
  The run of the three calls: every weakly fair execution ends with the buffers at the fold of the run, the arguments as
  launched.
-/
module
public import proofs.«01_k».proof.Proof.Gen.KernelIdeal.Frame

@[expose] public section
set_option maxRecDepth 16384
noncomputable section
namespace Cert.Mla
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The results and the arguments at the end of the run. -/
theorem run_to : θ_run defs (onTc (τ := τ) (main (F := F))) ⟨m, fun _ => 0, ρ⟩ (fun r => ∀ c : Dev nD,
      r.2.mem ((c.tc : Thread nD τ).loc main_v6_0) = W9 m ρ c (Proc.devRef .tc main_v6_0)
      ∧ r.2.mem ((c.tc : Thread nD τ).loc main_v11) = W9 m ρ c (Proc.devRef .tc main_v11)
      ∧ r.2.mem ((c.tc : Thread nD τ).loc main_v14) = W9 m ρ c (Proc.devRef .tc main_v14)
      ∧ r.2.mem ((c.tc : Thread nD τ).loc main_v8_1) = W9 m ρ c (Proc.devRef .tc main_v8_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v6_0 (by decide)), h c _ (mem_uc main_v11 (by decide)), h c _ (mem_uc main_v14 (by decide)), h c _ (mem_uc main_v8_1 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.Mla
end
-- ==== Proof.RefVals.lean ====
/-
  The plain formula's arrays entry by entry, for arguments of real numbers.
-/
module
public import proofs.«01_k».proof.Proof.Gen.ReferenceIdeal.Run
public import proofs.«01_k».proof.Proof.Heads
public import Idealize.ShloMosaic.Lib.Tactic
public import Idealize.ShloMosaic.Lib.Pipeline.ValueKit

@[expose] public section
set_option maxRecDepth 16384
noncomputable section
namespace Cert.Mla
open Idealize.ShloMosaic Idealize.ShloMosaic.TcCoe Idealize.ShloMosaic.Tactic
open Idealize.SL Idealize.SL.Sem
open Cert.ReferenceIdeal Cert.ReferenceIdeal.Gen
open scoped BigOperators

/-- A row's maximum from −∞, in an array of rank three of real entries. -/
theorem host_max {a b n : ℕ} [Nonempty (Fin n)] (x : FVec Ideal ⟨3, ![a, b, n]⟩ .f32) (f : Fin a → Fin b → Fin n → ℝ)
    (hx : ∀ h i j, x (ix3 h i j) = (f h i j : EReal)) (z : FVec Ideal S_ .f32) (hz : z = fun _ => ⊥)
    (e : Shape.ReducesTo ⟨3, ![a, b, n]⟩ [2] ⟨2, ![a, b]⟩) (h : Fin a) (i : Fin b) :
    Host.reduce FloatOps.maximumf x z e h_S_ (ix2 h i) = ((rowMax (f h i) : ℝ) : EReal) := by
  rw [Host.reduce_eq_fold, Shape.ReducesTo.fold_fiber_r3_a2, ← fold_max_coe, hz]
  exact congrArg (fun g => Finset.fold max (⊥ : EReal) g Finset.univ) (funext fun j => hx h i j)

section
variable (A0 A1 : FVec Ideal S8192x3072 .bf16) (A2 : FVec Ideal S8192x4096 .bf16) (A3 : FVec Ideal S8192x2048 .bf16)

/-- The queries or keys, by head. -/
def rQ (A : FVec Ideal S8192x3072 .bf16) : FVec Ideal S8192x16x192 .f32 :=
  shapeCast S8192x16x192 (extf .f32 A bitsLt_bf16_f32) shapeCasts_S8192x3072_S8192x16x192
/-- The values, by head. -/
def rV : FVec Ideal S8192x16x128 .f32 :=
  extractStridedSlice S8192x16x128 ![0, 0, 128] (shapeCast S8192x16x256 (extf .f32 A2 bitsLt_bf16_f32) shapeCasts_S8192x4096_S8192x16x256) slices_S8192x16x256_S8192x16x128_0_0_128
/-- The output's gradient, by head, its rows last. -/
def rG : FVec Ideal S16x128x8192 .f32 :=
  transpose S16x128x8192 [1, 2, 0] (shapeCast S8192x16x128 (extf .f32 A3 bitsLt_bf16_f32) shapeCasts_S8192x2048_S8192x16x128) transposes_S8192x16x128_S16x128x8192_1_2_0
/-- The scaled scores. -/
def rS (Q K : FVec Ideal S8192x16x192 .f32) : FVec Ideal S16x8192x8192 .f32 :=
  mulf (Host.dotGeneral dot_S8192x16x192_S8192x16x192_S16x8192x8192_2_2_0_0_1_1 none Q K) (broadcastInDim S16x8192x8192 ![] bcast_S_S16x8192x8192 (constant S_ .f32 0x3D93CD3A#32))
/-- The row maxima of the scores. -/
def rM (S : FVec Ideal S16x8192x8192 .f32) : FVec Ideal S16x8192 .f32 :=
  Host.reduce FloatOps.maximumf S (constant S_ .f32 0xFF800000#32) reducesTo_S16x8192x8192_S16x8192_d2 h_S_
/-- The shifted exponentials. -/
def rE (S : FVec Ideal S16x8192x8192 .f32) (M : FVec Ideal S16x8192 .f32) : FVec Ideal S16x8192x8192 .f32 :=
  Host.exp (subf S (broadcastInDim S16x8192x8192 ![0, 1, 2] bcast_S16x8192x1_S16x8192x8192_0_1_2 (broadcastInDim S16x8192x1 ![0, 1] bcast_S16x8192_S16x8192x1_0_1 (maximumf (broadcastInDim S16x8192 ![] bcast_S_S16x8192 (constant S_ .f32 0xFF800000#32)) M))))
/-- The sums of the shifted exponentials. -/
def rL (E : FVec Ideal S16x8192x8192 .f32) : FVec Ideal S16x8192x1 .f32 :=
  broadcastInDim S16x8192x1 ![0, 1] bcast_S16x8192_S16x8192x1_0_1 (Host.reduceAdd E (constant S_ .f32 0x00000000#32) reducesTo_S16x8192x8192_S16x8192_d2 h_S_)
/-- A column spread over a row. -/
def rB (L : FVec Ideal S16x8192x1 .f32) : FVec Ideal S16x8192x8192 .f32 :=
  broadcastInDim S16x8192x8192 ![0, 1, 2] bcast_S16x8192x1_S16x8192x8192_0_1_2 L
/-- The gradient with respect to the softmax. -/
def rP (G : FVec Ideal S16x128x8192 .f32) (V : FVec Ideal S8192x16x128 .f32) : FVec Ideal S16x8192x8192 .f32 :=
  Host.dotGeneral dot_S16x128x8192_S8192x16x128_S16x8192x8192_1_2_2_0_0_1 none G V
/-- The row sums the gradient subtracts. -/
def rR (P E : FVec Ideal S16x8192x8192 .f32) (L : FVec Ideal S16x8192x1 .f32) : FVec Ideal S16x8192 .f32 :=
  Host.reduceAdd (Host.negf (shapeCast S16x8192x1 (Host.reduceAdd (mulf (mulf P (broadcastInDim S16x8192x8192 ![0, 1, 2] bcast_S16x8192x1_S16x8192x8192_0_1_2 (Host.divf (broadcastInDim S16x8192x1 ![] bcast_S_S16x8192x1 (constant S_ .f32 0x3F800000#32)) (mulf L L)))) E) (constant S_ .f32 0x00000000#32) reducesTo_S16x8192x8192_S16x8192_d2 h_S_) shapeCasts_S16x8192_S16x8192x1)) (constant S_ .f32 0x00000000#32) reducesTo_S16x8192x1_S16x8192_d2 h_S_
/-- The gradient with respect to the scores before scaling. -/
def rD (P E : FVec Ideal S16x8192x8192 .f32) (L : FVec Ideal S16x8192x1 .f32) (R : FVec Ideal S16x8192 .f32) : FVec Ideal S16x8192x8192 .f32 :=
  mulf (mulf (addf (Host.divf P (rB L)) (broadcastInDim S16x8192x8192 ![0, 1] bcast_S16x8192_S16x8192x8192_0_1 R)) E) (broadcastInDim S16x8192x8192 ![] bcast_S_S16x8192x8192 (constant S_ .f32 0x3D93CD3A#32))

variable {A0 A1 A2 A3}
variable {q k : Fin 16 → Fin 8192 → Fin 192 → ℝ} {w g : Fin 16 → Fin 8192 → Fin 128 → ℝ} {s e p : Fin 16 → Fin 8192 → Fin 8192 → ℝ} {u r : Fin 16 → Fin 8192 → ℝ}

theorem rQ_real (hq : ∀ h i d, A0 (ix2 i (col h d w192)) = (q h i d : EReal)) (i : Fin 8192) (h : Fin 16) (d : Fin 192) :
    rQ A0 (ix3 i h d) = (q h i d : EReal) := by
  rw [← hq]; unfold rQ; pointwise
  exact congrArg A0 (congrArg (ix2 i) (Fin.ext (by show h.val * 192 + d.val = 192 * h.val + d.val; omega)))
theorem rV_real (hv : ∀ h i d, A2 (ix2 i (vcol h d)) = (w h i d : EReal)) (i : Fin 8192) (h : Fin 16) (d : Fin 128) :
    rV A2 (ix3 i h d) = (w h i d : EReal) := by
  rw [← hv]; unfold rV; pointwise
  exact congrArg A2 (congrArg (ix2 i) (Fin.ext (by show h.val * 256 + (128 + d.val) = 256 * h.val + 128 + d.val; omega)))
theorem rG_real (hg : ∀ h i d, A3 (ix2 i (col h d w128)) = (g h i d : EReal)) (h : Fin 16) (d : Fin 128) (i : Fin 8192) :
    rG A3 (ix3 h d i) = (g h i d : EReal) := by
  rw [← hg]; unfold rG; pointwise
  exact congrArg A3 (congrArg (ix2 i) (Fin.ext (by show h.val * 128 + d.val = 128 * h.val + d.val; omega)))

theorem rS_real {Q K : FVec Ideal S8192x16x192 .f32} (hQ : ∀ i h d, Q (ix3 i h d) = (q h i d : EReal)) (hK : ∀ i h d, K (ix3 i h d) = (k h i d : EReal))
    (h : Fin 16) (i j : Fin 8192) : rS Q K (ix3 h i j) = ((sc (q h) (k h) i j : ℝ) : EReal) := by
  unfold rS
  pointwise
  simp only [hQ, hK, ← EReal.coe_mul, sum_coe, ofBits_scale, sc]

variable {S E P D : FVec Ideal S16x8192x8192 .f32} {M R : FVec Ideal S16x8192 .f32} {L : FVec Ideal S16x8192x1 .f32}

theorem rM_real (hS : ∀ h i j, S (ix3 h i j) = (s h i j : EReal)) (h : Fin 16) (i : Fin 8192) :
    rM S (ix2 h i) = ((rowMax (s h i) : ℝ) : EReal) :=
  host_max S s hS _ (funext fun _ => ofBits_bot) _ h i

theorem rE_real (hS : ∀ h i j, S (ix3 h i j) = (s h i j : EReal)) (hM : ∀ h i, M (ix2 h i) = (u h i : EReal)) (h : Fin 16) (i j : Fin 8192) :
    rE S M (ix3 h i j) = ((Real.exp (s h i j - u h i) : ℝ) : EReal) := by
  unfold rE
  pointwise
  simp only [hS, hM, ofBits_bot, bot_le, max_eq_right, ← EReal.coe_sub, Ideal.exp_coe]

theorem rL_real (hE : ∀ h i j, E (ix3 h i j) = (e h i j : EReal)) (h : Fin 16) (i : Fin 8192) (z : Fin 1) :
    rL E (ix3 h i z) = ((∑ j, e h i j : ℝ) : EReal) := by
  unfold rL
  pointwise
  simp only [hE, sum_coe]

theorem rP_real {G : FVec Ideal S16x128x8192 .f32} {V : FVec Ideal S8192x16x128 .f32} (hG : ∀ h d i, G (ix3 h d i) = (g h i d : EReal)) (hV : ∀ i h d, V (ix3 i h d) = (w h i d : EReal))
    (h : Fin 16) (i j : Fin 8192) : rP G V (ix3 h i j) = ((dp (w h) (g h) i j : ℝ) : EReal) := by
  unfold rP
  pointwise
  simp only [hG, hV, ← EReal.coe_mul, sum_coe, dp]

theorem rR_real (hP : ∀ h i j, P (ix3 h i j) = (p h i j : EReal)) (hE : ∀ h i j, E (ix3 h i j) = (e h i j : EReal))
    (hL : ∀ h i z, L (ix3 h i z) = (u h i : EReal)) (hu : ∀ h i, u h i ≠ 0) (h : Fin 16) (i : Fin 8192) :
    rR P E L (ix2 h i) = ((-(∑ j, p h i j * (1 / (u h i * u h i)) * e h i j) : ℝ) : EReal) := by
  unfold rR
  pointwise
  rw [Fin.sum_univ_one]
  simp only [hP, hE, hL, ← EReal.coe_mul, ← EReal.coe_one, div_coe_coe _ (mul_ne_zero (hu h i) (hu h i)), sum_coe, ← EReal.coe_neg]

theorem rD_real (hP : ∀ h i j, P (ix3 h i j) = (p h i j : EReal)) (hE : ∀ h i j, E (ix3 h i j) = (e h i j : EReal))
    (hL : ∀ h i z, L (ix3 h i z) = (u h i : EReal)) (hu : ∀ h i, u h i ≠ 0) (hR : ∀ h i, R (ix2 h i) = (r h i : EReal)) (h : Fin 16) (i j : Fin 8192) :
    rD P E L R (ix3 h i j) = (((p h i j / u h i + r h i) * e h i j * scale : ℝ) : EReal) := by
  unfold rD rB
  pointwise
  simp only [hP, hE, hL, hR, ofBits_scale, div_coe_coe _ (hu h i), ← EReal.coe_mul, ← EReal.coe_add]

/-! ## The results -/

/-- Attention's output. -/
def rOut (V : FVec Ideal S8192x16x128 .f32) (E : FVec Ideal S16x8192x8192 .f32) (L : FVec Ideal S16x8192x1 .f32) : FVec Ideal S8192x2048 .bf16 :=
  truncf .bf16 (shapeCast S8192x2048 (transpose S8192x16x128 [2, 0, 1] (Host.dotGeneral dot_S8192x16x128_S16x8192x8192_S16x128x8192_0_2_2_1_1_0 none V (Host.divf E (rB L))) transposes_S16x128x8192_S8192x16x128_2_0_1) shapeCasts_S8192x16x128_S8192x2048) bitsLt_bf16_f32
/-- The gradient of the queries. -/
def rDq (D : FVec Ideal S16x8192x8192 .f32) (K : FVec Ideal S8192x16x192 .f32) : FVec Ideal S8192x3072 .bf16 :=
  truncf .bf16 (shapeCast S8192x3072 (transpose S8192x16x192 [1, 0, 2] (Host.dotGeneral dot_S16x8192x8192_S8192x16x192_S16x8192x192_2_0_1_2_0_1 none D K) transposes_S16x8192x192_S8192x16x192_1_0_2) shapeCasts_S8192x16x192_S8192x3072) bitsLt_bf16_f32
/-- The gradient of the keys. -/
def rDk (D : FVec Ideal S16x8192x8192 .f32) (Q : FVec Ideal S8192x16x192 .f32) : FVec Ideal S8192x3072 .bf16 :=
  truncf .bf16 (shapeCast S8192x3072 (transpose S8192x16x192 [1, 0, 2] (Host.dotGeneral dot_S16x8192x8192_S8192x16x192_S16x8192x192_1_0_2_2_0_1 none D Q) transposes_S16x8192x192_S8192x16x192_1_0_2) shapeCasts_S8192x16x192_S8192x3072) bitsLt_bf16_f32
/-- The gradient of the values. -/
def rDv (G : FVec Ideal S16x128x8192 .f32) (E : FVec Ideal S16x8192x8192 .f32) (L : FVec Ideal S16x8192x1 .f32) : FVec Ideal S8192x2048 .bf16 :=
  truncf .bf16 (shapeCast S8192x2048 (transpose S8192x16x128 [2, 0, 1] (Host.dotGeneral dot_S16x128x8192_S16x8192x8192_S16x128x8192_2_1_1_2_0_0 none G (Host.divf E (rB L))) transposes_S16x128x8192_S8192x16x128_2_0_1) shapeCasts_S8192x16x128_S8192x2048) bitsLt_bf16_f32

theorem div_col {n N : ℕ} {hN : 16 * n = N} (h : Fin 16) (d : Fin n) (e : (col h d hN).val / n < 16) : (⟨(col h d hN).val / n, e⟩ : Fin 16) = h := by
  refine Fin.ext ?_
  show (n * h.val + d.val) / n = h.val
  rw [Nat.mul_add_div (lt_of_le_of_lt (Nat.zero_le _) d.2), Nat.div_eq_of_lt d.2, Nat.add_zero]
theorem mod_col {n N : ℕ} {hN : 16 * n = N} (h : Fin 16) (d : Fin n) (e : (col h d hN).val % n < n) : (⟨(col h d hN).val % n, e⟩ : Fin n) = d :=
  inOf_col h d (lt_of_le_of_lt (Nat.zero_le _) d.2)

theorem rOut_real {V : FVec Ideal S8192x16x128 .f32} (hV : ∀ i h d, V (ix3 i h d) = (w h i d : EReal)) (hE : ∀ h i j, E (ix3 h i j) = (e h i j : EReal))
    (hL : ∀ h i z, L (ix3 h i z) = (u h i : EReal)) (hu : ∀ h i, u h i ≠ 0) (h : Fin 16) (i : Fin 8192) (d : Fin 128) :
    rOut V E L (ix2 i (col h d w128)) = ((∑ j, w h j d * (e h i j / u h i) : ℝ) : EReal) := by
  unfold rOut rB
  pointwise
  simp only [div_col, mod_col, hV, hE, hL, div_coe_coe _ (hu h i), ← EReal.coe_mul, sum_coe]
theorem rDq_real {K : FVec Ideal S8192x16x192 .f32} (hD : ∀ h i j, D (ix3 h i j) = (e h i j : EReal)) (hK : ∀ i h d, K (ix3 i h d) = (k h i d : EReal))
    (h : Fin 16) (i : Fin 8192) (d : Fin 192) :
    rDq D K (ix2 i (col h d w192)) = ((∑ j, e h i j * k h j d : ℝ) : EReal) := by
  unfold rDq
  pointwise
  simp only [div_col, mod_col, hD, hK, ← EReal.coe_mul, sum_coe]
theorem rDk_real {Q : FVec Ideal S8192x16x192 .f32} (hD : ∀ h i j, D (ix3 h i j) = (e h i j : EReal)) (hQ : ∀ i h d, Q (ix3 i h d) = (q h i d : EReal))
    (h : Fin 16) (j : Fin 8192) (d : Fin 192) :
    rDk D Q (ix2 j (col h d w192)) = ((∑ i, e h i j * q h i d : ℝ) : EReal) := by
  unfold rDk
  pointwise
  simp only [div_col, mod_col, hD, hQ, ← EReal.coe_mul, sum_coe]
theorem rDv_real {G : FVec Ideal S16x128x8192 .f32} (hG : ∀ h d i, G (ix3 h d i) = (g h i d : EReal)) (hE : ∀ h i j, E (ix3 h i j) = (e h i j : EReal))
    (hL : ∀ h i z, L (ix3 h i z) = (u h i : EReal)) (hu : ∀ h i, u h i ≠ 0) (h : Fin 16) (j : Fin 8192) (d : Fin 128) :
    rDv G E L (ix2 j (col h d w128)) = ((∑ i, g h i d * (e h i j / u h i) : ℝ) : EReal) := by
  unfold rDv rB
  pointwise
  simp only [div_col, mod_col, hG, hE, hL, div_coe_coe _ (hu h _), ← EReal.coe_mul, sum_coe]

/-- An array is sixteen heads side by side when each entry of each head is as given. -/
theorem eq_heads {n N : ℕ} (hn : 0 < n) (hN : 16 * n = N) (X : (⟨2, ![8192, N]⟩ : Shape).Idx → EReal) (f : Fin 16 → Fin 8192 → Fin n → ℝ)
    (hX : ∀ h i d, X (ix2 i (col h d hN)) = ((f h i d : ℝ) : EReal)) : X = heads N hn f := by
  funext y
  obtain ⟨i, j, rfl⟩ : ∃ (i : Fin 8192) (j : Fin N), y = ix2 i j := ⟨y 0, y 1, eq_ix2 y⟩
  obtain ⟨h, d, rfl⟩ := exists_col (n := n) hN hn j
  rw [hX, heads_col]

/-! ## All of it, from the four arguments -/

section
variable (A0 A1 : FVec Ideal S8192x3072 .bf16) (A2 : FVec Ideal S8192x4096 .bf16) (A3 : FVec Ideal S8192x2048 .bf16)
/-- The scores, from the arguments. -/
abbrev tS := rS (rQ A0) (rQ A1)
/-- The shifted exponentials, from the arguments. -/
abbrev tE := rE (tS A0 A1) (rM (tS A0 A1))
/-- Their sums, from the arguments. -/
abbrev tL := rL (tE A0 A1)
/-- The gradient with respect to the softmax, from the arguments. -/
abbrev tP := rP (rG A3) (rV A2)
/-- The gradient with respect to the scores, from the arguments. -/
abbrev tD := rD (tP A2 A3) (tE A0 A1) (tL A0 A1) (rR (tP A2 A3) (tE A0 A1) (tL A0 A1))

variable {A0 A1 A2 A3}
  (hq : ∀ h i d, A0 (ix2 i (col h d w192)) = (q h i d : EReal)) (hk : ∀ h i d, A1 (ix2 i (col h d w192)) = (k h i d : EReal))
  (hv : ∀ h i d, A2 (ix2 i (vcol h d)) = (w h i d : EReal)) (hg : ∀ h i d, A3 (ix2 i (col h d w128)) = (g h i d : EReal))

include hq hk in
theorem tE_real (h : Fin 16) (i j : Fin 8192) :
    tE A0 A1 (ix3 h i j) = ((Real.exp (sc (q h) (k h) i j - rowMax (sc (q h) (k h) i)) : ℝ) : EReal) :=
  rE_real (rS_real (rQ_real hq) (rQ_real hk)) (rM_real (rS_real (rQ_real hq) (rQ_real hk))) h i j
include hq hk in
theorem tL_real (h : Fin 16) (i : Fin 8192) (z : Fin 1) :
    tL A0 A1 (ix3 h i z) = ((∑ j, Real.exp (sc (q h) (k h) i j - rowMax (sc (q h) (k h) i)) : ℝ) : EReal) :=
  rL_real (tE_real hq hk) h i z
include hq hk hv hg in
theorem tD_real (h : Fin 16) (i j : Fin 8192) :
    tD A0 A1 A2 A3 (ix3 h i j) = ((ds (sc (q h) (k h)) (w h) (g h) i j : ℝ) : EReal) := by
  rw [← ds_eq _ _ _ i j (rowMax (sc (q h) (k h) i))]
  exact rD_real (rP_real (rG_real hg) (rV_real hv)) (tE_real hq hk) (tL_real hq hk) (fun h i => (sumExp_pos _).ne')
    (rR_real (rP_real (rG_real hg) (rV_real hv)) (tE_real hq hk) (tL_real hq hk) (fun h i => (sumExp_pos _).ne')) h i j

include hq hk hv in
theorem ref_o : rOut (rV A2) (tE A0 A1) (tL A0 A1) = heads (n := 128) 2048 p128 fun h => ov (sc (q h) (k h)) (w h) :=
  eq_heads _ _ _ _ fun h i d => (rOut_real (rV_real hv) (tE_real hq hk) (tL_real hq hk) (fun h i => (sumExp_pos _).ne') h i d).trans (by
    congr 1
    unfold ov
    exact Finset.sum_congr rfl fun j _ => by rw [pr_shift, mul_comm])
include hq hk hv hg in
theorem ref_dq : rDq (tD A0 A1 A2 A3) (rQ A1) = heads (n := 192) 3072 p192 fun h => dq (sc (q h) (k h)) (w h) (g h) (k h) :=
  eq_heads _ _ _ _ fun h i d => rDq_real (tD_real hq hk hv hg) (rQ_real hk) h i d
include hq hk hv hg in
theorem ref_dk : rDk (tD A0 A1 A2 A3) (rQ A0) = heads (n := 192) 3072 p192 fun h => dk (sc (q h) (k h)) (w h) (g h) (q h) :=
  eq_heads _ _ _ _ fun h i d => rDk_real (tD_real hq hk hv hg) (rQ_real hq) h i d
include hq hk hg in
theorem ref_dv : rDv (rG A3) (tE A0 A1) (tL A0 A1) = heads (n := 128) 2048 p128 fun h => dv (sc (q h) (k h)) (g h) :=
  eq_heads _ _ _ _ fun h i d => (rDv_real (rG_real hg) (tE_real hq hk) (tL_real hq hk) (fun h i => (sumExp_pos _).ne') h i d).trans (by
    congr 1
    unfold dv
    exact Finset.sum_congr rfl fun j _ => by rw [pr_shift, mul_comm])
end

end
end Cert.Mla
-- ==== Proof.RefRun.lean ====
/-
  What the plain formula returns, for arguments of real numbers, and that it leaves its arguments and counters alone.
-/
module
public import proofs.«01_k».proof.Proof.RefVals

@[expose] public section
set_option maxRecDepth 16384
noncomputable section
namespace Cert.Mla
open Idealize.ShloMosaic Idealize.ShloMosaic.TcCoe
open Idealize.SL Idealize.SL.Sem
open Cert.ReferenceIdeal Cert.ReferenceIdeal.Gen

variable (m : (ℓ : Loc nD τ sig) → Buf (Elt Ideal) ℓ) (ρ : Dev nD → PrngReg)
/-- The arguments as arrays. -/
abbrev a0 (c : Dev nD) : FVec Ideal S8192x3072 .bf16 := m ((c.tc : Thread nD τ).loc main_arg0)
abbrev a1 (c : Dev nD) : FVec Ideal S8192x3072 .bf16 := m ((c.tc : Thread nD τ).loc main_arg1)
abbrev a2 (c : Dev nD) : FVec Ideal S8192x4096 .bf16 := m ((c.tc : Thread nD τ).loc main_arg2)
abbrev a3 (c : Dev nD) : FVec Ideal S8192x2048 .bf16 := m ((c.tc : Thread nD τ).loc main_arg3)

/-- The plain formula's run, its results by name. -/
theorem ref_run : θ_run defs (onTc (τ := τ) (main (F := Ideal))) ⟨m, fun _ => 0, ρ⟩ fun r => ∀ c : Dev nD,
      r.2.mem ((c.tc : Thread nD τ).loc main_v65) = rOut (rV (a2 m c)) (tE (a0 m c) (a1 m c)) (tL (a0 m c) (a1 m c))
      ∧ r.2.mem ((c.tc : Thread nD τ).loc main_v67) = rDq (tD (a0 m c) (a1 m c) (a2 m c) (a3 m c)) (rQ (a1 m c))
      ∧ r.2.mem ((c.tc : Thread nD τ).loc main_v69) = rDk (tD (a0 m c) (a1 m c) (a2 m c) (a3 m c)) (rQ (a0 m c))
      ∧ r.2.mem ((c.tc : Thread nD τ).loc main_v71) = rDv (rG (a3 m c)) (tE (a0 m c) (a1 m c)) (tL (a0 m c) (a1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, h3, h4⟩ := h c
    refine ⟨h0.trans ?_, h1.trans ?_, h2.trans ?_, h3.trans ?_, h4⟩
    · unfold rOut rV tL rL tE rE rM tS rS rQ rB; rfl
    · unfold Value.res_main_v67 rDq tD rD rR tP rP rG rV tL rL tE rE rM tS rS rQ rB; rfl
    · unfold Value.res_main_v69 rDk tD rD rR tP rP rG rV tL rL tE rE rM tS rS rQ rB; rfl
    · unfold rDv rG tL rL tE rE rM tS rS rQ rB; rfl) (Value.run (F := Ideal) m ρ)

/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2.2.2, funext fun s => by
    have e : IsEmpty (SemLoc sig) := ⟨by decide⟩
    exact e.elim s.2⟩) (Value.run m ρ)

end Cert.Mla
end
-- ==== Proof.Finite.lean ====
/-
  The precondition read entry by entry: every entry of an argument is a real number.
-/
module
public import proofs.«01_k».proof.Proof.Gen.Pre_finite
public import proofs.«01_k».proof.Proof.Reals
public import Idealize.ShloMosaic.Lib.Pointwise
public import Idealize.ShloMosaic.Lib.Pipeline.ValueKit

@[expose] public section
noncomputable section
namespace Cert.Mla
open Idealize.ShloMosaic
open Cert.Pre_finite Cert.Pre_finite.Gen

/-- An array whose entries all lie below infinity in absolute value holds real numbers. -/
theorem real_of_finite {a b : ℕ} (x : FVec Ideal ⟨2, ![a, b]⟩ .bf16) (h : S_.BroadcastsInDim ⟨2, ![a, b]⟩ (![] : Fin 0 → Fin 2))
    (e : (cmpf .olt (Host.absf (extf .f32 x bitsLt_bf16_f32)) (broadcastInDim ⟨2, ![a, b]⟩ ![] h (constant S_ .f32 0x7F800000#32)) : IVec ⟨2, ![a, b]⟩ 1) = fun _ => 1#1)
    (i : Fin a) (j : Fin b) : x (ix2 i j) = ((x (ix2 i j)).toReal : EReal) := by
  have e' := congrFun e (ix2 i j)
  revert e'
  pointwise
  generalize x (ix2 i j) = y
  have einf : Ideal.ofBits .f32 0x7F800000#32 = (⊤ : EReal) := by simp [Ideal.ofBits, Ideal.ieee]
  rw [einf]
  intro e'
  refine (EReal.coe_toReal ?_ ?_).symm
  · rintro rfl; exact absurd e' (by simp [FloatOps.absf])
  · rintro rfl; exact absurd e' (by simp [FloatOps.absf])

end Cert.Mla
end
-- ==== Proof.Gate.lean ====
/-
  The two calls of the SwiGLU block between its outer products, at one grid point: what their output blocks hold, for
  blocks of real numbers.
-/
module
public import proofs.«01_k».proof.Proof.Gen.Kernel2Ideal.Frame
public import proofs.«01_k».proof.Proof.Reals
public import proofs.«01_k».proof.Proof.Blocks
public import Idealize.ShloMosaic.Lib.Tactic

@[expose] public section
set_option maxRecDepth 16384
noncomputable section
namespace Cert.Gate
open Idealize.ShloMosaic Idealize.ShloMosaic.TcCoe Idealize.ShloMosaic.Tactic
open Idealize.SL Idealize.SL.Sem
open Cert.Kernel2Ideal Cert.Kernel2Ideal.Gen Cert.Ffn Cert.Mla
open scoped BigOperators

/-! ## Over the reals -/

/-- The logistic function. -/
def sg (t : ℝ) : ℝ := 1 / (1 + Real.exp (-t))
theorem one_exp_ne (t : ℝ) : 1 + Real.exp (-t) ≠ 0 := (add_pos one_pos (Real.exp_pos _)).ne'

/-- A product, and a product with the second factor transposed. -/
def mm {m n : ℕ} (x : Fin m → Fin 2048 → ℝ) (w : Fin 2048 → Fin n → ℝ) (i : Fin m) (j : Fin n) : ℝ := ∑ k, x i k * w k j
def mt {m n : ℕ} (x : Fin m → Fin 2048 → ℝ) (w : Fin n → Fin 2048 → ℝ) (i : Fin m) (j : Fin n) : ℝ := ∑ k, x i k * w j k

/-- The gated product, and its gradients to both factors, at one entry. -/
def gc (a b : ℝ) : ℝ := a * sg a * b
def ga (g a b : ℝ) : ℝ := g * b * (sg a * (1 + a * (1 - sg a)))
def gb (g a : ℝ) : ℝ := g * (a * sg a)

/-! ## The blocks -/

section
variable {x0 : Vec Ideal S512x2048 .bf16} {x1 x2 : Vec Ideal S2048x1408 .bf16} {X : Fin 512 → Fin 2048 → ℝ} {G U : Fin 2048 → Fin 1408 → ℝ}
  (h0 : ∀ i k, x0 (ix2 i k) = (X i k : EReal)) (h1 : ∀ k j, x1 (ix2 k j) = (G k j : EReal)) (h2 : ∀ k j, x2 (ix2 k j) = (U k j : EReal))
  (r : Fin 512) (s : Fin 1408)
include h0

include h1 in
theorem out3 : out0_3 x0 x1 x2 (ix2 r s) = ((mm X G r s : ℝ) : EReal) := by
  unfold out0_3
  rw [View.canon_unit_zero zero2, View.ld_unit_zero (S := S512x2048) zero2, View.ld_unit_zero (S := S2048x1408) zero2]
  unfold k0_pay3 k0_pay1
  pointwise
  simp only [h0, h1, ← EReal.coe_mul, sum_coe, mm]

include h2 in
theorem out4 : out0_4 x0 x1 x2 (ix2 r s) = ((mm X U r s : ℝ) : EReal) := by
  unfold out0_4
  rw [View.canon_unit_zero zero2, View.ld_unit_zero (S := S512x2048) zero2, View.ld_unit_zero (S := S2048x1408) zero2]
  unfold k0_pay4 k0_pay2
  pointwise
  simp only [h0, h2, ← EReal.coe_mul, sum_coe, mm]

include h1 h2 in
theorem out5 : out0_5 x0 x1 x2 (ix2 r s) = ((gc (mm X G r s) (mm X U r s) : ℝ) : EReal) := by
  unfold out0_5
  rw [View.canon_unit_zero zero2, View.ld_unit_zero (S := S512x2048) zero2]
  simp only [View.ld_unit_zero (S := S2048x1408) zero2]
  unfold k0_pay5 k0_pay1 k0_pay2
  pointwise
  simp only [h0, h1, h2, ← EReal.coe_mul, sum_coe]
  simp only [zero_sub, ← EReal.coe_neg, Ideal.exp_coe, ← EReal.coe_add, ← EReal.coe_one, div_coe_coe _ (one_exp_ne _), ← EReal.coe_mul, gc, sg, mm]
end

section
variable {y0 : Vec Ideal S512x2048 .bf16} {y1 : Vec Ideal S1408x2048 .bf16} {y2 y3 : Vec Ideal S512x1408 .bf16}
  {E : Fin 512 → Fin 2048 → ℝ} {D : Fin 1408 → Fin 2048 → ℝ} {A B : Fin 512 → Fin 1408 → ℝ}
  (h0 : ∀ i k, y0 (ix2 i k) = (E i k : EReal)) (h1 : ∀ j k, y1 (ix2 j k) = (D j k : EReal)) (h2 : ∀ i j, y2 (ix2 i j) = (A i j : EReal)) (h3 : ∀ i j, y3 (ix2 i j) = (B i j : EReal))
  (r : Fin 512) (s : Fin 1408)
include h0 h1 h2

include h3 in
theorem bout4 : out1_4 y0 y1 y2 y3 (ix2 r s) = ((ga (mt E D r s) (A r s) (B r s) : ℝ) : EReal) := by
  unfold out1_4
  rw [View.canon_unit_zero zero2, View.ld_unit_zero (S := S512x2048) zero2, View.ld_unit_zero (S := S1408x2048) zero2]
  simp only [View.ld_unit_zero (S := S512x1408) zero2]
  unfold k1_pay4 k1_pay3 k1_pay2 k1_pay1
  pointwise
  simp only [h0, h1, h2, h3, ← EReal.coe_mul, sum_coe]
  simp only [zero_sub, ← EReal.coe_neg, Ideal.exp_coe, ← EReal.coe_add, ← EReal.coe_sub, ← EReal.coe_one, div_coe_coe _ (one_exp_ne _), ← EReal.coe_mul, ga, sg, mt]

theorem bout5 : out1_5 y0 y1 y2 y3 (ix2 r s) = ((gb (mt E D r s) (A r s) : ℝ) : EReal) := by
  unfold out1_5
  rw [View.canon_unit_zero zero2, View.ld_unit_zero (S := S512x2048) zero2, View.ld_unit_zero (S := S1408x2048) zero2]
  simp only [View.ld_unit_zero (S := S512x1408) zero2]
  unfold k1_pay5 k1_pay3 k1_pay2 k1_pay1
  pointwise
  simp only [h0, h1, h2, ← EReal.coe_mul, sum_coe]
  simp only [zero_sub, ← EReal.coe_neg, Ideal.exp_coe, ← EReal.coe_add, ← EReal.coe_sub, ← EReal.coe_one, div_coe_coe _ (one_exp_ne _), ← EReal.coe_mul, gb, sg, mt]
end

end Cert.Gate
-- ==== Proof.GateArr.lean ====
/-
  The two calls of the SwiGLU block between its outer products: what their output arrays hold after all 64 grid points, for
  arrays of real numbers. Point `t` works on rows `512 * (t / 4) …` and on columns `1408 * (t % 4) …`.
-/
module
public import proofs.«01_k».proof.Proof.Gate
public import Idealize.ShloMosaic.Lib.Pipeline.ValueKit

@[expose] public section
set_option maxRecDepth 16384
noncomputable section
namespace Cert.Gate
open Idealize.ShloMosaic Idealize.ShloMosaic.TcCoe Idealize.ShloMosaic.Tactic
open Idealize.SL Idealize.SL.Sem
open Cert.Kernel2Ideal Cert.Kernel2Ideal.Gen Cert.Ffn Cert.Mla
open scoped BigOperators

theorem r16 : 16 * 512 = 8192 := by decide
theorem c4 : 4 * 1408 = 5632 := by decide

/-- An array of real numbers. -/
def arrOf (f : Fin 8192 → Fin 5632 → ℝ) : FVec Ideal S8192x5632 .bf16 := fun y => ((f (y 0) (y 1) : ℝ) : EReal)

theorem idx0 : ∀ t : Fin cfg0.N, (win0_0.index t = ![t.val / 4, 0] ∧ win0_1.index t = ![0, t.val % 4] ∧ win0_2.index t = ![0, t.val % 4])
    ∧ win0_3.index t = ![t.val / 4, t.val % 4] ∧ win0_4.index t = ![t.val / 4, t.val % 4] ∧ win0_5.index t = ![t.val / 4, t.val % 4] := by
  decide +kernel
theorem idx1 : ∀ t : Fin cfg1.N, (win1_0.index t = ![t.val / 4, 0] ∧ win1_1.index t = ![t.val % 4, 0] ∧ win1_2.index t = ![t.val / 4, t.val % 4] ∧ win1_3.index t = ![t.val / 4, t.val % 4])
    ∧ win1_4.index t = ![t.val / 4, t.val % 4] ∧ win1_5.index t = ![t.val / 4, t.val % 4] := by
  decide +kernel
theorem cov0_3 : (cfg0.win 3).Covers := by decide +kernel
theorem cov0_4 : (cfg0.win 4).Covers := by decide +kernel
theorem cov0_5 : (cfg0.win 5).Covers := by decide +kernel
theorem cov1_4 : (cfg1.win 4).Covers := by decide +kernel
theorem cov1_5 : (cfg1.win 5).Covers := by decide +kernel

variable (V : (c : Dev nD) → (b : Ref sig .tc) → Buf (Elt Ideal) ((c : Thread nD τ).loc b)) (c : Dev nD)

theorem lt0 (t : Fin cfg0.N) : t.val < 64 := N_0 ▸ t.2
theorem lt1 (t : Fin cfg1.N) : t.val < 64 := N_1 ▸ t.2
/-- The rows and columns of a grid point. -/
def row (t : ℕ) (h : t < 64) (r : Fin 512) : Fin 8192 := blkAt r16 ⟨t / 4, by omega⟩ r
def col (t : ℕ) (s : Fin 1408) : Fin 5632 := blkAt c4 ⟨t % 4, by omega⟩ s

theorem blk0_0 (t : Fin cfg0.N) (r : Fin 512) (k : Fin 2048) : iblk0 V c 0 t (ix2 r k) = V c main_arg0 (ix2 (row t.val (lt0 t) r) k) := by
  unfold row blkAt
  blk_ext [iblk0, (idx0 t).1.1]
theorem blk0_1 (t : Fin cfg0.N) (k : Fin 2048) (s : Fin 1408) : iblk0 V c 1 t (ix2 k s) = V c main_arg1 (ix2 k (col t.val s)) := by
  unfold col blkAt
  blk_ext [iblk0, (idx0 t).1.2.1]
theorem blk0_2 (t : Fin cfg0.N) (k : Fin 2048) (s : Fin 1408) : iblk0 V c 2 t (ix2 k s) = V c main_arg2 (ix2 k (col t.val s)) := by
  unfold col blkAt
  blk_ext [iblk0, (idx0 t).1.2.2]
theorem blk1_0 (t : Fin cfg1.N) (r : Fin 512) (k : Fin 2048) : iblk1 V c 0 t (ix2 r k) = V c main_arg4 (ix2 (row t.val (lt1 t) r) k) := by
  unfold row blkAt
  blk_ext [iblk1, (idx1 t).1.1]
theorem blk1_1 (t : Fin cfg1.N) (s : Fin 1408) (k : Fin 2048) : iblk1 V c 1 t (ix2 s k) = V c main_arg3 (ix2 (col t.val s) k) := by
  unfold col blkAt
  blk_ext [iblk1, (idx1 t).1.2.1]
theorem blk1_2 (t : Fin cfg1.N) (r : Fin 512) (s : Fin 1408) : iblk1 V c 2 t (ix2 r s) = V c main_v0_0 (ix2 (row t.val (lt1 t) r) (col t.val s)) := by
  unfold row col blkAt
  blk_ext [iblk1, (idx1 t).1.2.2.1]
theorem blk1_3 (t : Fin cfg1.N) (r : Fin 512) (s : Fin 1408) : iblk1 V c 3 t (ix2 r s) = V c main_v0_1 (ix2 (row t.val (lt1 t) r) (col t.val s)) := by
  unfold row col blkAt
  blk_ext [iblk1, (idx1 t).1.2.2.2]

section
variable (X : Fin 8192 → Fin 2048 → ℝ) (G U : Fin 2048 → Fin 5632 → ℝ)
  (h0 : ∀ i k, V c main_arg0 (ix2 i k) = (X i k : EReal)) (h1 : ∀ k j, V c main_arg1 (ix2 k j) = (G k j : EReal)) (h2 : ∀ k j, V c main_arg2 (ix2 k j) = (U k j : EReal))
include h0

include h1 in
theorem arr0_3 : (dat0 V c).arrAt 3 cfg0.N = arrOf (mm X G) := by
  refine (dat0 V c).arrAt_eq_of_covers 3 _ cov0_3 fun t hf y => ?_
  obtain ⟨r, s, rfl⟩ : ∃ (r : Fin 512) (s : Fin 1408), y = ix2 r s := ⟨y 0, y 1, eq_ix2 y⟩
  have e0 : (((cfg0.win 3).blk t).view.emb (ix2 r s)) = ix2 (row t.val (lt0 t) r) (col t.val s) := by
    unfold row col blkAt
    blk_ext [(idx0 t).2.1]
  rw [e0]
  blk_simp
  rw [after0_3]
  exact out3 (X := fun r k => X (row t.val (lt0 t) r) k) (G := fun k s => G k (col t.val s)) (fun r k => (blk0_0 V c t r k).trans (h0 _ _)) (fun k s => (blk0_1 V c t k s).trans (h1 _ _)) r s

include h2 in
theorem arr0_4 : (dat0 V c).arrAt 4 cfg0.N = arrOf (mm X U) := by
  refine (dat0 V c).arrAt_eq_of_covers 4 _ cov0_4 fun t hf y => ?_
  obtain ⟨r, s, rfl⟩ : ∃ (r : Fin 512) (s : Fin 1408), y = ix2 r s := ⟨y 0, y 1, eq_ix2 y⟩
  have e0 : (((cfg0.win 4).blk t).view.emb (ix2 r s)) = ix2 (row t.val (lt0 t) r) (col t.val s) := by
    unfold row col blkAt
    blk_ext [(idx0 t).2.2.1]
  rw [e0]
  blk_simp
  rw [after0_4]
  exact out4 (X := fun r k => X (row t.val (lt0 t) r) k) (U := fun k s => U k (col t.val s)) (fun r k => (blk0_0 V c t r k).trans (h0 _ _)) (fun k s => (blk0_2 V c t k s).trans (h2 _ _)) r s

include h1 h2 in
theorem arr0_5 : (dat0 V c).arrAt 5 cfg0.N = arrOf (fun i j => gc (mm X G i j) (mm X U i j)) := by
  refine (dat0 V c).arrAt_eq_of_covers 5 _ cov0_5 fun t hf y => ?_
  obtain ⟨r, s, rfl⟩ : ∃ (r : Fin 512) (s : Fin 1408), y = ix2 r s := ⟨y 0, y 1, eq_ix2 y⟩
  have e0 : (((cfg0.win 5).blk t).view.emb (ix2 r s)) = ix2 (row t.val (lt0 t) r) (col t.val s) := by
    unfold row col blkAt
    blk_ext [(idx0 t).2.2.2]
  rw [e0]
  blk_simp
  rw [after0_5]
  exact out5 (X := fun r k => X (row t.val (lt0 t) r) k) (G := fun k s => G k (col t.val s)) (U := fun k s => U k (col t.val s)) (fun r k => (blk0_0 V c t r k).trans (h0 _ _)) (fun k s => (blk0_1 V c t k s).trans (h1 _ _)) (fun k s => (blk0_2 V c t k s).trans (h2 _ _)) r s
end

section
variable (E : Fin 8192 → Fin 2048 → ℝ) (D : Fin 5632 → Fin 2048 → ℝ) (A B : Fin 8192 → Fin 5632 → ℝ)
  (h0 : ∀ i k, V c main_arg4 (ix2 i k) = (E i k : EReal)) (h1 : ∀ j k, V c main_arg3 (ix2 j k) = (D j k : EReal))
  (h2 : ∀ i j, V c main_v0_0 (ix2 i j) = (A i j : EReal)) (h3 : ∀ i j, V c main_v0_1 (ix2 i j) = (B i j : EReal))
include h0 h1 h2

include h3 in
theorem arr1_4 : (dat1 V c).arrAt 4 cfg1.N = arrOf (fun i j => ga (mt E D i j) (A i j) (B i j)) := by
  refine (dat1 V c).arrAt_eq_of_covers 4 _ cov1_4 fun t hf y => ?_
  obtain ⟨r, s, rfl⟩ : ∃ (r : Fin 512) (s : Fin 1408), y = ix2 r s := ⟨y 0, y 1, eq_ix2 y⟩
  have e0 : (((cfg1.win 4).blk t).view.emb (ix2 r s)) = ix2 (row t.val (lt1 t) r) (col t.val s) := by
    unfold row col blkAt
    blk_ext [(idx1 t).2.1]
  rw [e0]
  blk_simp
  rw [after1_4]
  exact bout4 (E := fun r k => E (row t.val (lt1 t) r) k) (D := fun s k => D (col t.val s) k) (A := fun r s => A (row t.val (lt1 t) r) (col t.val s)) (B := fun r s => B (row t.val (lt1 t) r) (col t.val s)) (fun r k => (blk1_0 V c t r k).trans (h0 _ _)) (fun s k => (blk1_1 V c t s k).trans (h1 _ _)) (fun r s => (blk1_2 V c t r s).trans (h2 _ _)) (fun r s => (blk1_3 V c t r s).trans (h3 _ _)) r s

theorem arr1_5 : (dat1 V c).arrAt 5 cfg1.N = arrOf (fun i j => gb (mt E D i j) (A i j)) := by
  refine (dat1 V c).arrAt_eq_of_covers 5 _ cov1_5 fun t hf y => ?_
  obtain ⟨r, s, rfl⟩ : ∃ (r : Fin 512) (s : Fin 1408), y = ix2 r s := ⟨y 0, y 1, eq_ix2 y⟩
  have e0 : (((cfg1.win 5).blk t).view.emb (ix2 r s)) = ix2 (row t.val (lt1 t) r) (col t.val s) := by
    unfold row col blkAt
    blk_ext [(idx1 t).2.2]
  rw [e0]
  blk_simp
  rw [after1_5]
  exact bout5 (E := fun r k => E (row t.val (lt1 t) r) k) (D := fun s k => D (col t.val s) k) (A := fun r s => A (row t.val (lt1 t) r) (col t.val s)) (fun r k => (blk1_0 V c t r k).trans (h0 _ _)) (fun s k => (blk1_1 V c t s k).trans (h1 _ _)) (fun r s => (blk1_2 V c t r s).trans (h2 _ _)) r s
end

end Cert.Gate
-- ==== Proof.GateRun.lean ====
/-
  The run of the two calls of the SwiGLU block: every weakly fair execution ends with the buffers at the fold of the run, the arguments as
  launched.
-/
module
public import proofs.«01_k».proof.Proof.GateArr

@[expose] public section
set_option maxRecDepth 16384
noncomputable section
namespace Cert.Gate
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- The results and the arguments at the end of the run. -/
theorem run_to : θ_run defs (onTc (τ := τ) (main (F := F))) ⟨m, fun _ => 0, ρ⟩ (fun r => ∀ c : Dev nD,
      r.2.mem ((c.tc : Thread nD τ).loc main_v0_0) = W2 m ρ c (Proc.devRef .tc main_v0_0)
      ∧ r.2.mem ((c.tc : Thread nD τ).loc main_v0_1) = W2 m ρ c (Proc.devRef .tc main_v0_1)
      ∧ r.2.mem ((c.tc : Thread nD τ).loc main_v0_2) = W2 m ρ c (Proc.devRef .tc main_v0_2)
      ∧ r.2.mem ((c.tc : Thread nD τ).loc main_v1_0) = W2 m ρ c (Proc.devRef .tc main_v1_0)
      ∧ r.2.mem ((c.tc : Thread nD τ).loc main_v1_1) = W2 m ρ c (Proc.devRef .tc main_v1_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨h c _ (mem_uc main_v0_0 (by decide)), h c _ (mem_uc main_v0_1 (by decide)), h c _ (mem_uc main_v0_2 (by decide)), h c _ (mem_uc main_v1_0 (by decide)), h c _ (mem_uc main_v1_1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

/-! ## The results at the end of the run -/

section
variable (n : (ℓ : Loc nD τ sig) → Buf (Elt Ideal) ℓ) (ρ : Dev nD → PrngReg) (c : Dev nD)
  (X : Fin 8192 → Fin 2048 → ℝ) (G U : Fin 2048 → Fin 5632 → ℝ) (D : Fin 5632 → Fin 2048 → ℝ) (E : Fin 8192 → Fin 2048 → ℝ)
  (h0 : ∀ i k, n ((c.tc : Thread nD τ).loc main_arg0) (ix2 i k) = (X i k : EReal))
  (h1 : ∀ k j, n ((c.tc : Thread nD τ).loc main_arg1) (ix2 k j) = (G k j : EReal))
  (h2 : ∀ k j, n ((c.tc : Thread nD τ).loc main_arg2) (ix2 k j) = (U k j : EReal))
  (h3 : ∀ j k, n ((c.tc : Thread nD τ).loc main_arg3) (ix2 j k) = (D j k : EReal))
  (h4 : ∀ i k, n ((c.tc : Thread nD τ).loc main_arg4) (ix2 i k) = (E i k : EReal))
include h0

include h1 in
theorem mid_a : W1 n ρ c (Proc.devRef .tc main_v0_0) = arrOf (Cert.Gate.mm X G) :=
  (W1_arr n ρ c 3).trans (arr0_3 (V0 n ρ) c X G h0 h1)
include h2 in
theorem mid_b : W1 n ρ c (Proc.devRef .tc main_v0_1) = arrOf (Cert.Gate.mm X U) :=
  (W1_arr n ρ c 4).trans (arr0_4 (V0 n ρ) c X U h0 h2)

include h1 in
theorem end_a : W2 n ρ c (Proc.devRef .tc main_v0_0) = arrOf (Cert.Gate.mm X G) :=
  (W2_of n ρ c main_v0_0 (by decide)).trans (mid_a n ρ c X G h0 h1)
include h2 in
theorem end_b : W2 n ρ c (Proc.devRef .tc main_v0_1) = arrOf (Cert.Gate.mm X U) :=
  (W2_of n ρ c main_v0_1 (by decide)).trans (mid_b n ρ c X U h0 h2)
include h1 h2 in
theorem end_c : W2 n ρ c (Proc.devRef .tc main_v0_2) = arrOf fun i j => gc (Cert.Gate.mm X G i j) (Cert.Gate.mm X U i j) :=
  (W2_of n ρ c main_v0_2 (by decide)).trans ((W1_arr n ρ c 5).trans (arr0_5 (V0 n ρ) c X G U h0 h1 h2))
include h1 h2 h3 h4 in
theorem end_da : W2 n ρ c (Proc.devRef .tc main_v1_0) = arrOf fun i j => ga (mt E D i j) (Cert.Gate.mm X G i j) (Cert.Gate.mm X U i j) :=
  (W2_arr n ρ c 4).trans (arr1_4 (V1 n ρ) c E D (Cert.Gate.mm X G) (Cert.Gate.mm X U)
    (fun i k => (congrFun (W1_args n ρ c main_arg4 (by decide)) (ix2 i k)).trans (h4 i k))
    (fun j k => (congrFun (W1_args n ρ c main_arg3 (by decide)) (ix2 j k)).trans (h3 j k))
    (fun i j => congrFun (mid_a n ρ c X G h0 h1) (ix2 i j)) (fun i j => congrFun (mid_b n ρ c X U h0 h2) (ix2 i j)))
include h1 h3 h4 in
theorem end_db : W2 n ρ c (Proc.devRef .tc main_v1_1) = arrOf fun i j => gb (mt E D i j) (Cert.Gate.mm X G i j) :=
  (W2_arr n ρ c 5).trans (arr1_5 (V1 n ρ) c E D (Cert.Gate.mm X G)
    (fun i k => (congrFun (W1_args n ρ c main_arg4 (by decide)) (ix2 i k)).trans (h4 i k))
    (fun j k => (congrFun (W1_args n ρ c main_arg3 (by decide)) (ix2 j k)).trans (h3 j k))
    (fun i j => congrFun (mid_a n ρ c X G h0 h1) (ix2 i j)))
end

end Cert.Gate
end
-- ==== Proof.SameGate.lean ====
/-
  The two calls of the SwiGLU block between its outer products and their plain formula return the same arrays, on real
  numbers.
-/
module
public import proofs.«01_k».proof.Proof.GateRun
public import proofs.«01_k».proof.Proof.Finite
public import proofs.«01_k».proof.Proof.Gen.Pre_finite2
public import proofs.«01_k».proof.Proof.Gen.Reference2Ideal.Run
public import proofs.«01_k».proof.Defs

@[expose] public section
set_option maxRecDepth 16384
noncomputable section
namespace Cert.Gate
open Idealize.ShloMosaic Idealize.ShloMosaic.TcCoe Idealize.ShloMosaic.Tactic
open Idealize.SL Idealize.SL.Sem
open Cert.Mla
open scoped BigOperators

section
open Cert.Reference2Ideal Cert.Reference2Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2.2.2.2.2, funext fun s => by
    have e : IsEmpty (SemLoc sig) := ⟨by decide⟩
    exact e.elim s.2⟩) (Value.run m ρ)

/-- The logistic function of an array. -/
def rsig (A : FVec Ideal S8192x5632 .f32) : FVec Ideal S8192x5632 .f32 :=
  Host.divf (broadcastInDim S8192x5632 ![] bcast_S_S8192x5632 (constant S_ .f32 0x3F800000#32)) (addf (broadcastInDim S8192x5632 ![] bcast_S_S8192x5632 (constant S_ .f32 0x3F800000#32)) (Host.exp (Host.negf A)))
/-- The products: one factor transposed, or none. -/
def rmm (x : FVec Ideal S8192x2048 .bf16) (w : FVec Ideal S2048x5632 .bf16) : FVec Ideal S8192x5632 .f32 :=
  Host.dotGeneral dot_S8192x2048_S2048x5632_S8192x5632_1_0_0_1_n_n none (extf .f32 x bitsLt_bf16_f32) (extf .f32 w bitsLt_bf16_f32)
def rmt (x : FVec Ideal S8192x2048 .bf16) (w : FVec Ideal S5632x2048 .bf16) : FVec Ideal S8192x5632 .f32 :=
  Host.dotGeneral dot_S8192x2048_S5632x2048_S8192x5632_1_1_0_0_n_n none (extf .f32 x bitsLt_bf16_f32) (extf .f32 w bitsLt_bf16_f32)

theorem rmm_real {x : FVec Ideal S8192x2048 .bf16} {w : FVec Ideal S2048x5632 .bf16} {X : Fin 8192 → Fin 2048 → ℝ} {G : Fin 2048 → Fin 5632 → ℝ}
    (h0 : ∀ i k, x (ix2 i k) = (X i k : EReal)) (h1 : ∀ k j, w (ix2 k j) = (G k j : EReal)) (i : Fin 8192) (j : Fin 5632) :
    rmm x w (ix2 i j) = ((Cert.Gate.mm X G i j : ℝ) : EReal) := by
  unfold rmm
  pointwise
  simp only [h0, h1, ← EReal.coe_mul, sum_coe, Cert.Gate.mm]
theorem rmt_real {x : FVec Ideal S8192x2048 .bf16} {w : FVec Ideal S5632x2048 .bf16} {X : Fin 8192 → Fin 2048 → ℝ} {G : Fin 5632 → Fin 2048 → ℝ}
    (h0 : ∀ i k, x (ix2 i k) = (X i k : EReal)) (h1 : ∀ j k, w (ix2 j k) = (G j k : EReal)) (i : Fin 8192) (j : Fin 5632) :
    rmt x w (ix2 i j) = ((mt X G i j : ℝ) : EReal) := by
  unfold rmt
  pointwise
  simp only [h0, h1, ← EReal.coe_mul, sum_coe, mt]

variable {A B C : FVec Ideal S8192x5632 .f32} {a b g : Fin 8192 → Fin 5632 → ℝ}
  (hA : ∀ i j, A (ix2 i j) = (a i j : EReal)) (hB : ∀ i j, B (ix2 i j) = (b i j : EReal)) (hC : ∀ i j, C (ix2 i j) = (g i j : EReal))

include hA in
theorem rsig_real (i : Fin 8192) (j : Fin 5632) : rsig A (ix2 i j) = ((sg (a i j) : ℝ) : EReal) := by
  unfold rsig
  pointwise
  simp only [hA, ← EReal.coe_neg, Ideal.exp_coe, ← EReal.coe_add, ← EReal.coe_one, div_coe_coe _ (one_exp_ne _), sg]
include hA in
theorem ref_id : truncf .bf16 A bitsLt_bf16_f32 = arrOf a := by
  funext y
  obtain ⟨i, j, rfl⟩ : ∃ (i : Fin 8192) (j : Fin 5632), y = ix2 i j := ⟨y 0, y 1, eq_ix2 y⟩
  pointwise
  exact hA i j
include hA hB in
theorem ref_c : truncf .bf16 (mulf (mulf A (rsig A)) B) bitsLt_bf16_f32 = arrOf fun i j => gc (a i j) (b i j) := by
  funext y
  obtain ⟨i, j, rfl⟩ : ∃ (i : Fin 8192) (j : Fin 5632), y = ix2 i j := ⟨y 0, y 1, eq_ix2 y⟩
  pointwise
  simp only [hA, hB, rsig_real hA, ← EReal.coe_mul]
  rfl
include hA hB hC in
theorem ref_da : truncf .bf16 (addf (mulf (mulf C B) (rsig A)) (mulf (mulf A (mulf C B)) (mulf (rsig A) (subf (broadcastInDim S8192x5632 ![] bcast_S_S8192x5632 (constant S_ .f32 0x3F800000#32)) (rsig A))))) bitsLt_bf16_f32 = arrOf fun i j => ga (g i j) (a i j) (b i j) := by
  funext y
  obtain ⟨i, j, rfl⟩ : ∃ (i : Fin 8192) (j : Fin 5632), y = ix2 i j := ⟨y 0, y 1, eq_ix2 y⟩
  pointwise
  simp only [hA, hB, hC, rsig_real hA, ← EReal.coe_mul, ← EReal.coe_one, ← EReal.coe_sub, ← EReal.coe_add]
  refine congrArg Real.toEReal ?_
  show _ = ga (g i j) (a i j) (b i j)
  unfold ga
  ring
include hA hC in
theorem ref_db : truncf .bf16 (mulf (mulf A (rsig A)) C) bitsLt_bf16_f32 = arrOf fun i j => gb (g i j) (a i j) := by
  funext y
  obtain ⟨i, j, rfl⟩ : ∃ (i : Fin 8192) (j : Fin 5632), y = ix2 i j := ⟨y 0, y 1, eq_ix2 y⟩
  pointwise
  simp only [hA, hC, rsig_real hA, ← EReal.coe_mul]
  refine congrArg Real.toEReal ?_
  show _ = gb (g i j) (a i j)
  unfold gb
  ring
end

/-- The two programs return the same arrays. -/
theorem same : Cert.algebraic_Kernel2Ideal_Reference2Ideal_pre_finite2 := by
  intro m ρ m' ρ' hpre hm
  obtain ⟨x, k0⟩ : ∃ x : Dev Cert.Kernel2Ideal.nD → Fin 8192 → Fin 2048 → ℝ, ∀ (c : Dev Cert.Kernel2Ideal.nD) i j,
      m ((c.tc : Thread Cert.Kernel2Ideal.nD Cert.Kernel2Ideal.τ).loc Cert.Kernel2Ideal.main_arg0) (ix2 i j) = (x c i j : EReal) :=
    ⟨fun c i j => (m ((c.tc : Thread Cert.Kernel2Ideal.nD Cert.Kernel2Ideal.τ).loc Cert.Kernel2Ideal.main_arg0) (ix2 i j)).toReal, fun c i j => real_of_finite _ _ (hpre c).1 i j⟩
  obtain ⟨g, k1⟩ : ∃ g : Dev Cert.Kernel2Ideal.nD → Fin 2048 → Fin 5632 → ℝ, ∀ (c : Dev Cert.Kernel2Ideal.nD) i j,
      m ((c.tc : Thread Cert.Kernel2Ideal.nD Cert.Kernel2Ideal.τ).loc Cert.Kernel2Ideal.main_arg1) (ix2 i j) = (g c i j : EReal) :=
    ⟨fun c i j => (m ((c.tc : Thread Cert.Kernel2Ideal.nD Cert.Kernel2Ideal.τ).loc Cert.Kernel2Ideal.main_arg1) (ix2 i j)).toReal, fun c i j => real_of_finite _ _ (hpre c).2.1 i j⟩
  obtain ⟨u, k2⟩ : ∃ u : Dev Cert.Kernel2Ideal.nD → Fin 2048 → Fin 5632 → ℝ, ∀ (c : Dev Cert.Kernel2Ideal.nD) i j,
      m ((c.tc : Thread Cert.Kernel2Ideal.nD Cert.Kernel2Ideal.τ).loc Cert.Kernel2Ideal.main_arg2) (ix2 i j) = (u c i j : EReal) :=
    ⟨fun c i j => (m ((c.tc : Thread Cert.Kernel2Ideal.nD Cert.Kernel2Ideal.τ).loc Cert.Kernel2Ideal.main_arg2) (ix2 i j)).toReal, fun c i j => real_of_finite _ _ (hpre c).2.2.1 i j⟩
  obtain ⟨d, k3⟩ : ∃ d : Dev Cert.Kernel2Ideal.nD → Fin 5632 → Fin 2048 → ℝ, ∀ (c : Dev Cert.Kernel2Ideal.nD) i j,
      m ((c.tc : Thread Cert.Kernel2Ideal.nD Cert.Kernel2Ideal.τ).loc Cert.Kernel2Ideal.main_arg3) (ix2 i j) = (d c i j : EReal) :=
    ⟨fun c i j => (m ((c.tc : Thread Cert.Kernel2Ideal.nD Cert.Kernel2Ideal.τ).loc Cert.Kernel2Ideal.main_arg3) (ix2 i j)).toReal, fun c i j => real_of_finite _ _ (hpre c).2.2.2.1 i j⟩
  obtain ⟨e, k4⟩ : ∃ e : Dev Cert.Kernel2Ideal.nD → Fin 8192 → Fin 2048 → ℝ, ∀ (c : Dev Cert.Kernel2Ideal.nD) i j,
      m ((c.tc : Thread Cert.Kernel2Ideal.nD Cert.Kernel2Ideal.τ).loc Cert.Kernel2Ideal.main_arg4) (ix2 i j) = (e c i j : EReal) :=
    ⟨fun c i j => (m ((c.tc : Thread Cert.Kernel2Ideal.nD Cert.Kernel2Ideal.τ).loc Cert.Kernel2Ideal.main_arg4) (ix2 i j)).toReal, fun c i j => real_of_finite _ _ (hpre c).2.2.2.2 i j⟩
  have f0 : ∀ (c : Dev Cert.Reference2Ideal.nD) i j, m' ((c.tc : Thread Cert.Reference2Ideal.nD Cert.Reference2Ideal.τ).loc Cert.Reference2Ideal.main_arg0) (ix2 i j) = (x c i j : EReal) :=
    fun c i j => (congrFun (hm c).1 _).trans (k0 c i j)
  have f1 : ∀ (c : Dev Cert.Reference2Ideal.nD) i j, m' ((c.tc : Thread Cert.Reference2Ideal.nD Cert.Reference2Ideal.τ).loc Cert.Reference2Ideal.main_arg1) (ix2 i j) = (g c i j : EReal) :=
    fun c i j => (congrFun (hm c).2.1 _).trans (k1 c i j)
  have f2 : ∀ (c : Dev Cert.Reference2Ideal.nD) i j, m' ((c.tc : Thread Cert.Reference2Ideal.nD Cert.Reference2Ideal.τ).loc Cert.Reference2Ideal.main_arg2) (ix2 i j) = (u c i j : EReal) :=
    fun c i j => (congrFun (hm c).2.2.1 _).trans (k2 c i j)
  have f3 : ∀ (c : Dev Cert.Reference2Ideal.nD) i j, m' ((c.tc : Thread Cert.Reference2Ideal.nD Cert.Reference2Ideal.τ).loc Cert.Reference2Ideal.main_arg3) (ix2 i j) = (d c i j : EReal) :=
    fun c i j => (congrFun (hm c).2.2.2.1 _).trans (k3 c i j)
  have f4 : ∀ (c : Dev Cert.Reference2Ideal.nD) i j, m' ((c.tc : Thread Cert.Reference2Ideal.nD Cert.Reference2Ideal.τ).loc Cert.Reference2Ideal.main_arg4) (ix2 i j) = (e c i j : EReal) :=
    fun c i j => (congrFun (hm c).2.2.2.2 _).trans (k4 c i j)
  refine ⟨fun c => arrOf (Cert.Gate.mm (x c) (g c)), fun c => arrOf (Cert.Gate.mm (x c) (u c)),
    fun c => arrOf fun i j => gc (Cert.Gate.mm (x c) (g c) i j) (Cert.Gate.mm (x c) (u c) i j),
    fun c => arrOf fun i j => ga (mt (e c) (d c) i j) (Cert.Gate.mm (x c) (g c) i j) (Cert.Gate.mm (x c) (u c) i j),
    fun c => arrOf fun i j => gb (mt (e c) (d c) i j) (Cert.Gate.mm (x c) (g c) i j), ?_, ?_⟩
  · refine (θ_run Cert.Kernel2Ideal.defs _ _).mono (fun r h c => ?_) (run_to (F := Ideal) m ρ)
    obtain ⟨r0, r1, r2, r3, r4, r5⟩ := h c
    exact ⟨r0.trans (end_a m ρ c (x c) (g c) (k0 c) (k1 c)), r1.trans (end_b m ρ c (x c) (u c) (k0 c) (k2 c)),
      r2.trans (end_c m ρ c (x c) (g c) (u c) (k0 c) (k1 c) (k2 c)),
      r3.trans (end_da m ρ c (x c) (g c) (u c) (d c) (e c) (k0 c) (k1 c) (k2 c) (k3 c) (k4 c)),
      r4.trans (end_db m ρ c (x c) (g c) (d c) (e c) (k0 c) (k1 c) (k3 c) (k4 c)), r5⟩
  · refine (θ_run Cert.Reference2Ideal.defs _ _).mono (fun r h c => ?_) (Cert.Reference2Ideal.Value.run (F := Ideal) m' ρ')
    obtain ⟨r0, r1, r2, r3, r4, r5⟩ := h c
    have hA := rmm_real (f0 c) (f1 c)
    have hB := rmm_real (f0 c) (f2 c)
    have hC := rmt_real (f4 c) (f3 c)
    exact ⟨r0.trans (ref_id hA), r1.trans (ref_id hB), r2.trans (ref_c hA hB), r3.trans (ref_da hA hB hC), r4.trans (ref_db hA hC), r5⟩

end Cert.Gate
end
-- ==== Proof.Down.lean ====
/-
  The product that ends the SwiGLU block: what the call's output array holds after all 32 grid points. Point
  `t` works on rows `1024 * (t / 4) …`, on columns `1024 * (t / 2 % 2) …` and on block `t % 2` of the inner dimension.
-/
module
public import proofs.«01_k».proof.Proof.Gen.Kernel3Ideal.Value
public import proofs.«01_k».proof.Proof.Blocks
public import Idealize.ShloMosaic.Lib.Tactic
public import Idealize.ShloMosaic.Lib.Pipeline.ValueKit

@[expose] public section
set_option maxRecDepth 16384
noncomputable section
namespace Cert.Down
open Idealize.ShloMosaic Idealize.ShloMosaic.TcCoe Idealize.ShloMosaic.Tactic
open Idealize.SL Idealize.SL.Sem
open Cert.Kernel3Ideal Cert.Kernel3Ideal.Gen Cert.Ffn
open scoped BigOperators

theorem k2816 : 2 * 2816 = 5632 := by decide
theorem r8 : 8 * 1024 = 8192 := by decide
theorem c2 : 2 * 1024 = 2048 := by decide

section
variable (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (x0 : Vec Ideal S1024x2816 .bf16) (x1 : Vec Ideal S2816x1024 .bf16) (x2 x3 : Vec Ideal S1024x1024 .f32) (r s : Fin 1024)

/-- The accumulator after the first block. -/
theorem acc_A (hc0 : cond0_0 i) (hc1 : ¬cond0_1 i) :
    sout0_A_0 c i arg3 harg3 arg4 harg4 arg5 harg5 arg6 harg6 arg7 harg7 hc0 hc1 x0 x1 x2 (ix2 r s) = ∑ j : Fin 2816, x0 (ix2 r j) * x1 (ix2 j s) := by
  unfold sout0_A_0
  rw [View.read_writes_eq_canon _ _ _ (scover0_A_0 c i arg3 harg3 arg4 harg4 arg5 harg5 arg6 harg6 arg7 harg7 hc0 hc1 x0 x1 x2)]
  unfold kernelRun0_A; dsimp only; sl_unfold_words
  rw [View.canon_cons_unit_zero zero2]
  simp only [View.readAt_eq_ld, harg3.read_unread, harg4.read_unread]
  simp only [View.ld_unit_zero (S := S1024x2816) zero2, View.ld_unit_zero (S := S2816x1024) zero2, readCov_all (S := S1024x1024) _ _ zero2, View.canon_unit_zero (S := S1024x1024) zero2]
  unfold k0_pay2 k0_pay1
  pointwise

/-- The accumulator after a later block. -/
theorem acc_B (hc0 : ¬cond0_0 i) (hc1 : cond0_1 i) :
    sout0_B_0 c i arg3 harg3 arg4 harg4 arg5 harg5 arg6 harg6 arg7 harg7 hc0 hc1 x0 x1 x2 x3 (ix2 r s) = x3 (ix2 r s) + ∑ j : Fin 2816, x0 (ix2 r j) * x1 (ix2 j s) := by
  unfold sout0_B_0
  rw [View.read_writes_eq_canon _ _ _ (scover0_B_0 c i arg3 harg3 arg4 harg4 arg5 harg5 arg6 harg6 arg7 harg7 hc0 hc1 x0 x1 x2 x3)]
  unfold kernelRun0_B; dsimp only; sl_unfold_words
  rw [View.canon_cons_unit_zero zero2]
  simp only [View.readAt_eq_ld, harg3.read_unread, harg4.read_unread, harg7.read_unread]
  simp only [View.ld_unit_zero (S := S1024x2816) zero2, View.ld_unit_zero (S := S2816x1024) zero2, View.ld_unit_zero (S := S1024x1024) zero2]
  unfold k0_pay2
  pointwise

/-- The output block after the last block. -/
theorem out_B (hc0 : ¬cond0_0 i) (hc1 : cond0_1 i) :
    out0_B_3 c i arg3 harg3 arg4 harg4 arg5 harg5 arg6 harg6 arg7 harg7 hc0 hc1 x0 x1 x2 x3 (ix2 r s)
      = x2 (ix2 r s) + (x3 (ix2 r s) + ∑ j : Fin 2816, x0 (ix2 r j) * x1 (ix2 j s)) := by
  unfold out0_B_3
  rw [View.read_writes_eq_canon _ _ _ (cover0_B_3 c i arg3 harg3 arg4 harg4 arg5 harg5 arg6 harg6 arg7 harg7 hc0 hc1 x0 x1 x2 x3)]
  unfold kernelRun0_B; dsimp only; sl_unfold_words
  rw [View.canon_cons_unit_zero zero2]
  simp only [View.readAt_eq_ld, harg3.read_unread, harg4.read_unread, harg5.read_unread, harg7.read_unread]
  simp only [View.ld_unit_zero (S := S1024x2816) zero2, View.ld_unit_zero (S := S2816x1024) zero2, View.ld_unit_zero (S := S1024x1024) zero2, readCov_all (S := S1024x1024) _ _ zero2, View.canon_cons_unit_zero (S := S1024x1024) zero2]
  unfold k0_pay3 k0_pay2
  pointwise
end

theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] := by
  decide +kernel
theorem cov : (cfg0.win 3).Covers := by decide +kernel

variable (m : (ℓ : Loc nD τ sig) → Buf (Elt Ideal) ℓ) (c : Dev nD)

/-- The arguments as arrays. -/
abbrev a0 : FVec Ideal S8192x5632 .bf16 := m ((c.tc : Thread nD τ).loc main_arg0)
abbrev a1 : FVec Ideal S5632x2048 .bf16 := m ((c.tc : Thread nD τ).loc main_arg1)
abbrev a2 : FVec Ideal S8192x2048 .f32 := m ((c.tc : Thread nD τ).loc main_arg2)

theorem lt (t : Fin cfg0.N) : t.val < 32 := N_0 ▸ t.2
/-- The rows, columns and inner block of a grid point. -/
def row (t : Fin cfg0.N) (r : Fin 1024) : Fin 8192 := blkAt r8 ⟨t.val / 4, by have := lt t; omega⟩ r
def col (t : Fin cfg0.N) (s : Fin 1024) : Fin 2048 := blkAt c2 ⟨t.val / 2 % 2, by omega⟩ s
def inn (t : Fin cfg0.N) (j : Fin 2816) : Fin 5632 := blkAt k2816 ⟨t.val % 2, by omega⟩ j

theorem blk0 (t : Fin cfg0.N) (r : Fin 1024) (j : Fin 2816) : iblk m c 0 t (ix2 r j) = a0 m c (ix2 (row t r) (inn t j)) := by
  unfold row inn blkAt
  blk_ext [iblk, (idx t).1]
theorem blk1 (t : Fin cfg0.N) (j : Fin 2816) (s : Fin 1024) : iblk m c 1 t (ix2 j s) = a1 m c (ix2 (inn t j) (col t s)) := by
  unfold col inn blkAt
  blk_ext [iblk, (idx t).2.1]
theorem blk2 (t : Fin cfg0.N) (r s : Fin 1024) : iblk m c 2 t (ix2 r s) = a2 m c (ix2 (row t r) (col t s)) := by
  unfold row col blkAt
  blk_ext [iblk, (idx t).2.2.1]

/-- The product with the residual, entry by entry. -/
def prod (x : Fin 8192) (y : Fin 2048) : EReal := a2 m c (ix2 x y) + ∑ k : Fin 5632, a0 m c (ix2 x k) * a1 m c (ix2 k y)

/-- What the last point of a block's run leaves in the output block. -/
theorem pt (t : Fin cfg0.N) (h : t.val % 2 = 1) (r s : Fin 1024) :
    (outsAt0 m c t.val t.isLt).1 (ix2 r s) = prod m c (row t r) (col t s) := by
  have ht := lt t
  rw [outsAt0_B m c t (by omega) h]
  dsimp only
  rw [out_B]
  have hu : t.val - 1 < cfg0.N := Nat.lt_of_le_of_lt (Nat.sub_le _ _) t.isLt
  have e := outsAt0_A m c ⟨t.val - 1, hu⟩ (by show (t.val - 1) % 2 = 0; omega) (by show ¬ (t.val - 1) % 2 = 1; omega)
  rw [show outsAt0 m c (t.val - 1) hu = _ from e]
  dsimp only
  rw [acc_A]
  unfold prod
  simp only [blk0, blk1, blk2]
  have e1 : row ⟨t.val - 1, hu⟩ r = row t r := by unfold row blkAt; refine Fin.ext ?_; show 1024 * ((t.val - 1) / 4) + _ = 1024 * (t.val / 4) + _; omega
  have e2 : col ⟨t.val - 1, hu⟩ s = col t s := by unfold col blkAt; refine Fin.ext ?_; show 1024 * ((t.val - 1) / 2 % 2) + _ = 1024 * (t.val / 2 % 2) + _; omega
  rw [e1, e2, ← sum_blocks k2816, Fin.sum_univ_two]
  have e3 : ∀ j, inn ⟨t.val - 1, hu⟩ j = blkAt k2816 0 j := fun j => by unfold inn blkAt; refine Fin.ext ?_; show 2816 * ((t.val - 1) % 2) + _ = 2816 * 0 + _; omega
  have e4 : ∀ j, inn t j = blkAt k2816 1 j := fun j => by unfold inn blkAt; refine Fin.ext ?_; show 2816 * (t.val % 2) + _ = 2816 * 1 + _; omega
  simp only [e3, e4]

/-- The output array. -/
theorem arr : (dats m 0 c).arrAt 3 cfg0.N = fun y : S8192x2048.Idx => prod m c (y 0) (y 1) := by
  refine (dats m 0 c).arrAt_eq_of_covers 3 _ cov fun t hf y => ?_
  obtain ⟨r, s, rfl⟩ : ∃ (r s : Fin 1024), y = ix2 r s := ⟨y 0, y 1, eq_ix2 y⟩
  have e0 : (((cfg0.win 3).blk t).view.emb (ix2 r s)) = ix2 (row t r) (col t s) := by
    unfold row col blkAt
    blk_ext [(idx t).2.2.2]
  rw [e0]
  blk_simp
  rw [after0_3]
  exact pt m c t ((flush0_3 t).mp hf) r s

end Cert.Down
-- ==== Proof.SameDown.lean ====
/-
  The product that ends the SwiGLU block and its plain formula return the same array.
-/
module
public import proofs.«01_k».proof.Proof.Down
public import proofs.«01_k».proof.Proof.Gen.Reference3Ideal.Run
public import proofs.«01_k».proof.Defs

@[expose] public section
set_option maxRecDepth 16384
noncomputable section
namespace Cert.Down
open Idealize.ShloMosaic Idealize.ShloMosaic.TcCoe Idealize.ShloMosaic.Tactic
open Idealize.SL Idealize.SL.Sem
open scoped BigOperators

section
open Cert.Reference3Ideal Cert.Reference3Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, funext fun s => by
    have e : IsEmpty (SemLoc sig) := ⟨by decide⟩
    exact e.elim s.2⟩) (Value.run m ρ)
end

/-- The two programs return the same array. -/
theorem same : Cert.algebraic_Kernel3Ideal_Reference3Ideal := by
  intro m ρ m' ρ' _ hm
  refine ⟨fun c => fun y : Cert.Kernel3Ideal.S8192x2048.Idx => prod m c (y 0) (y 1), ?_, ?_⟩
  · refine (θ_run Cert.Kernel3Ideal.defs _ _).mono (fun r h c => ?_) (Cert.Kernel3Ideal.Value.run_blocks (F := Ideal) m ρ)
    exact ⟨(h c).1.trans (arr m c), (h c).2⟩
  · refine (θ_run Cert.Reference3Ideal.defs _ _).mono (fun r h c => ?_) (Cert.Reference3Ideal.Value.run (F := Ideal) m' ρ')
    refine ⟨(h c).1.trans ?_, (h c).2⟩
    rw [(hm c).1, (hm c).2.1, (hm c).2.2]
    funext y
    obtain ⟨i, j, rfl⟩ : ∃ (i : Fin 8192) (j : Fin 2048), y = ix2 i j := ⟨y 0, y 1, eq_ix2 y⟩
    unfold prod
    pointwise

end Cert.Down
end
-- ==== Proof.Dffn.lean ====
/-
  The gradient of the SwiGLU block's input: what the call's output array holds after all 64 grid points. Point `t` works on
  rows `1024 * (t / 8) …`, on columns `1024 * (t / 4 % 2) …` and on block `t % 4` of the inner dimension.
-/
module
public import proofs.«01_k».proof.Proof.Gen.Kernel4Ideal.Value
public import proofs.«01_k».proof.Proof.Blocks
public import Idealize.ShloMosaic.Lib.Tactic
public import Idealize.ShloMosaic.Lib.Pipeline.ValueKit

@[expose] public section
set_option maxRecDepth 16384
noncomputable section
namespace Cert.Dffn
open Idealize.ShloMosaic Idealize.ShloMosaic.TcCoe Idealize.ShloMosaic.Tactic
open Idealize.SL Idealize.SL.Sem
open Cert.Kernel4Ideal Cert.Kernel4Ideal.Gen Cert.Ffn
open scoped BigOperators

theorem k1408 : 4 * 1408 = 5632 := by decide
theorem r8 : 8 * 1024 = 8192 := by decide
theorem c2 : 2 * 1024 = 2048 := by decide

section
variable (c : Dev nD) (i : grid0.Coords) (arg3 : Memref sig .tc .vmem S1024x1408 .bf16) (harg3 : arg3.IsWhole) (arg4 : Memref sig .tc .vmem S1024x1408 .bf16) (harg4 : arg4.IsWhole) (arg5 : Memref sig .tc .vmem S1024x1408 .bf16) (harg5 : arg5.IsWhole) (arg6 : Memref sig .tc .vmem S1024x1408 .bf16) (harg6 : arg6.IsWhole) (arg7 : Memref sig .tc .vmem S1024x1024 .f32) (harg7 : arg7.IsWhole) (arg8 : Memref sig .tc .vmem S1024x1024 .f32) (harg8 : arg8.IsWhole)
  (x0 x1 x2 x3 : Vec Ideal S1024x1408 .bf16) (x4 : Vec Ideal S1024x1024 .f32) (r s : Fin 1024)

/-- One block's part of both products. -/
def two : EReal := (∑ j : Fin 1408, x0 (ix2 r j) * x1 (ix2 s j)) + ∑ j : Fin 1408, x2 (ix2 r j) * x3 (ix2 s j)

/-- The accumulator after the first block. -/
theorem acc_A (hc0 : cond0_0 i) (hc1 : ¬cond0_1 i) :
    sout0_A_0 c i arg3 harg3 arg4 harg4 arg5 harg5 arg6 harg6 arg7 harg7 arg8 harg8 hc0 hc1 x0 x1 x2 x3 (ix2 r s) = two x0 x1 x2 x3 r s := by
  unfold sout0_A_0 two
  rw [View.read_writes_eq_canon _ _ _ (scover0_A_0 c i arg3 harg3 arg4 harg4 arg5 harg5 arg6 harg6 arg7 harg7 arg8 harg8 hc0 hc1 x0 x1 x2 x3)]
  unfold kernelRun0_A; dsimp only; sl_unfold_words
  rw [View.canon_cons_unit_zero zero2]
  simp only [View.readAt_eq_ld, harg3.read_unread, harg4.read_unread, harg5.read_unread, harg6.read_unread]
  simp only [View.ld_unit_zero (S := S1024x1408) zero2, readCov_all (S := S1024x1024) _ _ zero2, View.canon_unit_zero (S := S1024x1024) zero2]
  unfold k0_pay2 k0_pay1
  pointwise

/-- The accumulator after a later block. -/
theorem acc_B (hc0 : ¬cond0_0 i) (hc1 : ¬cond0_1 i) :
    sout0_B_0 c i arg3 harg3 arg4 harg4 arg5 harg5 arg6 harg6 arg7 harg7 arg8 harg8 hc0 hc1 x0 x1 x2 x3 x4 (ix2 r s) = x4 (ix2 r s) + two x0 x1 x2 x3 r s := by
  unfold sout0_B_0 two
  rw [View.read_writes_eq_canon _ _ _ (scover0_B_0 c i arg3 harg3 arg4 harg4 arg5 harg5 arg6 harg6 arg7 harg7 arg8 harg8 hc0 hc1 x0 x1 x2 x3 x4)]
  unfold kernelRun0_B; dsimp only; sl_unfold_words
  rw [View.canon_cons_unit_zero zero2]
  simp only [View.readAt_eq_ld, harg3.read_unread, harg4.read_unread, harg5.read_unread, harg6.read_unread, harg8.read_unread]
  simp only [View.ld_unit_zero (S := S1024x1408) zero2, View.ld_unit_zero (S := S1024x1024) zero2]
  unfold k0_pay2
  pointwise

/-- The output block after the last block. -/
theorem out_C (hc0 : ¬cond0_0 i) (hc1 : cond0_1 i) :
    out0_C_4 c i arg3 harg3 arg4 harg4 arg5 harg5 arg6 harg6 arg7 harg7 arg8 harg8 hc0 hc1 x0 x1 x2 x3 x4 (ix2 r s) = x4 (ix2 r s) + two x0 x1 x2 x3 r s := by
  unfold out0_C_4 two
  rw [View.read_writes_eq_canon _ _ _ (cover0_C_4 c i arg3 harg3 arg4 harg4 arg5 harg5 arg6 harg6 arg7 harg7 arg8 harg8 hc0 hc1 x0 x1 x2 x3 x4)]
  unfold kernelRun0_C; dsimp only; sl_unfold_words
  rw [View.canon_cons_unit_zero zero2]
  simp only [View.readAt_eq_ld, harg3.read_unread, harg4.read_unread, harg5.read_unread, harg6.read_unread, harg8.read_unread]
  simp only [View.ld_unit_zero (S := S1024x1408) zero2, View.ld_unit_zero (S := S1024x1024) zero2, readCov_all (S := S1024x1024) _ _ zero2, View.canon_unit_zero (S := S1024x1024) zero2]
  unfold k0_pay2
  pointwise
end

theorem idx : ∀ t : Fin cfg0.N, (win0_0.index t = ![t.val / 8, t.val % 4] ∧ win0_1.index t = ![t.val / 4 % 2, t.val % 4])
    ∧ (win0_2.index t = ![t.val / 8, t.val % 4] ∧ win0_3.index t = ![t.val / 4 % 2, t.val % 4]) ∧ win0_4.index t = ![t.val / 8, t.val / 4 % 2] := by
  decide +kernel
theorem cov : (cfg0.win 4).Covers := by decide +kernel

variable (m : (ℓ : Loc nD τ sig) → Buf (Elt Ideal) ℓ) (c : Dev nD)

/-- The arguments as arrays. -/
abbrev a0 : FVec Ideal S8192x5632 .bf16 := m ((c.tc : Thread nD τ).loc main_arg0)
abbrev a1 : FVec Ideal S2048x5632 .bf16 := m ((c.tc : Thread nD τ).loc main_arg1)
abbrev a2 : FVec Ideal S8192x5632 .bf16 := m ((c.tc : Thread nD τ).loc main_arg2)
abbrev a3 : FVec Ideal S2048x5632 .bf16 := m ((c.tc : Thread nD τ).loc main_arg3)

theorem lt (t : Fin cfg0.N) : t.val < 64 := N_0 ▸ t.2
/-- The rows, columns and inner block of a grid point. -/
def row (t : Fin cfg0.N) (r : Fin 1024) : Fin 8192 := blkAt r8 ⟨t.val / 8, by have := lt t; omega⟩ r
def col (t : Fin cfg0.N) (s : Fin 1024) : Fin 2048 := blkAt c2 ⟨t.val / 4 % 2, by omega⟩ s
def inn (t : Fin cfg0.N) (j : Fin 1408) : Fin 5632 := blkAt k1408 ⟨t.val % 4, by omega⟩ j

theorem blk0 (t : Fin cfg0.N) (r : Fin 1024) (j : Fin 1408) : iblk m c 0 t (ix2 r j) = a0 m c (ix2 (row t r) (inn t j)) := by
  unfold row inn blkAt
  blk_ext [iblk, (idx t).1.1]
theorem blk1 (t : Fin cfg0.N) (s : Fin 1024) (j : Fin 1408) : iblk m c 1 t (ix2 s j) = a1 m c (ix2 (col t s) (inn t j)) := by
  unfold col inn blkAt
  blk_ext [iblk, (idx t).1.2]
theorem blk2 (t : Fin cfg0.N) (r : Fin 1024) (j : Fin 1408) : iblk m c 2 t (ix2 r j) = a2 m c (ix2 (row t r) (inn t j)) := by
  unfold row inn blkAt
  blk_ext [iblk, (idx t).2.1.1]
theorem blk3 (t : Fin cfg0.N) (s : Fin 1024) (j : Fin 1408) : iblk m c 3 t (ix2 s j) = a3 m c (ix2 (col t s) (inn t j)) := by
  unfold col inn blkAt
  blk_ext [iblk, (idx t).2.1.2]

/-- One block's part of an entry. -/
def part (x : Fin 8192) (y : Fin 2048) (p : Fin 4) : EReal :=
  (∑ j : Fin 1408, a0 m c (ix2 x (blkAt k1408 p j)) * a1 m c (ix2 y (blkAt k1408 p j))) + ∑ j : Fin 1408, a2 m c (ix2 x (blkAt k1408 p j)) * a3 m c (ix2 y (blkAt k1408 p j))

/-- The two products' sum, entry by entry. -/
def prod (x : Fin 8192) (y : Fin 2048) : EReal :=
  (∑ k : Fin 5632, a0 m c (ix2 x k) * a1 m c (ix2 y k)) + ∑ k : Fin 5632, a2 m c (ix2 x k) * a3 m c (ix2 y k)

theorem sum_part (x : Fin 8192) (y : Fin 2048) : (∑ p, part m c x y p) = prod m c x y := by
  unfold part prod
  rw [Finset.sum_add_distrib, sum_blocks k1408 fun k => a0 m c (ix2 x k) * a1 m c (ix2 y k), sum_blocks k1408 fun k => a2 m c (ix2 x k) * a3 m c (ix2 y k)]

theorem two_part (t : Fin cfg0.N) (r s : Fin 1024) :
    two (iblk m c 0 t) (iblk m c 1 t) (iblk m c 2 t) (iblk m c 3 t) r s = part m c (row t r) (col t s) ⟨t.val % 4, by omega⟩ := by
  unfold two part
  simp only [blk0, blk1, blk2, blk3]
  rfl

theorem row_eq (t u : Fin cfg0.N) (h : u.val / 8 = t.val / 8) (r : Fin 1024) : row u r = row t r := by
  unfold row; simp only [h]
theorem col_eq (t u : Fin cfg0.N) (h : u.val / 4 % 2 = t.val / 4 % 2) (s : Fin 1024) : col u s = col t s := by
  unfold col; simp only [h]

theorem pred_lt (t : Fin cfg0.N) : t.val - 1 < cfg0.N := Nat.lt_of_le_of_lt (Nat.sub_le _ _) t.isLt

theorem first (t : Fin cfg0.N) (h : t.val % 4 = 0) (r s : Fin 1024) :
    (outsAt0 m c t.val t.isLt).2 (ix2 r s) = part m c (row t r) (col t s) 0 := by
  rw [outsAt0_A m c t h (by omega)]
  dsimp only
  rw [acc_A, two_part]
  simp only [h]
  rfl

theorem next (t : Fin cfg0.N) (h0 : ¬t.val % 4 = 0) (h3 : ¬t.val % 4 = 3) (r s : Fin 1024) :
    (outsAt0 m c t.val t.isLt).2 (ix2 r s) = (outsAt0 m c (t.val - 1) (pred_lt t)).2 (ix2 r s) + part m c (row t r) (col t s) ⟨t.val % 4, by omega⟩ := by
  rw [outsAt0_B m c t h0 h3]
  dsimp only
  rw [acc_B, two_part]

theorem last (t : Fin cfg0.N) (h3 : t.val % 4 = 3) (r s : Fin 1024) :
    (outsAt0 m c t.val t.isLt).1 (ix2 r s) = (outsAt0 m c (t.val - 1) (pred_lt t)).2 (ix2 r s) + part m c (row t r) (col t s) 3 := by
  rw [outsAt0_C m c t (by omega) h3]
  dsimp only
  rw [out_C, two_part]
  simp only [h3]
  rfl

/-- What the last point of a block's run leaves in the output block. -/
theorem pt (t : Fin cfg0.N) (h : t.val % 4 = 3) (r s : Fin 1024) :
    (outsAt0 m c t.val t.isLt).1 (ix2 r s) = prod m c (row t r) (col t s) := by
  have ht := lt t
  obtain ⟨u2, h2⟩ : ∃ u : Fin cfg0.N, u.val = t.val - 1 := ⟨⟨t.val - 1, pred_lt t⟩, rfl⟩
  obtain ⟨u1, h1⟩ : ∃ u : Fin cfg0.N, u.val = u2.val - 1 := ⟨⟨u2.val - 1, pred_lt u2⟩, rfl⟩
  obtain ⟨u0, h0⟩ : ∃ u : Fin cfg0.N, u.val = u1.val - 1 := ⟨⟨u1.val - 1, pred_lt u1⟩, rfl⟩
  have e3 := last m c t h r s
  have e2 := next m c u2 (by omega) (by omega) r s
  have e1 := next m c u1 (by omega) (by omega) r s
  have e0 := first m c u0 (by omega) r s
  simp only [← h2] at e3
  simp only [← h1] at e2
  simp only [← h0] at e1
  rw [e3, e2, e1, e0, ← sum_part, Fin.sum_univ_four,
    row_eq t u2 (by omega), row_eq t u1 (by omega), row_eq t u0 (by omega), col_eq t u2 (by omega), col_eq t u1 (by omega), col_eq t u0 (by omega)]
  simp only [show u2.val % 4 = 2 by omega, show u1.val % 4 = 1 by omega]
  rfl

/-- The output array. -/
theorem arr : (dats m 0 c).arrAt 4 cfg0.N = fun y : S8192x2048.Idx => prod m c (y 0) (y 1) := by
  refine (dats m 0 c).arrAt_eq_of_covers 4 _ cov fun t hf y => ?_
  obtain ⟨r, s, rfl⟩ : ∃ (r s : Fin 1024), y = ix2 r s := ⟨y 0, y 1, eq_ix2 y⟩
  have e0 : (((cfg0.win 4).blk t).view.emb (ix2 r s)) = ix2 (row t r) (col t s) := by
    unfold row col blkAt
    blk_ext [(idx t).2.2]
  rw [e0]
  blk_simp
  rw [after0_4]
  exact pt m c t ((flush0_4 t).mp hf) r s

end Cert.Dffn
-- ==== Proof.SameDffn.lean ====
/-
  The gradient of the SwiGLU block's input and its plain formula are the same array.
-/
module
public import proofs.«01_k».proof.Proof.Dffn
public import proofs.«01_k».proof.Proof.Gen.Reference4Ideal.Run
public import proofs.«01_k».proof.Defs

@[expose] public section
set_option maxRecDepth 16384
noncomputable section
namespace Cert.Dffn
open Idealize.ShloMosaic Idealize.ShloMosaic.TcCoe Idealize.ShloMosaic.Tactic
open Idealize.SL Idealize.SL.Sem
open scoped BigOperators

section
open Cert.Reference4Ideal Cert.Reference4Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, funext fun s => by
    have e : IsEmpty (SemLoc sig) := ⟨by decide⟩
    exact e.elim s.2⟩) (Value.run m ρ)
end

/-- The two programs return the same array. -/
theorem same : Cert.algebraic_Kernel4Ideal_Reference4Ideal := by
  intro m ρ m' ρ' _ hm
  refine ⟨fun c => fun y : Cert.Kernel4Ideal.S8192x2048.Idx => prod m c (y 0) (y 1), ?_, ?_⟩
  · refine (θ_run Cert.Kernel4Ideal.defs _ _).mono (fun r h c => ?_) (Cert.Kernel4Ideal.Value.run_blocks (F := Ideal) m ρ)
    exact ⟨(h c).1.trans (arr m c), (h c).2⟩
  · refine (θ_run Cert.Reference4Ideal.defs _ _).mono (fun r h c => ?_) (Cert.Reference4Ideal.Value.run (F := Ideal) m' ρ')
    refine ⟨(h c).1.trans ?_, (h c).2⟩
    rw [(hm c).1, (hm c).2.1, (hm c).2.2.1, (hm c).2.2.2]
    funext y
    obtain ⟨i, j, rfl⟩ : ∃ (i : Fin 8192) (j : Fin 2048), y = ix2 i j := ⟨y 0, y 1, eq_ix2 y⟩
    show _ = prod m c i j
    unfold prod
    rw [add_comm]
    pointwise

end Cert.Dffn
end
-- ==== Proof.WDown.lean ====
/-
  The gradient of the SwiGLU block's second weight: what the call's output array holds after all 32 grid points.
  Point `t` works on rows `1408 * (t / 8) …`, on columns `1024 * (t / 4 % 2) …` and on block `t % 4` of the tokens.
-/
module
public import proofs.«01_k».proof.Proof.Gen.Kernel5Ideal.Frame
public import proofs.«01_k».proof.Proof.Blocks
public import Idealize.ShloMosaic.Lib.Tactic
public import Idealize.ShloMosaic.Lib.Pipeline.ValueKit

@[expose] public section
set_option maxRecDepth 16384
noncomputable section
namespace Cert.WDown
open Idealize.ShloMosaic Idealize.ShloMosaic.TcCoe Idealize.ShloMosaic.Tactic
open Idealize.SL Idealize.SL.Sem
open Cert.Kernel5Ideal Cert.Kernel5Ideal.Gen Cert.Ffn
open scoped BigOperators

theorem k2048 : 4 * 2048 = 8192 := by decide
theorem rN : 4 * 1408 = 5632 := by decide
theorem cN : 2 * 1024 = 2048 := by decide

section
variable (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1x1x1408x1024 .f32) (harg5 : arg5.IsWhole) (arg6 : Memref sig .tc .vmem S1408x1024 .f32) (harg6 : arg6.IsWhole)
  (x0 : Vec Ideal S2048x1408 .bf16) (x1 : Vec Ideal S2048x1024 .bf16) (x2 : Vec Ideal S1408x1024 .f32) (r : Fin 1408) (s : Fin 1024)

theorem zero4 : (![0, 0, 0, 0] : Fin 4 → Nat) = fun _ => 0 := funext fun a => by fin_cases a <;> rfl

/-- One block's part of the product. -/
def one : EReal := ∑ j : Fin 2048, x0 (ix2 j r) * x1 (ix2 j s)

/-- The accumulator after the first block. -/
theorem acc_A (hc0 : cond0_0 i) (hc1 : ¬cond0_1 i) :
    sout0_A_0 c i arg3 harg3 arg4 harg4 arg5 harg5 arg6 harg6 hc0 hc1 x0 x1 (ix2 r s) = one x0 x1 r s := by
  unfold sout0_A_0 one
  rw [View.read_writes_eq_canon _ _ _ (scover0_A_0 c i arg3 harg3 arg4 harg4 arg5 harg5 arg6 harg6 hc0 hc1 x0 x1)]
  unfold kernelRun0_A; dsimp only; sl_unfold_words
  rw [View.canon_cons_unit_zero zero2]
  simp only [View.readAt_eq_ld, harg3.read_unread, harg4.read_unread]
  simp only [View.ld_unit_zero (S := S2048x1408) zero2, View.ld_unit_zero (S := S2048x1024) zero2, readCov_all (S := S1408x1024) _ _ zero2, View.canon_unit_zero (S := S1408x1024) zero2]
  unfold k0_pay2 k0_pay1
  pointwise

/-- The accumulator after a later block. -/
theorem acc_B (hc0 : ¬cond0_0 i) (hc1 : ¬cond0_1 i) :
    sout0_B_0 c i arg3 harg3 arg4 harg4 arg5 harg5 arg6 harg6 hc0 hc1 x0 x1 x2 (ix2 r s) = x2 (ix2 r s) + one x0 x1 r s := by
  unfold sout0_B_0 one
  rw [View.read_writes_eq_canon _ _ _ (scover0_B_0 c i arg3 harg3 arg4 harg4 arg5 harg5 arg6 harg6 hc0 hc1 x0 x1 x2)]
  unfold kernelRun0_B; dsimp only; sl_unfold_words
  rw [View.canon_cons_unit_zero zero2]
  simp only [View.readAt_eq_ld, harg3.read_unread, harg4.read_unread, harg6.read_unread]
  simp only [View.ld_unit_zero (S := S2048x1408) zero2, View.ld_unit_zero (S := S2048x1024) zero2, View.ld_unit_zero (S := S1408x1024) zero2]
  unfold k0_pay2
  pointwise

/-- The output block after the last block. -/
theorem out_C (hc0 : ¬cond0_0 i) (hc1 : cond0_1 i) (u v : Fin 1) :
    out0_C_2 c i arg3 harg3 arg4 harg4 arg5 harg5 arg6 harg6 hc0 hc1 x0 x1 x2 (ix4 u v r s) = x2 (ix2 r s) + one x0 x1 r s := by
  unfold out0_C_2 one
  rw [View.read_writes_eq_canon _ _ _ (cover0_C_2 c i arg3 harg3 arg4 harg4 arg5 harg5 arg6 harg6 hc0 hc1 x0 x1 x2)]
  unfold kernelRun0_C; dsimp only; sl_unfold_words
  rw [View.canon_cons_unit_zero zero4]
  simp only [View.readAt_eq_ld, harg3.read_unread, harg4.read_unread, harg6.read_unread]
  simp only [View.ld_unit_zero (S := S2048x1408) zero2, View.ld_unit_zero (S := S2048x1024) zero2, View.ld_unit_zero (S := S1408x1024) zero2, readCov_all (S := S1408x1024) _ _ zero2, View.canon_unit_zero (S := S1408x1024) zero2]
  unfold k0_pay3 k0_pay2
  pointwise
end

theorem idx : ∀ t : Fin cfg0.N, (win0_0.index t = ![t.val % 4, t.val / 8] ∧ win0_1.index t = ![t.val % 4, t.val / 4 % 2])
    ∧ win0_2.index t = ![1, t.val / 8, 1, t.val / 4 % 2] := by
  decide +kernel

variable (m : (ℓ : Loc nD τ sig) → Buf (Elt Ideal) ℓ) (c : Dev nD)

/-- The arguments as arrays. -/
abbrev a0 : FVec Ideal S8192x5632 .bf16 := m ((c.tc : Thread nD τ).loc main_arg0)
abbrev a1 : FVec Ideal S8192x2048 .bf16 := m ((c.tc : Thread nD τ).loc main_arg1)

theorem lt (t : Fin cfg0.N) : t.val < 32 := N_0 ▸ t.2
/-- The rows, columns and inner block of a grid point. -/
def row (t : Fin cfg0.N) (r : Fin 1408) : Fin 5632 := blkAt rN ⟨t.val / 8, by have := lt t; omega⟩ r
def col (t : Fin cfg0.N) (s : Fin 1024) : Fin 2048 := blkAt cN ⟨t.val / 4 % 2, by omega⟩ s
def inn (t : Fin cfg0.N) (j : Fin 2048) : Fin 8192 := blkAt k2048 ⟨t.val % 4, by omega⟩ j

theorem blk0 (t : Fin cfg0.N) (j : Fin 2048) (r : Fin 1408) : iblk m c 0 t (ix2 j r) = a0 m c (ix2 (inn t j) (row t r)) := by
  unfold row inn blkAt
  blk_ext [iblk, (idx t).1.1]
theorem blk1 (t : Fin cfg0.N) (j : Fin 2048) (s : Fin 1024) : iblk m c 1 t (ix2 j s) = a1 m c (ix2 (inn t j) (col t s)) := by
  unfold col inn blkAt
  blk_ext [iblk, (idx t).1.2]

/-- One block's part of an entry. -/
def part (x : Fin 5632) (y : Fin 2048) (p : Fin 4) : EReal :=
  ∑ j : Fin 2048, a0 m c (ix2 (blkAt k2048 p j) x) * a1 m c (ix2 (blkAt k2048 p j) y)

/-- The product, entry by entry. -/
def prod (x : Fin 5632) (y : Fin 2048) : EReal := ∑ k : Fin 8192, a0 m c (ix2 k x) * a1 m c (ix2 k y)

theorem sum_part (x : Fin 5632) (y : Fin 2048) : (∑ p, part m c x y p) = prod m c x y := by
  unfold part prod
  rw [sum_blocks k2048 fun k => a0 m c (ix2 k x) * a1 m c (ix2 k y)]

theorem one_part (t : Fin cfg0.N) (r : Fin 1408) (s : Fin 1024) :
    one (iblk m c 0 t) (iblk m c 1 t) r s = part m c (row t r) (col t s) ⟨t.val % 4, by omega⟩ := by
  unfold one part
  simp only [blk0, blk1]
  rfl

theorem row_eq (t u : Fin cfg0.N) (h : u.val / 8 = t.val / 8) (r : Fin 1408) : row u r = row t r := by
  unfold row; simp only [h]
theorem col_eq (t u : Fin cfg0.N) (h : u.val / 4 % 2 = t.val / 4 % 2) (s : Fin 1024) : col u s = col t s := by
  unfold col; simp only [h]

theorem pred_lt (t : Fin cfg0.N) : t.val - 1 < cfg0.N := Nat.lt_of_le_of_lt (Nat.sub_le _ _) t.isLt

theorem first (t : Fin cfg0.N) (h : t.val % 4 = 0) (r : Fin 1408) (s : Fin 1024) :
    (outsAt0 m c t.val t.isLt).2 (ix2 r s) = part m c (row t r) (col t s) 0 := by
  rw [outsAt0_A m c t h (by omega)]
  dsimp only
  rw [acc_A, one_part]
  simp only [h]
  rfl

theorem next (t : Fin cfg0.N) (h0 : ¬t.val % 4 = 0) (h3 : ¬t.val % 4 = 3) (r : Fin 1408) (s : Fin 1024) :
    (outsAt0 m c t.val t.isLt).2 (ix2 r s) = (outsAt0 m c (t.val - 1) (pred_lt t)).2 (ix2 r s) + part m c (row t r) (col t s) ⟨t.val % 4, by omega⟩ := by
  rw [outsAt0_B m c t h0 h3]
  dsimp only
  rw [acc_B, one_part]

theorem last (t : Fin cfg0.N) (h3 : t.val % 4 = 3) (r : Fin 1408) (s : Fin 1024) (u v : Fin 1) :
    (outsAt0 m c t.val t.isLt).1 (ix4 u v r s) = (outsAt0 m c (t.val - 1) (pred_lt t)).2 (ix2 r s) + part m c (row t r) (col t s) 3 := by
  rw [outsAt0_C m c t (by omega) h3]
  dsimp only
  rw [out_C, one_part]
  simp only [h3]
  rfl

/-- What the last point of a block's run leaves in the output block. -/
theorem pt (t : Fin cfg0.N) (h : t.val % 4 = 3) (r : Fin 1408) (s : Fin 1024) (u v : Fin 1) :
    (outsAt0 m c t.val t.isLt).1 (ix4 u v r s) = prod m c (row t r) (col t s) := by
  have ht := lt t
  obtain ⟨u2, h2⟩ : ∃ u : Fin cfg0.N, u.val = t.val - 1 := ⟨⟨t.val - 1, pred_lt t⟩, rfl⟩
  obtain ⟨u1, h1⟩ : ∃ u : Fin cfg0.N, u.val = u2.val - 1 := ⟨⟨u2.val - 1, pred_lt u2⟩, rfl⟩
  obtain ⟨u0, h0⟩ : ∃ u : Fin cfg0.N, u.val = u1.val - 1 := ⟨⟨u1.val - 1, pred_lt u1⟩, rfl⟩
  have e3 := last m c t h r s u v
  have e2 := next m c u2 (by omega) (by omega) r s
  have e1 := next m c u1 (by omega) (by omega) r s
  have e0 := first m c u0 (by omega) r s
  simp only [← h2] at e3
  simp only [← h1] at e2
  simp only [← h0] at e1
  rw [e3, e2, e1, e0, ← sum_part, Fin.sum_univ_four,
    row_eq t u2 (by omega), row_eq t u1 (by omega), row_eq t u0 (by omega), col_eq t u2 (by omega), col_eq t u1 (by omega), col_eq t u0 (by omega)]
  simp only [show u2.val % 4 = 2 by omega, show u1.val % 4 = 1 by omega]
  rfl

/-- The layer's slot of the output array, as one function of the array's places. -/
def slot : Buf (Elt Ideal) (((cfg0.win 2).arr.view.loc (c.tc : Thread nD τ))) := fun y : S2x4x2816x2048.Idx => (prod m c ⟨(1408 * (y 1).val + (y 2).val - 1408) % 5632, Nat.mod_lt _ (by omega)⟩ (y 3) : EReal)

theorem emb (t : Fin cfg0.N) (r : Fin 1408) (s : Fin 1024) (u v : Fin 1) :
    ((cfg0.win 2).blk t).view.emb (ix4 u v r s) = ix4 (1 : Fin 2) (⟨t.val / 8, by have := lt t; omega⟩ : Fin 4) (⟨1408 + r.val, by have := r.2; omega⟩ : Fin 2816) (col t s) := by
  unfold col blkAt
  blk_ext [(idx t).2]

theorem flushed (t : Fin cfg0.N) (hf : (cfg0.win 2).flush t = true) :
    (dats m 0 c).flushed 2 t = ((cfg0.win 2).blk t).view.read (Elt Ideal) (slot m c) := by
  funext y
  obtain ⟨u, v, r, s, rfl⟩ : ∃ (u v : Fin 1) (r : Fin 1408) (s : Fin 1024), y = ix4 u v r s := ⟨y 0, y 1, y 2, y 3, eq_ix4 y⟩
  have e0 : ((cfg0.win 2).blk t).view.read (Elt Ideal) (slot m c) (ix4 u v r s) = prod m c (row t r) (col t s) := by
    show slot m c (((cfg0.win 2).blk t).view.emb (ix4 u v r s)) = _
    rw [emb]
    show prod m c _ _ = _
    congr 1
    refine Fin.ext ?_
    show (1408 * (t.val / 8) + (1408 + r.val) - 1408) % 5632 = 1408 * (t.val / 8) + r.val
    have := lt t
    have := r.2
    omega
  rw [e0]
  blk_simp
  rw [after0_2]
  exact pt m c t ((flush0_2 t).mp hf) r s u v

/-- The output array at the layer's slot. -/
theorem arr (p : Fin 4) (r : Fin 1408) (y : Fin 2048) :
    ((dats m 0 c).arrAt 2 cfg0.N : FVec Ideal S2x4x2816x2048 .f32) (ix4 (1 : Fin 2) p (⟨1408 + r.val, by have := r.2; omega⟩ : Fin 2816) y) = prod m c (blkAt rN p r) y := by
  obtain ⟨q, s, rfl⟩ := exists_blk cN y
  obtain ⟨t, ht⟩ : ∃ t : Fin cfg0.N, t.val = 8 * p.val + 4 * q.val + 3 := ⟨⟨8 * p.val + 4 * q.val + 3, by have e : cfg0.N = 32 := N_0; omega⟩, rfl⟩
  have he := emb t r s 0 0
  have e1 : (⟨t.val / 8, by have := lt t; omega⟩ : Fin 4) = p := Fin.ext (by show t.val / 8 = p.val; omega)
  have e2 : col t s = blkAt cN q s := by unfold col; congr 1; exact Fin.ext (by show t.val / 4 % 2 = q.val; omega)
  rw [e1, e2] at he
  have h := (dats m 0 c).arrAt_apply_of_mem 2 (slot m c) (flushed m c) cfg0.N t (((cfg0.win 2).blk t).view.emb (ix4 0 0 r s)) t.2
    ((flush0_2 t).mpr (by omega)) (View.emb_mem_set _ _)
  rw [he] at h
  refine h.trans ?_
  show prod m c _ _ = _
  congr 1
  refine Fin.ext ?_
  show (1408 * p.val + (1408 + r.val) - 1408) % 5632 = 1408 * p.val + r.val
  omega

end Cert.WDown
-- ==== Proof.SameWDown.lean ====
/-
  The gradient of the SwiGLU block's second weight and its plain formula are the same array.
-/
module
public import proofs.«01_k».proof.Proof.WDown
public import proofs.«01_k».proof.Proof.Gen.Reference5Ideal.Run
public import Idealize.ShloMosaic.Lib.Claim
public import proofs.«01_k».proof.Defs

@[expose] public section
set_option maxRecDepth 16384
noncomputable section
namespace Cert.WDown
open Idealize.ShloMosaic Idealize.ShloMosaic.TcCoe Idealize.ShloMosaic.Tactic
open Idealize.SL Idealize.SL.Sem Cert.Ffn
open scoped BigOperators

section
open Cert.Reference5Ideal Cert.Reference5Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, funext fun s => by
    have e : IsEmpty (SemLoc sig) := ⟨by decide⟩
    exact e.elim s.2⟩) (Value.run m ρ)
end

section
open Cert.Kernel5Ideal Cert.Kernel5Ideal.Gen
variable (m : (ℓ : Loc nD τ sig) → Buf (Elt Ideal) ℓ) (ρ : Dev nD → PrngReg) (c : Dev nD)

/-- The layer's slot cut out of the output array. -/
theorem cut (X : FVec Ideal S2x4x2816x2048 .f32) (hX : X = (dats m 0 c).arrAt 2 cfg0.N) (x : Fin 5632) (y : Fin 2048) :
    shapeCast S5632x2048 (shapeCast S4x1408x2048 (extractStridedSlice S1x4x1408x2048 ![1, 0, 1408, 0] X slices_S2x4x2816x2048_S1x4x1408x2048_1_0_1408_0 : FVec Ideal S1x4x1408x2048 .f32) shapeCasts_S1x4x1408x2048_S4x1408x2048 : FVec Ideal S4x1408x2048 .f32) shapeCasts_S4x1408x2048_S5632x2048 (ix2 x y) = prod m c x y := by
  obtain ⟨p, r, rfl⟩ := exists_blk rN x
  rw [← arr m c p r y, ← hX]
  have e1 : (blkAt rN p r).val / 1408 = p.val := by show (1408 * p.val + r.val) / 1408 = _; omega
  have e2 : (blkAt rN p r).val % 1408 = r.val := by show (1408 * p.val + r.val) % 1408 = _; omega
  pointwise
  simp only [e1, e2]

/-- The result after the run. -/
theorem res : Pipeline.afterTail₀ cfgs (dats m) 0 (V0 m) [hostOps1] c main_v3 = fun y : S5632x2048.Idx => prod m c (y 0) (y 1) := by
  funext y
  obtain ⟨i, j, rfl⟩ : ∃ (i : Fin 5632) (j : Fin 2048), y = ix2 i j := ⟨y 0, y 1, eq_ix2 y⟩
  refine Eq.trans ?_ (cut m c _ (Pipeline.withArrays_arr spec0 launch0.win.arr_inj c (V0 m c) (fun w => (dats m 0 c).arrAt w cfg0.N) 2) i j)
  unfold Pipeline.afterTail₀
  simp only [List.flatten_cons, List.flatten_nil, List.append_nil, StableHlo.after_cons, StableHlo.after_nil]
  after_results_simp
  rfl

theorem run : θ_run defs (onTc (τ := τ) (main (F := Ideal))) ⟨m, fun _ => 0, ρ⟩ fun r => ∀ c : Dev nD,
      r.2.mem ((c.tc : Thread nD τ).loc main_v3) = (fun y : S5632x2048.Idx => prod m c (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v3 (by decide)).trans (res m c), h.2 c⟩)
    (θ_run_and (run_main m ρ) (unchanged m ρ))
end

/-- The two programs return the same array. -/
theorem same : Cert.algebraic_Kernel5Ideal_Reference5Ideal := by
  intro m ρ m' ρ' _ hm
  refine ⟨fun c => fun y : Cert.Kernel5Ideal.S5632x2048.Idx => prod m c (y 0) (y 1), ?_, ?_⟩
  · exact run m ρ
  · refine (θ_run Cert.Reference5Ideal.defs _ _).mono (fun r h c => ?_) (Cert.Reference5Ideal.Value.run (F := Ideal) m' ρ')
    refine ⟨(h c).1.trans ?_, (h c).2⟩
    rw [(hm c).1, (hm c).2]
    funext y
    obtain ⟨i, j, rfl⟩ : ∃ (i : Fin 5632) (j : Fin 2048), y = ix2 i j := ⟨y 0, y 1, eq_ix2 y⟩
    show _ = prod m c i j
    unfold prod
    rw [Finset.sum_congr rfl fun k _ => mul_comm (a0 m c (ix2 k i)) (a1 m c (ix2 k j))]
    pointwise

end Cert.WDown
end
-- ==== Proof.WGate.lean ====
/-
  The gradient of the SwiGLU block's first weights: what the call's output array holds after all 32 grid points.
  Point `t` works on rows `1024 * (t / 16) …`, on columns `1408 * (t / 4 % 4) …` and on block `t % 4` of the tokens.
-/
module
public import proofs.«01_k».proof.Proof.Gen.Kernel6Ideal.Frame
public import proofs.«01_k».proof.Proof.Blocks
public import Idealize.ShloMosaic.Lib.Tactic
public import Idealize.ShloMosaic.Lib.Pipeline.ValueKit

@[expose] public section
set_option maxRecDepth 16384
noncomputable section
namespace Cert.WGate
open Idealize.ShloMosaic Idealize.ShloMosaic.TcCoe Idealize.ShloMosaic.Tactic
open Idealize.SL Idealize.SL.Sem
open Cert.Kernel6Ideal Cert.Kernel6Ideal.Gen Cert.Ffn
open scoped BigOperators

theorem k2048 : 4 * 2048 = 8192 := by decide
theorem rN : 2 * 1024 = 2048 := by decide
theorem cN : 4 * 1408 = 5632 := by decide

section
variable (c : Dev nD) (i : grid0.Coords) (arg3 : Memref sig .tc .vmem S2048x1024 .bf16) (harg3 : arg3.IsWhole) (arg4 : Memref sig .tc .vmem S2048x1408 .bf16) (harg4 : arg4.IsWhole) (arg5 : Memref sig .tc .vmem S1x1x1024x1408 .f32) (harg5 : arg5.IsWhole) (arg6 : Memref sig .tc .vmem S1024x1408 .f32) (harg6 : arg6.IsWhole)
  (x0 : Vec Ideal S2048x1024 .bf16) (x1 : Vec Ideal S2048x1408 .bf16) (x2 : Vec Ideal S1024x1408 .f32) (r : Fin 1024) (s : Fin 1408)

theorem zero4 : (![0, 0, 0, 0] : Fin 4 → Nat) = fun _ => 0 := funext fun a => by fin_cases a <;> rfl

/-- One block's part of the product. -/
def one : EReal := ∑ j : Fin 2048, x0 (ix2 j r) * x1 (ix2 j s)

/-- The accumulator after the first block. -/
theorem acc_A (hc0 : cond0_0 i) (hc1 : ¬cond0_1 i) :
    sout0_A_0 c i arg3 harg3 arg4 harg4 arg5 harg5 arg6 harg6 hc0 hc1 x0 x1 (ix2 r s) = one x0 x1 r s := by
  unfold sout0_A_0 one
  rw [View.read_writes_eq_canon _ _ _ (scover0_A_0 c i arg3 harg3 arg4 harg4 arg5 harg5 arg6 harg6 hc0 hc1 x0 x1)]
  unfold kernelRun0_A; dsimp only; sl_unfold_words
  rw [View.canon_cons_unit_zero zero2]
  simp only [View.readAt_eq_ld, harg3.read_unread, harg4.read_unread]
  simp only [View.ld_unit_zero (S := S2048x1024) zero2, View.ld_unit_zero (S := S2048x1408) zero2, readCov_all (S := S1024x1408) _ _ zero2, View.canon_unit_zero (S := S1024x1408) zero2]
  unfold k0_pay2 k0_pay1
  pointwise

/-- The accumulator after a later block. -/
theorem acc_B (hc0 : ¬cond0_0 i) (hc1 : ¬cond0_1 i) :
    sout0_B_0 c i arg3 harg3 arg4 harg4 arg5 harg5 arg6 harg6 hc0 hc1 x0 x1 x2 (ix2 r s) = x2 (ix2 r s) + one x0 x1 r s := by
  unfold sout0_B_0 one
  rw [View.read_writes_eq_canon _ _ _ (scover0_B_0 c i arg3 harg3 arg4 harg4 arg5 harg5 arg6 harg6 hc0 hc1 x0 x1 x2)]
  unfold kernelRun0_B; dsimp only; sl_unfold_words
  rw [View.canon_cons_unit_zero zero2]
  simp only [View.readAt_eq_ld, harg3.read_unread, harg4.read_unread, harg6.read_unread]
  simp only [View.ld_unit_zero (S := S2048x1024) zero2, View.ld_unit_zero (S := S2048x1408) zero2, View.ld_unit_zero (S := S1024x1408) zero2]
  unfold k0_pay2
  pointwise

/-- The output block after the last block. -/
theorem out_C (hc0 : ¬cond0_0 i) (hc1 : cond0_1 i) (u v : Fin 1) :
    out0_C_2 c i arg3 harg3 arg4 harg4 arg5 harg5 arg6 harg6 hc0 hc1 x0 x1 x2 (ix4 u v r s) = x2 (ix2 r s) + one x0 x1 r s := by
  unfold out0_C_2 one
  rw [View.read_writes_eq_canon _ _ _ (cover0_C_2 c i arg3 harg3 arg4 harg4 arg5 harg5 arg6 harg6 hc0 hc1 x0 x1 x2)]
  unfold kernelRun0_C; dsimp only; sl_unfold_words
  rw [View.canon_cons_unit_zero zero4]
  simp only [View.readAt_eq_ld, harg3.read_unread, harg4.read_unread, harg6.read_unread]
  simp only [View.ld_unit_zero (S := S2048x1024) zero2, View.ld_unit_zero (S := S2048x1408) zero2, View.ld_unit_zero (S := S1024x1408) zero2, readCov_all (S := S1024x1408) _ _ zero2, View.canon_unit_zero (S := S1024x1408) zero2]
  unfold k0_pay3 k0_pay2
  pointwise
end

theorem idx : ∀ t : Fin cfg0.N, (win0_0.index t = ![t.val % 4, t.val / 16] ∧ win0_1.index t = ![t.val % 4, t.val / 4 % 4])
    ∧ win0_2.index t = ![1, t.val / 4 % 4, 2 + t.val / 16, 0] := by
  decide +kernel

variable (m : (ℓ : Loc nD τ sig) → Buf (Elt Ideal) ℓ) (c : Dev nD)

/-- The arguments as arrays. -/
abbrev a0 : FVec Ideal S8192x2048 .bf16 := m ((c.tc : Thread nD τ).loc main_arg0)
abbrev a1 : FVec Ideal S8192x5632 .bf16 := m ((c.tc : Thread nD τ).loc main_arg1)

theorem lt (t : Fin cfg0.N) : t.val < 32 := N_0 ▸ t.2
/-- The rows, columns and inner block of a grid point. -/
def row (t : Fin cfg0.N) (r : Fin 1024) : Fin 2048 := blkAt rN ⟨t.val / 16, by have := lt t; omega⟩ r
def col (t : Fin cfg0.N) (s : Fin 1408) : Fin 5632 := blkAt cN ⟨t.val / 4 % 4, by omega⟩ s
def inn (t : Fin cfg0.N) (j : Fin 2048) : Fin 8192 := blkAt k2048 ⟨t.val % 4, by omega⟩ j

theorem blk0 (t : Fin cfg0.N) (j : Fin 2048) (r : Fin 1024) : iblk m c 0 t (ix2 j r) = a0 m c (ix2 (inn t j) (row t r)) := by
  unfold row inn blkAt
  blk_ext [iblk, (idx t).1.1]
theorem blk1 (t : Fin cfg0.N) (j : Fin 2048) (s : Fin 1408) : iblk m c 1 t (ix2 j s) = a1 m c (ix2 (inn t j) (col t s)) := by
  unfold col inn blkAt
  blk_ext [iblk, (idx t).1.2]

/-- One block's part of an entry. -/
def part (x : Fin 2048) (y : Fin 5632) (p : Fin 4) : EReal :=
  ∑ j : Fin 2048, a0 m c (ix2 (blkAt k2048 p j) x) * a1 m c (ix2 (blkAt k2048 p j) y)

/-- The product, entry by entry. -/
def prod (x : Fin 2048) (y : Fin 5632) : EReal := ∑ k : Fin 8192, a0 m c (ix2 k x) * a1 m c (ix2 k y)

theorem sum_part (x : Fin 2048) (y : Fin 5632) : (∑ p, part m c x y p) = prod m c x y := by
  unfold part prod
  rw [sum_blocks k2048 fun k => a0 m c (ix2 k x) * a1 m c (ix2 k y)]

theorem one_part (t : Fin cfg0.N) (r : Fin 1024) (s : Fin 1408) :
    one (iblk m c 0 t) (iblk m c 1 t) r s = part m c (row t r) (col t s) ⟨t.val % 4, by omega⟩ := by
  unfold one part
  simp only [blk0, blk1]
  rfl

theorem row_eq (t u : Fin cfg0.N) (h : u.val / 16 = t.val / 16) (r : Fin 1024) : row u r = row t r := by
  unfold row; simp only [h]
theorem col_eq (t u : Fin cfg0.N) (h : u.val / 4 % 4 = t.val / 4 % 4) (s : Fin 1408) : col u s = col t s := by
  unfold col; simp only [h]

theorem pred_lt (t : Fin cfg0.N) : t.val - 1 < cfg0.N := Nat.lt_of_le_of_lt (Nat.sub_le _ _) t.isLt

theorem first (t : Fin cfg0.N) (h : t.val % 4 = 0) (r : Fin 1024) (s : Fin 1408) :
    (outsAt0 m c t.val t.isLt).2 (ix2 r s) = part m c (row t r) (col t s) 0 := by
  rw [outsAt0_A m c t h (by omega)]
  dsimp only
  rw [acc_A, one_part]
  simp only [h]
  rfl

theorem next (t : Fin cfg0.N) (h0 : ¬t.val % 4 = 0) (h3 : ¬t.val % 4 = 3) (r : Fin 1024) (s : Fin 1408) :
    (outsAt0 m c t.val t.isLt).2 (ix2 r s) = (outsAt0 m c (t.val - 1) (pred_lt t)).2 (ix2 r s) + part m c (row t r) (col t s) ⟨t.val % 4, by omega⟩ := by
  rw [outsAt0_B m c t h0 h3]
  dsimp only
  rw [acc_B, one_part]

theorem last (t : Fin cfg0.N) (h3 : t.val % 4 = 3) (r : Fin 1024) (s : Fin 1408) (u v : Fin 1) :
    (outsAt0 m c t.val t.isLt).1 (ix4 u v r s) = (outsAt0 m c (t.val - 1) (pred_lt t)).2 (ix2 r s) + part m c (row t r) (col t s) 3 := by
  rw [outsAt0_C m c t (by omega) h3]
  dsimp only
  rw [out_C, one_part]
  simp only [h3]
  rfl

/-- What the last point of a block's run leaves in the output block. -/
theorem pt (t : Fin cfg0.N) (h : t.val % 4 = 3) (r : Fin 1024) (s : Fin 1408) (u v : Fin 1) :
    (outsAt0 m c t.val t.isLt).1 (ix4 u v r s) = prod m c (row t r) (col t s) := by
  have ht := lt t
  obtain ⟨u2, h2⟩ : ∃ u : Fin cfg0.N, u.val = t.val - 1 := ⟨⟨t.val - 1, pred_lt t⟩, rfl⟩
  obtain ⟨u1, h1⟩ : ∃ u : Fin cfg0.N, u.val = u2.val - 1 := ⟨⟨u2.val - 1, pred_lt u2⟩, rfl⟩
  obtain ⟨u0, h0⟩ : ∃ u : Fin cfg0.N, u.val = u1.val - 1 := ⟨⟨u1.val - 1, pred_lt u1⟩, rfl⟩
  have e3 := last m c t h r s u v
  have e2 := next m c u2 (by omega) (by omega) r s
  have e1 := next m c u1 (by omega) (by omega) r s
  have e0 := first m c u0 (by omega) r s
  simp only [← h2] at e3
  simp only [← h1] at e2
  simp only [← h0] at e1
  rw [e3, e2, e1, e0, ← sum_part, Fin.sum_univ_four,
    row_eq t u2 (by omega), row_eq t u1 (by omega), row_eq t u0 (by omega), col_eq t u2 (by omega), col_eq t u1 (by omega), col_eq t u0 (by omega)]
  simp only [show u2.val % 4 = 2 by omega, show u1.val % 4 = 1 by omega]
  rfl

/-- The layer's slot of the output array, as one function of the array's places. -/
def slot : Buf (Elt Ideal) (((cfg0.win 2).arr.view.loc (c.tc : Thread nD τ))) := fun y : S2x4x4096x1408.Idx => (prod m c ⟨((y 2).val - 2048) % 2048, Nat.mod_lt _ (by omega)⟩ (blkAt cN (y 1) (y 3)) : EReal)

theorem emb (t : Fin cfg0.N) (r : Fin 1024) (s : Fin 1408) (u v : Fin 1) :
    ((cfg0.win 2).blk t).view.emb (ix4 u v r s) = ix4 (1 : Fin 2) (⟨t.val / 4 % 4, by omega⟩ : Fin 4) (⟨2048 + (row t r).val, by have := (row t r).2; omega⟩ : Fin 4096) s := by
  unfold row blkAt
  blk_ext [(idx t).2]

theorem flushed (t : Fin cfg0.N) (hf : (cfg0.win 2).flush t = true) :
    (dats m 0 c).flushed 2 t = ((cfg0.win 2).blk t).view.read (Elt Ideal) (slot m c) := by
  funext y
  obtain ⟨u, v, r, s, rfl⟩ : ∃ (u v : Fin 1) (r : Fin 1024) (s : Fin 1408), y = ix4 u v r s := ⟨y 0, y 1, y 2, y 3, eq_ix4 y⟩
  have e0 : ((cfg0.win 2).blk t).view.read (Elt Ideal) (slot m c) (ix4 u v r s) = prod m c (row t r) (col t s) := by
    show slot m c (((cfg0.win 2).blk t).view.emb (ix4 u v r s)) = _
    rw [emb]
    show prod m c _ _ = _
    congr 1
    refine Fin.ext ?_
    show (2048 + (row t r).val - 2048) % 2048 = (row t r).val
    have := (row t r).2
    omega
  rw [e0]
  blk_simp
  rw [after0_2]
  exact pt m c t ((flush0_2 t).mp hf) r s u v

/-- The output array at the layer's slot. -/
theorem arr (p : Fin 4) (x : Fin 2048) (s : Fin 1408) :
    ((dats m 0 c).arrAt 2 cfg0.N : FVec Ideal S2x4x4096x1408 .f32) (ix4 (1 : Fin 2) p (⟨2048 + x.val, by have := x.2; omega⟩ : Fin 4096) s) = prod m c x (blkAt cN p s) := by
  obtain ⟨q, r, rfl⟩ := exists_blk rN x
  obtain ⟨t, ht⟩ : ∃ t : Fin cfg0.N, t.val = 16 * q.val + 4 * p.val + 3 := ⟨⟨16 * q.val + 4 * p.val + 3, by have e : cfg0.N = 32 := N_0; omega⟩, rfl⟩
  have he := emb t r s 0 0
  have e1 : (⟨t.val / 4 % 4, by omega⟩ : Fin 4) = p := Fin.ext (by show t.val / 4 % 4 = p.val; omega)
  have e2 : row t r = blkAt rN q r := by unfold row; congr 1; exact Fin.ext (by show t.val / 16 = q.val; omega)
  simp only [e1, e2] at he
  have h := (dats m 0 c).arrAt_apply_of_mem 2 (slot m c) (flushed m c) cfg0.N t (((cfg0.win 2).blk t).view.emb (ix4 0 0 r s)) t.2
    ((flush0_2 t).mpr (by omega)) (View.emb_mem_set _ _)
  rw [he] at h
  refine h.trans ?_
  show prod m c _ _ = _
  congr 1
  refine Fin.ext ?_
  show (2048 + (blkAt rN q r).val - 2048) % 2048 = (blkAt rN q r).val
  have := (blkAt rN q r).2
  omega

end Cert.WGate
-- ==== Proof.SameWGate.lean ====
/-
  The gradient of the SwiGLU block's first weights and its plain formula are the same array.
-/
module
public import proofs.«01_k».proof.Proof.WGate
public import proofs.«01_k».proof.Proof.Gen.Reference6Ideal.Run
public import Idealize.ShloMosaic.Lib.Claim
public import proofs.«01_k».proof.Defs

@[expose] public section
set_option maxRecDepth 16384
noncomputable section
namespace Cert.WGate
open Idealize.ShloMosaic Idealize.ShloMosaic.TcCoe Idealize.ShloMosaic.Tactic
open Idealize.SL Idealize.SL.Sem Cert.Ffn
open scoped BigOperators

section
open Cert.Reference6Ideal Cert.Reference6Ideal.Gen
/-- The plain formula has no semaphore. -/
theorem ref_frame {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2, funext fun s => by
    have e : IsEmpty (SemLoc sig) := ⟨by decide⟩
    exact e.elim s.2⟩) (Value.run m ρ)
end

section
open Cert.Kernel6Ideal Cert.Kernel6Ideal.Gen
variable (m : (ℓ : Loc nD τ sig) → Buf (Elt Ideal) ℓ) (ρ : Dev nD → PrngReg) (c : Dev nD)

/-- The layer's slot cut out of the output array. -/
theorem cut (X : FVec Ideal S2x4x4096x1408 .f32) (hX : X = (dats m 0 c).arrAt 2 cfg0.N) (x : Fin 2048) (y : Fin 5632) :
    shapeCast S2048x5632 (transpose S2048x4x1408 [1, 0, 2] (shapeCast S4x2048x1408 (extractStridedSlice S1x4x2048x1408 ![1, 0, 2048, 0] X slices_S2x4x4096x1408_S1x4x2048x1408_1_0_2048_0 : FVec Ideal S1x4x2048x1408 .f32) shapeCasts_S1x4x2048x1408_S4x2048x1408 : FVec Ideal S4x2048x1408 .f32) transposes_S4x2048x1408_S2048x4x1408_1_0_2 : FVec Ideal S2048x4x1408 .f32) shapeCasts_S2048x4x1408_S2048x5632 (ix2 x y) = prod m c x y := by
  obtain ⟨p, r, rfl⟩ := exists_blk cN y
  rw [← arr m c p x r, ← hX]
  have e1 : (blkAt cN p r).val / 1408 = p.val := by show (1408 * p.val + r.val) / 1408 = _; omega
  have e2 : (blkAt cN p r).val % 1408 = r.val := by show (1408 * p.val + r.val) % 1408 = _; omega
  pointwise
  simp only [e1, e2]

/-- The result after the run. -/
theorem res : Pipeline.afterTail₀ cfgs (dats m) 0 (V0 m) [hostOps1] c main_v4 = fun y : S2048x5632.Idx => prod m c (y 0) (y 1) := by
  funext y
  obtain ⟨i, j, rfl⟩ : ∃ (i : Fin 2048) (j : Fin 5632), y = ix2 i j := ⟨y 0, y 1, eq_ix2 y⟩
  refine Eq.trans ?_ (cut m c _ (Pipeline.withArrays_arr spec0 launch0.win.arr_inj c (V0 m c) (fun w => (dats m 0 c).arrAt w cfg0.N) 2) i j)
  unfold Pipeline.afterTail₀
  simp only [List.flatten_cons, List.flatten_nil, List.append_nil, StableHlo.after_cons, StableHlo.after_nil]
  after_results_simp
  rfl

theorem run : θ_run defs (onTc (τ := τ) (main (F := Ideal))) ⟨m, fun _ => 0, ρ⟩ fun r => ∀ c : Dev nD,
      r.2.mem ((c.tc : Thread nD τ).loc main_v4) = (fun y : S2048x5632.Idx => prod m c (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).2 main_v4 (by decide)).trans (res m c), h.2 c⟩)
    (θ_run_and (run_main m ρ) (unchanged m ρ))
end

/-- The two programs return the same array. -/
theorem same : Cert.algebraic_Kernel6Ideal_Reference6Ideal := by
  intro m ρ m' ρ' _ hm
  refine ⟨fun c => fun y : Cert.Kernel6Ideal.S2048x5632.Idx => prod m c (y 0) (y 1), ?_, ?_⟩
  · exact run m ρ
  · refine (θ_run Cert.Reference6Ideal.defs _ _).mono (fun r h c => ?_) (Cert.Reference6Ideal.Value.run (F := Ideal) m' ρ')
    refine ⟨(h c).1.trans ?_, (h c).2⟩
    rw [(hm c).1, (hm c).2]
    funext y
    obtain ⟨i, j, rfl⟩ : ∃ (i : Fin 2048) (j : Fin 5632), y = ix2 i j := ⟨y 0, y 1, eq_ix2 y⟩
    show _ = prod m c i j
    unfold prod
    rw [Finset.sum_congr rfl fun k _ => mul_comm (a0 m c (ix2 k i)) (a1 m c (ix2 k j))]
    pointwise

end Cert.WGate
end
-- ==== Proof.lean ====
/-
  The claims: the calls end with their arguments and counters as they found them, at machine formats and exactly; and
  exactly, on finite arguments where that is needed, they return what the plain formula returns.
-/
module
public import proofs.«01_k».proof.Defs
public import proofs.«01_k».proof.Proof.Gen.Kernel.Frame
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.SameNorm
public import proofs.«01_k».proof.Proof.SameLoss
public import proofs.«01_k».proof.Proof.SameMix
public import proofs.«01_k».proof.Proof.SameC
public import proofs.«01_k».proof.Proof.OGrad
public import proofs.«01_k».proof.Proof.SameEmb
public import proofs.«01_k».proof.Proof.KernelRun
public import proofs.«01_k».proof.Proof.RunTo
public import proofs.«01_k».proof.Proof.RefRun
public import proofs.«01_k».proof.Proof.Finite
public import proofs.«01_k».proof.Proof.SameGate
public import proofs.«01_k».proof.Proof.SameDown
public import proofs.«01_k».proof.Proof.SameDffn
public import proofs.«01_k».proof.Proof.SameWDown
public import proofs.«01_k».proof.Proof.SameWGate

@[expose] public section
set_option maxRecDepth 16384
noncomputable section
namespace Cert.Proof
open Idealize.ShloMosaic Idealize.ShloMosaic.TcCoe Idealize.SL Idealize.SL.Sem
open Cert.Mla

/-- The two programs return the same arrays. -/
theorem same : Cert.algebraic_KernelIdeal_ReferenceIdeal_pre_finite := by
  intro m ρ m' ρ' hpre hm
  have hq : ∀ c h i d, a0 m' c (ix2 i (col h d w192)) = (((a0 m' c (ix2 i (col h d w192))).toReal : ℝ) : EReal) := fun c h i d => by
    rw [show a0 m' c = m ((c.tc : Thread Cert.KernelIdeal.nD Cert.KernelIdeal.τ).loc Cert.KernelIdeal.main_arg0) from (hm c).1]
    exact real_of_finite _ _ (hpre c).1 i _
  have hk : ∀ c h i d, a1 m' c (ix2 i (col h d w192)) = (((a1 m' c (ix2 i (col h d w192))).toReal : ℝ) : EReal) := fun c h i d => by
    rw [show a1 m' c = m ((c.tc : Thread Cert.KernelIdeal.nD Cert.KernelIdeal.τ).loc Cert.KernelIdeal.main_arg1) from (hm c).2.1]
    exact real_of_finite _ _ (hpre c).2.1 i _
  have hv : ∀ c h i d, a2 m' c (ix2 i (vcol h d)) = (((a2 m' c (ix2 i (vcol h d))).toReal : ℝ) : EReal) := fun c h i d => by
    rw [show a2 m' c = m ((c.tc : Thread Cert.KernelIdeal.nD Cert.KernelIdeal.τ).loc Cert.KernelIdeal.main_arg2) from (hm c).2.2.1]
    exact real_of_finite _ _ (hpre c).2.2.1 i _
  have hg : ∀ c h i d, a3 m' c (ix2 i (col h d w128)) = (((a3 m' c (ix2 i (col h d w128))).toReal : ℝ) : EReal) := fun c h i d => by
    rw [show a3 m' c = m ((c.tc : Thread Cert.KernelIdeal.nD Cert.KernelIdeal.τ).loc Cert.KernelIdeal.main_arg3) from (hm c).2.2.2]
    exact real_of_finite _ _ (hpre c).2.2.2 i _
  generalize hQ : (fun (c : Dev Cert.ReferenceIdeal.nD) (h : Fin 16) (i : Fin 8192) (d : Fin 192) => (a0 m' c (ix2 i (col h d w192))).toReal) = q
  generalize hK : (fun (c : Dev Cert.ReferenceIdeal.nD) (h : Fin 16) (i : Fin 8192) (d : Fin 192) => (a1 m' c (ix2 i (col h d w192))).toReal) = k
  generalize hW : (fun (c : Dev Cert.ReferenceIdeal.nD) (h : Fin 16) (i : Fin 8192) (d : Fin 128) => (a2 m' c (ix2 i (vcol h d))).toReal) = w
  generalize hG : (fun (c : Dev Cert.ReferenceIdeal.nD) (h : Fin 16) (i : Fin 8192) (d : Fin 128) => (a3 m' c (ix2 i (col h d w128))).toReal) = g
  replace hq : ∀ c h i d, a0 m' c (ix2 i (col h d w192)) = (q c h i d : EReal) := by subst hQ; exact hq
  replace hk : ∀ c h i d, a1 m' c (ix2 i (col h d w192)) = (k c h i d : EReal) := by subst hK; exact hk
  replace hv : ∀ c h i d, a2 m' c (ix2 i (vcol h d)) = (w c h i d : EReal) := by subst hW; exact hv
  replace hg : ∀ c h i d, a3 m' c (ix2 i (col h d w128)) = (g c h i d : EReal) := by subst hG; exact hg
  have kq : ∀ (c : Dev Cert.KernelIdeal.nD) h i d, m ((c.tc : Thread Cert.KernelIdeal.nD Cert.KernelIdeal.τ).loc Cert.KernelIdeal.main_arg0) (ix2 i (col h d w192)) = (q c h i d : EReal) :=
    fun c h i d => (congrFun (hm c).1 _).symm.trans (hq c h i d)
  have kk : ∀ (c : Dev Cert.KernelIdeal.nD) h i d, m ((c.tc : Thread Cert.KernelIdeal.nD Cert.KernelIdeal.τ).loc Cert.KernelIdeal.main_arg1) (ix2 i (col h d w192)) = (k c h i d : EReal) :=
    fun c h i d => (congrFun (hm c).2.1 _).symm.trans (hk c h i d)
  have kv : ∀ (c : Dev Cert.KernelIdeal.nD) h i d, m ((c.tc : Thread Cert.KernelIdeal.nD Cert.KernelIdeal.τ).loc Cert.KernelIdeal.main_arg2) (ix2 i (vcol h d)) = (w c h i d : EReal) :=
    fun c h i d => (congrFun (hm c).2.2.1 _).symm.trans (hv c h i d)
  have kg : ∀ (c : Dev Cert.KernelIdeal.nD) h i d, m ((c.tc : Thread Cert.KernelIdeal.nD Cert.KernelIdeal.τ).loc Cert.KernelIdeal.main_arg3) (ix2 i (col h d w128)) = (g c h i d : EReal) :=
    fun c h i d => (congrFun (hm c).2.2.2 _).symm.trans (hg c h i d)
  refine ⟨fun c => heads (n := 128) 2048 p128 fun h => ov (sc (q c h) (k c h)) (w c h),
    fun c => heads (n := 192) 3072 p192 fun h => dq (sc (q c h) (k c h)) (w c h) (g c h) (k c h),
    fun c => heads (n := 192) 3072 p192 fun h => dk (sc (q c h) (k c h)) (w c h) (g c h) (q c h),
    fun c => heads (n := 128) 2048 p128 fun h => dv (sc (q c h) (k c h)) (g c h), ?_, ?_⟩
  · refine (θ_run Cert.KernelIdeal.defs _ _).mono (fun r h c => ?_) (run_to (F := Ideal) m ρ)
    obtain ⟨h0, h1, h2, h3, h4⟩ := h c
    exact ⟨h0.trans (end_o m ρ c (q c) (k c) (w c) (kq c) (kk c) (kv c)),
      h1.trans (end_dq m ρ c (q c) (k c) (w c) (g c) (kq c) (kk c) (kv c) (kg c)),
      h2.trans (end_dk m ρ c (q c) (k c) (w c) (g c) (kq c) (kk c) (kv c) (kg c)),
      h3.trans (end_dv m ρ c (q c) (k c) (w c) (g c) (kq c) (kk c) (kv c) (kg c)), h4⟩
  · refine (θ_run Cert.ReferenceIdeal.defs _ _).mono (fun r h c => ?_) (ref_run m' ρ')
    obtain ⟨h0, h1, h2, h3, h4⟩ := h c
    exact ⟨h0.trans (ref_o (hq c) (hk c) (hv c)), h1.trans (ref_dq (hq c) (hk c) (hv c) (hg c)),
      h2.trans (ref_dk (hq c) (hk c) (hv c) (hg c)), h3.trans (ref_dv (hq c) (hk c) (hg c)), h4⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Kernel14.Gen.facts,
    Cert.Kernel14Ideal.Gen.facts, Cert.Reference14Ideal.Gen.facts,
    Cert.Pre_finite.Gen.facts, Cert.Pre_finite2.Gen.facts,
    fun m ρ _ => Cert.Kernel.Gen.frame m ρ, fun m ρ _ => Cert.KernelIdeal.Gen.frame m ρ, fun m ρ _ => Cert.KernelIdeal.Gen.frame m ρ,
    fun m ρ _ => Cert.Mla.ref_frame m ρ, fun m ρ _ => Cert.Mla.ref_frame m ρ,
    fun m ρ _ => Cert.Kernel2.Gen.frame m ρ, fun m ρ _ => Cert.Kernel2Ideal.Gen.frame m ρ, fun m ρ _ => Cert.Kernel2Ideal.Gen.frame m ρ,
    fun m ρ _ => Cert.Gate.ref_frame m ρ, fun m ρ _ => Cert.Gate.ref_frame m ρ,
    fun m ρ _ => Cert.Kernel3.Gen.frame m ρ, fun m ρ _ => Cert.Kernel3Ideal.Gen.frame m ρ, fun m ρ _ => Cert.Down.ref_frame m ρ,
    fun m ρ _ => Cert.Kernel4.Gen.frame m ρ, fun m ρ _ => Cert.Kernel4Ideal.Gen.frame m ρ, fun m ρ _ => Cert.Dffn.ref_frame m ρ,
    fun m ρ _ => Cert.Kernel5.Gen.frame m ρ, fun m ρ _ => Cert.Kernel5Ideal.Gen.frame m ρ, fun m ρ _ => Cert.WDown.ref_frame m ρ,
    fun m ρ _ => Cert.Kernel6.Gen.frame m ρ, fun m ρ _ => Cert.Kernel6Ideal.Gen.frame m ρ, fun m ρ _ => Cert.WGate.ref_frame m ρ,
    fun m ρ _ => Cert.Kernel7.Gen.frame m ρ, fun m ρ _ => Cert.Kernel7Ideal.Gen.frame m ρ, fun m ρ _ => Cert.Norm.ref_frame m ρ,
    fun m ρ _ => Cert.Kernel8.Gen.frame m ρ, fun m ρ _ => Cert.Kernel8Ideal.Gen.frame m ρ, fun m ρ _ => Cert.Emb.ref_frame m ρ,
    fun m ρ _ => Cert.Kernel9.Gen.frame m ρ, fun m ρ _ => Cert.Kernel9Ideal.Gen.frame m ρ, fun m ρ _ => Cert.Loss.ref_frame m ρ,
    fun m ρ _ => Cert.Kernel10.Gen.frame m ρ, fun m ρ _ => Cert.Kernel10Ideal.Gen.frame m ρ, fun m ρ _ => Cert.Mix.ref_frame m ρ,
    fun m ρ _ => Cert.Kernel11.Gen.frame m ρ, fun m ρ _ => Cert.Kernel11Ideal.Gen.frame m ρ, fun m ρ _ => Cert.CIn.ref_frame m ρ,
    fun m ρ _ => Cert.Kernel12.Gen.frame m ρ, fun m ρ _ => Cert.Kernel12Ideal.Gen.frame m ρ, fun m ρ _ => Cert.CBack.ref_frame m ρ,
    fun m ρ _ => Cert.Kernel13.Gen.frame m ρ, fun m ρ _ => Cert.Kernel13Ideal.Gen.frame m ρ, fun m ρ _ => Cert.CGrad.ref_frame m ρ,
    fun m ρ _ => Cert.Kernel14.Gen.frame m ρ, fun m ρ _ => Cert.Kernel14Ideal.Gen.frame m ρ, fun m ρ _ => Cert.OGrad.ref_frame m ρ,
    trivial, same, trivial, Cert.Gate.same, trivial, Cert.Down.same, trivial, Cert.Dffn.same, trivial, Cert.WDown.same, trivial, Cert.WGate.same,
    trivial, Cert.Norm.same, trivial, Cert.Emb.same, trivial, Cert.Loss.same, trivial, Cert.Mix.same,
    trivial, Cert.CIn.same, trivial, Cert.CBack.same, trivial, Cert.CGrad.same, trivial, Cert.OGrad.same⟩

end Cert.Proof
end
